-- ==== Defs.lean ====
def Pre_Kernel [hPre_experts_in_table : Cert.Pre_experts_in_table.Facts] (m : (ℓ : Loc Cert.Kernel.nD Cert.Kernel.τ Cert.Kernel.sig) → Buf (Elt Bits) ℓ) : Prop :=
  ∀ c : Dev Cert.Kernel.nD,
    (Cert.Pre_experts_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_experts_in_table : Cert.Pre_experts_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_experts_and_finite [hPre_experts_and_finite : Cert.Pre_experts_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_experts_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_and_finite [hPre_experts_and_finite : Cert.Pre_experts_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_queries_and_keys_finite [hPre_queries_and_keys_finite : Cert.Pre_queries_and_keys_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_queries_and_keys_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_queries_and_keys_finite [hPre_queries_and_keys_finite : Cert.Pre_queries_and_keys_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_queries_and_keys_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel [hKernel : Cert.Kernel.Facts] [hPre_experts_in_table : Cert.Pre_experts_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_experts_in_table : Cert.Pre_experts_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_experts_and_finite [hKernelIdeal : Cert.KernelIdeal.Facts] [hPre_experts_and_finite : Cert.Pre_experts_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_experts_and_finite [hReferenceIdeal : Cert.ReferenceIdeal.Facts] [hPre_experts_and_finite : Cert.Pre_experts_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_queries_and_keys_finite [hKernel5Ideal : Cert.Kernel5Ideal.Facts] [hPre_queries_and_keys_finite : Cert.Pre_queries_and_keys_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_queries_and_keys_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_queries_and_keys_finite [hReference5Ideal : Cert.Reference5Ideal.Facts] [hPre_queries_and_keys_finite : Cert.Pre_queries_and_keys_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_queries_and_keys_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_experts_and_finite [hKernelIdeal : Cert.KernelIdeal.Facts] [hReferenceIdeal : Cert.ReferenceIdeal.Facts] [hPre_experts_and_finite : Cert.Pre_experts_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_queries_and_keys_finite [hKernel5Ideal : Cert.Kernel5Ideal.Facts] [hReference5Ideal : Cert.Reference5Ideal.Facts] [hPre_queries_and_keys_finite : Cert.Pre_queries_and_keys_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_queries_and_keys_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_in_table : Cert.Pre_experts_in_table.Facts) (hPre_experts_and_finite : Cert.Pre_experts_and_finite.Facts) (hPre_queries_and_keys_finite : Cert.Pre_queries_and_keys_finite.Facts),
    quiescent_Kernel (hKernel := hKernel) (hPre_experts_in_table := hPre_experts_in_table)
    ∧ quiescent_KernelIdeal (hKernelIdeal := hKernelIdeal) (hPre_experts_in_table := hPre_experts_in_table)
    ∧ quiescent_KernelIdeal_pre_experts_and_finite (hKernelIdeal := hKernelIdeal) (hPre_experts_and_finite := hPre_experts_and_finite)
    ∧ quiescent_ReferenceIdeal (hReferenceIdeal := hReferenceIdeal)
    ∧ quiescent_ReferenceIdeal_pre_experts_and_finite (hReferenceIdeal := hReferenceIdeal) (hPre_experts_and_finite := hPre_experts_and_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_queries_and_keys_finite (hKernel5Ideal := hKernel5Ideal) (hPre_queries_and_keys_finite := hPre_queries_and_keys_finite)
    ∧ quiescent_Reference5Ideal (hReference5Ideal := hReference5Ideal)
    ∧ quiescent_Reference5Ideal_pre_queries_and_keys_finite (hReference5Ideal := hReference5Ideal) (hPre_queries_and_keys_finite := hPre_queries_and_keys_finite)
    ∧ preserves_Kernel_KernelIdeal
    ∧ algebraic_KernelIdeal_ReferenceIdeal_pre_experts_and_finite (hKernelIdeal := hKernelIdeal) (hReferenceIdeal := hReferenceIdeal) (hPre_experts_and_finite := hPre_experts_and_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_queries_and_keys_finite (hKernel5Ideal := hKernel5Ideal) (hReference5Ideal := hReference5Ideal) (hPre_queries_and_keys_finite := hPre_queries_and_keys_finite)
-- ==== Pre_experts_and_finite.lean ====
abbrev S32768x128 : Shape := ⟨2, ![32768, 128]⟩
abbrev S32768x1024 : Shape := ⟨2, ![32768, 1024]⟩
abbrev S1024 : Shape := ⟨1, ![1024]⟩
abbrev S1x16384x1024 : Shape := ⟨3, ![1, 16384, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : IVec S32768x128 32) (main_arg1 : FVec F S32768x128 .f32) (main_arg2 : FVec F S32768x1024 .f32) (main_arg3 : FVec F S1024 .f32) (main_arg4 : IVec S1x16384x1024 16) : IVec S_ 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 16384#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  let main_c_1 : IVec S_ 1 := constantI S_ 1 1#1
  let main_v5 : IVec S_ 1 := (fun x v => Host.reduce IntOp.andi x v reducesTo_S32768x128_S_d0_1 h_S_) main_v4 main_c_1
  let main_cst : FVec F S_ .f32 := constant S_ .f32 0xFF800000#32
  let main_v6 : FVec F S32768x128 .f32 := broadcastInDim S32768x128 ![] bcast_S_S32768x128 main_cst
  let main_v7 : IVec S32768x128 1 := cmpf .ogt main_arg1 main_v6
  let main_cst_2 : FVec F S_ .f32 := constant S_ .f32 0x7F800000#32
  let main_v8 : FVec F S32768x128 .f32 := broadcastInDim S32768x128 ![] bcast_S_S32768x128 main_cst_2
  let main_v9 : IVec S32768x128 1 := cmpf .olt main_arg1 main_v8
  let main_v10 : IVec S32768x128 1 := andi main_v7 main_v9
  let main_c_3 : IVec S_ 1 := constantI S_ 1 1#1
  let main_v11 : IVec S_ 1 := (fun x v => Host.reduce IntOp.andi x v reducesTo_S32768x128_S_d0_1 h_S_) main_v10 main_c_3
  let main_v12 : IVec S_ 1 := andi main_v5 main_v11
  main_v12
-- ==== Pre_experts_in_table.lean ====
abbrev S32768x128 : Shape := ⟨2, ![32768, 128]⟩
abbrev S32768x1024 : Shape := ⟨2, ![32768, 1024]⟩
abbrev S1024 : Shape := ⟨1, ![1024]⟩
abbrev S1x16384x1024 : Shape := ⟨3, ![1, 16384, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : IVec S32768x128 32) (main_arg1 : FVec F S32768x128 .f32) (main_arg2 : FVec F S32768x1024 .f32) (main_arg3 : FVec F S1024 .f32) (main_arg4 : IVec S1x16384x1024 16) : IVec S_ 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 16384#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  let main_c_1 : IVec S_ 1 := constantI S_ 1 1#1
  let main_v5 : IVec S_ 1 := (fun x v => Host.reduce IntOp.andi x v reducesTo_S32768x128_S_d0_1 h_S_) main_v4 main_c_1
  main_v5
-- ==== Pre_queries_and_keys_finite.lean ====
abbrev S32768x2048 : Shape := ⟨2, ![32768, 2048]⟩
abbrev S1x8x2x128x128 : Shape := ⟨5, ![1, 8, 2, 128, 128]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S1x8x2x128x128 : S_.BroadcastsInDim S1x8x2x128x128 (![] : Fin 0 → Fin S1x8x2x128x128.rank)
  reducesTo_S1x8x2x128x128_S_d0_1_2_3_4 : S1x8x2x128x128.ReducesTo [0, 1, 2, 3, 4] S_

variable [Facts]

def fn {F : FTy → Type} [FloatOps F] (main_arg0 : FVec F S32768x2048 .f32) (main_arg1 : FVec F S1x8x2x128x128 .f32) : IVec S_ 1 :=
  let main_cst : FVec F S_ .f32 := constant S_ .f32 0xFF800000#32
  let main_v0 : FVec F S32768x2048 .f32 := broadcastInDim S32768x2048 ![] bcast_S_S32768x2048 main_cst
  let main_v1 : IVec S32768x2048 1 := cmpf .ogt main_arg0 main_v0
  let main_cst_0 : FVec F S_ .f32 := constant S_ .f32 0x7F800000#32
  let main_v2 : FVec F S32768x2048 .f32 := broadcastInDim S32768x2048 ![] bcast_S_S32768x2048 main_cst_0
  let main_v3 : IVec S32768x2048 1 := cmpf .olt main_arg0 main_v2
  let main_v4 : IVec S32768x2048 1 := andi main_v1 main_v3
  let main_c : IVec S_ 1 := constantI S_ 1 1#1
  let main_v5 : IVec S_ 1 := (fun x v => Host.reduce IntOp.andi x v reducesTo_S32768x2048_S_d0_1 h_S_) main_v4 main_c
  let main_cst_1 : FVec F S_ .f32 := constant S_ .f32 0xFF800000#32
  let main_v6 : FVec F S1x8x2x128x128 .f32 := broadcastInDim S1x8x2x128x128 ![] bcast_S_S1x8x2x128x128 main_cst_1
  let main_v7 : IVec S1x8x2x128x128 1 := cmpf .ogt main_arg1 main_v6
  let main_cst_2 : FVec F S_ .f32 := constant S_ .f32 0x7F800000#32
  let main_v8 : FVec F S1x8x2x128x128 .f32 := broadcastInDim S1x8x2x128x128 ![] bcast_S_S1x8x2x128x128 main_cst_2
  let main_v9 : IVec S1x8x2x128x128 1 := cmpf .olt main_arg1 main_v8
  let main_v10 : IVec S1x8x2x128x128 1 := andi main_v7 main_v9
  let main_c_3 : IVec S_ 1 := constantI S_ 1 1#1
  let main_v11 : IVec S_ 1 := (fun x v => Host.reduce IntOp.andi x v reducesTo_S1x8x2x128x128_S_d0_1_2_3_4 h_S_) main_v10 main_c_3
  let main_v12 : IVec S_ 1 := andi main_v5 main_v11
  main_v12
-- ==== Kernel.lean ====
abbrev S32768x128 : Shape := ⟨2, ![32768, 128]⟩
abbrev S32768x1024 : Shape := ⟨2, ![32768, 1024]⟩
abbrev S1024 : Shape := ⟨1, ![1024]⟩
abbrev S1x16384x1024 : Shape := ⟨3, ![1, 16384, 1024]⟩
abbrev S_ : Shape := ⟨0, ![]⟩
abbrev S16384x1024 : Shape := ⟨2, ![16384, 1024]⟩
abbrev S8192x2x1024 : Shape := ⟨3, ![8192, 2, 1024]⟩
abbrev S8192x1x1024 : Shape := ⟨3, ![8192, 1, 1024]⟩
abbrev S8192x1024 : Shape := ⟨2, ![8192, 1024]⟩
abbrev S65536x128 : Shape := ⟨2, ![65536, 128]⟩
abbrev S8x128 : Shape := ⟨2, ![8, 128]⟩
abbrev S128x2048 : Shape := ⟨2, ![128, 2048]⟩
abbrev S8x2048 : Shape := ⟨2, ![8, 2048]⟩
abbrev S128x128 : Shape := ⟨2, ![128, 128]⟩
abbrev S128x1024 : Shape := ⟨2, ![128, 1024]⟩
abbrev S1x1 : Shape := ⟨2, ![1, 1]⟩
abbrev S16x128 : Shape := ⟨2, ![16, 128]⟩
abbrev S1024x128 : Shape := ⟨2, ![1024, 128]⟩
abbrev S1024x256 : Shape := ⟨2, ![1024, 256]⟩
abbrev S1x2048 : Shape := ⟨2, ![1, 2048]⟩
abbrev S8x1024 : Shape := ⟨2, ![8, 1024]⟩
abbrev S16x1024 : Shape := ⟨2, ![16, 1024]⟩
abbrev S32x1024 : Shape := ⟨2, ![32, 1024]⟩
abbrev S32x256 : Shape := ⟨2, ![32, 256]⟩
abbrev S1x1024 : Shape := ⟨2, ![1, 1024]⟩
abbrev S1x128 : Shape := ⟨2, ![1, 128]⟩
abbrev S8 : Shape := ⟨1, ![8]⟩
abbrev S8x1 : Shape := ⟨2, ![8, 1]⟩
abbrev S1 : Shape := ⟨1, ![1]⟩

abbrev nBuf : Space → Nat
  | .hbm => 114
  | .vmem => 15
  | .smem => 2
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S32768x1024, .f32⟩
  | .hbm, ⟨3, _⟩ => ⟨S1024, .f32⟩
  | .hbm, ⟨4, _⟩ => ⟨S1x16384x1024, .i16⟩
  | .hbm, ⟨5, _⟩ => ⟨S_, .i32⟩
  | .hbm, ⟨6, _⟩ => ⟨S32768x128, .i32⟩
  | .hbm, ⟨7, _⟩ => ⟨S32768x128, .i32⟩
  | .hbm, ⟨8, _⟩ => ⟨S_, .i32⟩
  | .hbm, ⟨9, _⟩ => ⟨S32768x128, .i32⟩
  | .hbm, ⟨10, _⟩ => ⟨S32768x128, .i32⟩
  | .hbm, ⟨11, _⟩ => ⟨S_, .i32⟩
  | .hbm, ⟨12, _⟩ => ⟨S32768x128, .i32⟩
  | .hbm, ⟨13, _⟩ => ⟨S32768x128, .i32⟩
  | .hbm, ⟨14, _⟩ => ⟨S32768x128, .f32⟩
  | .hbm, ⟨15, _⟩ => ⟨S32768x128, .f32⟩
  | .hbm, ⟨16, _⟩ => ⟨S32768x128, .f32⟩
  | .hbm, ⟨17, _⟩ => ⟨S16384x1024, .i16⟩
  | .hbm, ⟨18, _⟩ => ⟨S16384x1024, .i32⟩
  | .hbm, ⟨19, _⟩ => ⟨S8192x2x1024, .i32⟩
  | .hbm, ⟨20, _⟩ => ⟨S8192x1x1024, .i32⟩
  | .hbm, ⟨21, _⟩ => ⟨S8192x1024, .i32⟩
  | .hbm, ⟨22, _⟩ => ⟨S_, .i32⟩
  | .hbm, ⟨23, _⟩ => ⟨S8192x1024, .i32⟩
  | .hbm, ⟨24, _⟩ => ⟨S8192x1024, .i32⟩
  | .hbm, ⟨25, _⟩ => ⟨S8192x1x1024, .i32⟩
  | .hbm, ⟨26, _⟩ => ⟨S8192x1024, .i32⟩
  | .hbm, ⟨27, _⟩ => ⟨S8192x1024, .i32⟩
  | .hbm, ⟨28, _⟩ => ⟨S8192x1024, .i32⟩
  | .hbm, ⟨29, _⟩ => ⟨S65536x128, .i32⟩
  | .hbm, ⟨30, _⟩ => ⟨S8x128, .f32⟩
  | .hbm, ⟨31, _⟩ => ⟨S128x2048, .i32⟩
  | .hbm, ⟨32, _⟩ => ⟨S_, .i32⟩
  | .hbm, ⟨33, _⟩ => ⟨S_, .i32⟩
  | .hbm, ⟨34, _⟩ => ⟨S128x2048, .i32⟩
  | .hbm, ⟨35, _⟩ => ⟨S128x2048, .i32⟩
  | .hbm, ⟨36, _⟩ => ⟨S128x2048, .i32⟩
  | .hbm, ⟨37, _⟩ => ⟨S_, .i32⟩
  | .hbm, ⟨38, _⟩ => ⟨S128x2048, .i32⟩
  | .hbm, ⟨39, _⟩ => ⟨S128x2048, .i1⟩
  | .hbm, ⟨40, _⟩ => ⟨S128x2048, .i32⟩
  | .hbm, ⟨41, _⟩ => ⟨S128x2048, .i32⟩
  | .hbm, ⟨42, _⟩ => ⟨S_, .i32⟩
  | .hbm, ⟨43, _⟩ => ⟨S128x2048, .i32⟩
  | .hbm, ⟨44, _⟩ => ⟨S128x2048, .i1⟩
  | .hbm, ⟨45, _⟩ => ⟨S128x2048, .i1⟩
  | .hbm, ⟨46, _⟩ => ⟨S_, .i32⟩
  | .hbm, ⟨47, _⟩ => ⟨S128x2048, .i32⟩
  | .hbm, ⟨48, _⟩ => ⟨S128x2048, .i32⟩
  | .hbm, ⟨49, _⟩ => ⟨S128x2048, .i32⟩
  | .hbm, ⟨50, _⟩ => ⟨S128x2048, .i32⟩
  | .hbm, ⟨51, _⟩ => ⟨S128x2048, .i1⟩
  | .hbm, ⟨52, _⟩ => ⟨S8x2048, .i32⟩
  | .hbm, ⟨53, _⟩ => ⟨S8x2048, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S8x2048, .i32⟩
  | .hbm, ⟨61, _⟩ => ⟨S8x2048, .i32⟩
  | .hbm, ⟨62, _⟩ => ⟨S_, .i32⟩
  | .hbm, ⟨63, _⟩ => ⟨S8x2048, .i32⟩
  | .hbm, ⟨64, _⟩ => ⟨S8x2048, .i1⟩
  | .hbm, ⟨65, _⟩ => ⟨S_, .i32⟩
  | .hbm, ⟨66, _⟩ => ⟨S8x2048, .i32⟩
  | .hbm, ⟨67, _⟩ => ⟨S8x2048, .i1⟩
  | .hbm, ⟨68, _⟩ => ⟨S_, .i32⟩
  | .hbm, ⟨69, _⟩ => ⟨S_, .i1⟩
  | .hbm, ⟨70, _⟩ => ⟨S8x2048, .i1⟩
  | .hbm, ⟨71, _⟩ => ⟨S8x2048, .i1⟩
  | .hbm, ⟨72, _⟩ => ⟨S8x2048, .i1⟩
  | .hbm, ⟨73, _⟩ => ⟨S8x2048, .i32⟩
  | .hbm, ⟨74, _⟩ => ⟨S8x2048, .i32⟩
  | .hbm, ⟨75, _⟩ => ⟨S8x2048, .i32⟩
  | .hbm, ⟨76, _⟩ => ⟨S_, .i32⟩
  | .hbm, ⟨77, _⟩ => ⟨S8x2048, .i32⟩
  | .hbm, ⟨78, _⟩ => ⟨S8x2048, .i32⟩
  | .hbm, ⟨79, _⟩ => ⟨S_, .i32⟩
  | .hbm, ⟨80, _⟩ => ⟨S8x2048, .i32⟩
  | .hbm, ⟨81, _⟩ => ⟨S8x2048, .i32⟩
  | .hbm, ⟨82, _⟩ => ⟨S8x2048, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S8x2048, .i32⟩
  | .hbm, ⟨90, _⟩ => ⟨S8x2048, .i32⟩
  | .hbm, ⟨91, _⟩ => ⟨S_, .i32⟩
  | .hbm, ⟨92, _⟩ => ⟨S8x2048, .i32⟩
  | .hbm, ⟨93, _⟩ => ⟨S8x2048, .i1⟩
  | .hbm, ⟨94, _⟩ => ⟨S_, .i32⟩
  | .hbm, ⟨95, _⟩ => ⟨S8x2048, .i32⟩
  | .hbm, ⟨96, _⟩ => ⟨S8x2048, .i1⟩
  | .hbm, ⟨97, _⟩ => ⟨S_, .i32⟩
  | .hbm, ⟨98, _⟩ => ⟨S_, .i1⟩
  | .hbm, ⟨99, _⟩ => ⟨S8x2048, .i1⟩
  | .hbm, ⟨100, _⟩ => ⟨S8x2048, .i1⟩
  | .hbm, ⟨101, _⟩ => ⟨S8x2048, .i1⟩
  | .hbm, ⟨102, _⟩ => ⟨S8x2048, .i32⟩
  | .hbm, ⟨103, _⟩ => ⟨S8x2048, .i32⟩
  | .hbm, ⟨104, _⟩ => ⟨S8x2048, .i32⟩
  | .hbm, ⟨105, _⟩ => ⟨S_, .i32⟩
  | .hbm, ⟨106, _⟩ => ⟨S8x2048, .i32⟩
  | .hbm, ⟨107, _⟩ => ⟨S8x2048, .i32⟩
  | .hbm, ⟨108, _⟩ => ⟨S8x2048, .i1⟩
  | .hbm, ⟨109, _⟩ => ⟨S128x2048, .f32⟩
  | .hbm, ⟨110, _⟩ => ⟨S128x2048, .bf16⟩
  | .hbm, ⟨111, _⟩ => ⟨S8x2048, .f32⟩
  | .hbm, ⟨112, _⟩ => ⟨S8x2048, .f32⟩
  | .hbm, ⟨113, _⟩ => ⟨S32768x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x1024, .f32⟩
  | .local _ .vmem, ⟨5, _⟩ => ⟨S128x1024, .f32⟩
  | .local _ .vmem, ⟨6, _⟩ => ⟨S8x128, .f32⟩
  | .local _ .vmem, ⟨7, _⟩ => ⟨S128x2048, .bf16⟩
  | .local _ .vmem, ⟨8, _⟩ => ⟨S8x2048, .f32⟩
  | .local _ .vmem, ⟨9, _⟩ => ⟨S8x2048, .f32⟩
  | .local _ .vmem, ⟨10, _⟩ => ⟨S65536x128, .i32⟩
  | .local _ .vmem, ⟨11, _⟩ => ⟨S128x1024, .f32⟩
  | .local _ .vmem, ⟨12, _⟩ => ⟨S128x1024, .f32⟩
  | .local _ .vmem, ⟨13, _⟩ => ⟨S128x2048, .f32⟩
  | .local _ .vmem, ⟨14, _⟩ => ⟨S128x2048, .f32⟩
  | .local _ .smem, ⟨0, _⟩ => ⟨S128x128, .i32⟩
  | .local _ .smem, ⟨1, _⟩ => ⟨S128x128, .i32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v28 : Ref sig .tc := ⟨.hbm, 75, rfl⟩
abbrev main_c_5 : Ref sig .tc := ⟨.hbm, 76, rfl⟩
abbrev main_v29 : Ref sig .tc := ⟨.hbm, 77, rfl⟩
abbrev main_v30 : Ref sig .tc := ⟨.hbm, 78, rfl⟩
abbrev main_c_6 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_c_7 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_v5 : Ref sig .tc := ⟨.hbm, 92, rfl⟩
abbrev main_call2_v6 : Ref sig .tc := ⟨.hbm, 93, rfl⟩
abbrev main_call2_c_2 : Ref sig .tc := ⟨.hbm, 94, rfl⟩
abbrev main_call2_v7 : Ref sig .tc := ⟨.hbm, 95, rfl⟩
abbrev main_call2_v8 : Ref sig .tc := ⟨.hbm, 96, rfl⟩
abbrev main_call2_c_3 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_v34 : Ref sig .tc := ⟨.hbm, 104, rfl⟩
abbrev main_c_8 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c128_i32 : BitVec 32 := 128#32
  let v32 : BitVec 32 := Scalar.addi c0_i32 c128_i32
  let c1_i32 : BitVec 32 := 1#32
  ⟨c0_i32, v32, c1_i32⟩
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let v33 : Index := Scalar.indexCast arg13
  let c0_19 : Index := 0#32
  ![v33.toNat, 0]
def k0_mult1 (v34 : BitVec 32) : BitVec 32 :=
  v34

def k0_off2 (v34 : BitVec 32) : Fin 2 → Nat :=
  let v35 : BitVec 32 := v34
  let v36 : Index := Scalar.indexCast v35
  let c0_20 : Index := 0#32
  ![v36.toNat, 0]

def k0_chk1 (v34 : BitVec 32) : Prop :=
  (8 ∣ (k0_mult1 v34).toNat) ∧
  (∀ a, (k0_off2 v34) a + S8x128.size a ≤ S65536x128.size a)
theorem k0_mult1_dvd : ∀ (v34 : BitVec 32) (k0_hw1 : k0_chk1 v34), 8 ∣ (k0_mult1 v34).toNat := fun v34 k0_hw1 => k0_hw1.1
theorem k0_off2_inb : ∀ (v34 : BitVec 32) (k0_hw1 : k0_chk1 v34), ∀ a, (k0_off2 v34) a + S8x128.size a ≤ S65536x128.size a := fun v34 k0_hw1 => k0_hw1.2

def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let v40 : Index := Scalar.indexCast arg13
  let c1 : Index := 1#32
  ![v40.toNat, 1]
def k0_mult2 (v41 : BitVec 32) : BitVec 32 :=
  v41

def k0_off4 (v41 : BitVec 32) : Fin 2 → Nat :=
  let v42 : BitVec 32 := v41
  let v43 : Index := Scalar.indexCast v42
  let c0_21 : Index := 0#32
  ![v43.toNat, 0]

def k0_chk2 (v41 : BitVec 32) : Prop :=
  (8 ∣ (k0_mult2 v41).toNat) ∧
  (∀ a, (k0_off4 v41) a + S8x128.size a ≤ S65536x128.size a)
theorem k0_mult2_dvd : ∀ (v41 : BitVec 32) (k0_hw2 : k0_chk2 v41), 8 ∣ (k0_mult2 v41).toNat := fun v41 k0_hw2 => k0_hw2.1
theorem k0_off4_inb : ∀ (v41 : BitVec 32) (k0_hw2 : k0_chk2 v41), ∀ a, (k0_off4 v41) a + S8x128.size a ≤ S65536x128.size a := fun v41 k0_hw2 => k0_hw2.2

def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let v47 : Index := Scalar.indexCast arg13
  let c2 : Index := 2#32
  ![v47.toNat, 2]
def k0_mult3 (v48 : BitVec 32) : BitVec 32 :=
  v48

def k0_off6 (v48 : BitVec 32) : Fin 2 → Nat :=
  let v49 : BitVec 32 := v48
  let v50 : Index := Scalar.indexCast v49
  let c0_22 : Index := 0#32
  ![v50.toNat, 0]

def k0_chk3 (v48 : BitVec 32) : Prop :=
  (8 ∣ (k0_mult3 v48).toNat) ∧
  (∀ a, (k0_off6 v48) a + S8x128.size a ≤ S65536x128.size a)
theorem k0_mult3_dvd : ∀ (v48 : BitVec 32) (k0_hw3 : k0_chk3 v48), 8 ∣ (k0_mult3 v48).toNat := fun v48 k0_hw3 => k0_hw3.1
theorem k0_off6_inb : ∀ (v48 : BitVec 32) (k0_hw3 : k0_chk3 v48), ∀ a, (k0_off6 v48) a + S8x128.size a ≤ S65536x128.size a := fun v48 k0_hw3 => k0_hw3.2

def k0_off7 (k0_t1 : Fin k0_t1_loop.trips) : Fin 2 → Nat :=
  let c0_i32 : BitVec 32 := 0#32
  let c1_i32 : BitVec 32 := 1#32
  let arg13 : BitVec 32 := Scf.iv c0_i32 c1_i32 k0_t1
  let v54 : Index := Scalar.indexCast arg13
  let c3 : Index := 3#32
  ![v54.toNat, 3]
def k0_mult4 (v55 : BitVec 32) : BitVec 32 :=
  v55

def k0_off8 (v55 : BitVec 32) : Fin 2 → Nat :=
  let v56 : BitVec 32 := v55
  let v57 : Index := Scalar.indexCast v56
  let c0_23 : Index := 0#32
  ![v57.toNat, 0]

def k0_chk4 (v55 : BitVec 32) : Prop :=
  (8 ∣ (k0_mult4 v55).toNat) ∧
  (∀ a, (k0_off8 v55) a + S8x128.size a ≤ S65536x128.size a)
theorem k0_mult4_dvd : ∀ (v55 : BitVec 32) (k0_hw4 : k0_chk4 v55), 8 ∣ (k0_mult4 v55).toNat := fun v55 k0_hw4 => k0_hw4.1
theorem k0_off8_inb : ∀ (v55 : BitVec 32) (k0_hw4 : k0_chk4 v55), ∀ a, (k0_off8 v55) a + S8x128.size a ≤ S65536x128.size a := fun v55 k0_hw4 => k0_hw4.2

def k0_off9 (k0_t1 : Fin k0_t1_loop.trips) : Fin 2 → Nat :=
  let c0_i32 : BitVec 32 := 0#32
  let c1_i32 : BitVec 32 := 1#32
  let arg13 : BitVec 32 := Scf.iv c0_i32 c1_i32 k0_t1
  let v61 : Index := Scalar.indexCast arg13
  let c4 : Index := 4#32
  ![v61.toNat, 4]
def k0_mult5 (v62 : BitVec 32) : BitVec 32 :=
  v62

def k0_off10 (v62 : BitVec 32) : Fin 2 → Nat :=
  let v63 : BitVec 32 := v62
  let v64 : Index := Scalar.indexCast v63
  let c0_24 : Index := 0#32
  ![v64.toNat, 0]

def k0_chk5 (v62 : BitVec 32) : Prop :=
  (8 ∣ (k0_mult5 v62).toNat) ∧
  (∀ a, (k0_off10 v62) a + S8x128.size a ≤ S65536x128.size a)
theorem k0_mult5_dvd : ∀ (v62 : BitVec 32) (k0_hw5 : k0_chk5 v62), 8 ∣ (k0_mult5 v62).toNat := fun v62 k0_hw5 => k0_hw5.1
theorem k0_off10_inb : ∀ (v62 : BitVec 32) (k0_hw5 : k0_chk5 v62), ∀ a, (k0_off10 v62) a + S8x128.size a ≤ S65536x128.size a := fun v62 k0_hw5 => k0_hw5.2

def k0_off11 (k0_t1 : Fin k0_t1_loop.trips) : Fin 2 → Nat :=
  let c0_i32 : BitVec 32 := 0#32
  let c1_i32 : BitVec 32 := 1#32
  let arg13 : BitVec 32 := Scf.iv c0_i32 c1_i32 k0_t1
  let v68 : Index := Scalar.indexCast arg13
  let c5 : Index := 5#32
  ![v68.toNat, 5]
def k0_mult6 (v69 : BitVec 32) : BitVec 32 :=
  v69

def k0_off12 (v69 : BitVec 32) : Fin 2 → Nat :=
  let v70 : BitVec 32 := v69
  let v71 : Index := Scalar.indexCast v70
  let c0_25 : Index := 0#32
  ![v71.toNat, 0]

def k0_chk6 (v69 : BitVec 32) : Prop :=
  (8 ∣ (k0_mult6 v69).toNat) ∧
  (∀ a, (k0_off12 v69) a + S8x128.size a ≤ S65536x128.size a)
theorem k0_mult6_dvd : ∀ (v69 : BitVec 32) (k0_hw6 : k0_chk6 v69), 8 ∣ (k0_mult6 v69).toNat := fun v69 k0_hw6 => k0_hw6.1
theorem k0_off12_inb : ∀ (v69 : BitVec 32) (k0_hw6 : k0_chk6 v69), ∀ a, (k0_off12 v69) a + S8x128.size a ≤ S65536x128.size a := fun v69 k0_hw6 => k0_hw6.2

def k0_off13 (k0_t1 : Fin k0_t1_loop.trips) : Fin 2 → Nat :=
  let c0_i32 : BitVec 32 := 0#32
  let c1_i32 : BitVec 32 := 1#32
  let arg13 : BitVec 32 := Scf.iv c0_i32 c1_i32 k0_t1
  let v75 : Index := Scalar.indexCast arg13
  let c6 : Index := 6#32
  ![v75.toNat, 6]
def k0_mult7 (v76 : BitVec 32) : BitVec 32 :=
  v76

def k0_off14 (v76 : BitVec 32) : Fin 2 → Nat :=
  let v77 : BitVec 32 := v76
  let v78 : Index := Scalar.indexCast v77
  let c0_26 : Index := 0#32
  ![v78.toNat, 0]

def k0_chk7 (v76 : BitVec 32) : Prop :=
  (8 ∣ (k0_mult7 v76).toNat) ∧
  (∀ a, (k0_off14 v76) a + S8x128.size a ≤ S65536x128.size a)
theorem k0_mult7_dvd : ∀ (v76 : BitVec 32) (k0_hw7 : k0_chk7 v76), 8 ∣ (k0_mult7 v76).toNat := fun v76 k0_hw7 => k0_hw7.1
theorem k0_off14_inb : ∀ (v76 : BitVec 32) (k0_hw7 : k0_chk7 v76), ∀ a, (k0_off14 v76) a + S8x128.size a ≤ S65536x128.size a := fun v76 k0_hw7 => k0_hw7.2

def k0_off15 (k0_t1 : Fin k0_t1_loop.trips) : Fin 2 → Nat :=
  let c0_i32 : BitVec 32 := 0#32
  let c1_i32 : BitVec 32 := 1#32
  let arg13 : BitVec 32 := Scf.iv c0_i32 c1_i32 k0_t1
  let v82 : Index := Scalar.indexCast arg13
  let c7 : Index := 7#32
  ![v82.toNat, 7]
def k0_mult8 (v83 : BitVec 32) : BitVec 32 :=
  v83

def k0_off16 (v83 : BitVec 32) : Fin 2 → Nat :=
  let v84 : BitVec 32 := v83
  let v85 : Index := Scalar.indexCast v84
  let c0_27 : Index := 0#32
  ![v85.toNat, 0]

def k0_chk8 (v83 : BitVec 32) : Prop :=
  (8 ∣ (k0_mult8 v83).toNat) ∧
  (∀ a, (k0_off16 v83) a + S8x128.size a ≤ S65536x128.size a)
theorem k0_mult8_dvd : ∀ (v83 : BitVec 32) (k0_hw8 : k0_chk8 v83), 8 ∣ (k0_mult8 v83).toNat := fun v83 k0_hw8 => k0_hw8.1
theorem k0_off16_inb : ∀ (v83 : BitVec 32) (k0_hw8 : k0_chk8 v83), ∀ a, (k0_off16 v83) a + S8x128.size a ≤ S65536x128.size a := fun v83 k0_hw8 => k0_hw8.2

def k0_off17 (k0_t1 : Fin k0_t1_loop.trips) : Fin 2 → Nat :=
  let c0_i32 : BitVec 32 := 0#32
  let c1_i32 : BitVec 32 := 1#32
  let arg13 : BitVec 32 := Scf.iv c0_i32 c1_i32 k0_t1
  let v89 : Index := Scalar.indexCast arg13
  let c8 : Index := 8#32
  ![v89.toNat, 8]
def k0_mult9 (v90 : BitVec 32) : BitVec 32 :=
  v90

def k0_off18 (v90 : BitVec 32) : Fin 2 → Nat :=
  let v91 : BitVec 32 := v90
  let v92 : Index := Scalar.indexCast v91
  let c0_28 : Index := 0#32
  ![v92.toNat, 0]

def k0_chk9 (v90 : BitVec 32) : Prop :=
  (8 ∣ (k0_mult9 v90).toNat) ∧
  (∀ a, (k0_off18 v90) a + S8x128.size a ≤ S65536x128.size a)
theorem k0_mult9_dvd : ∀ (v90 : BitVec 32) (k0_hw9 : k0_chk9 v90), 8 ∣ (k0_mult9 v90).toNat := fun v90 k0_hw9 => k0_hw9.1
theorem k0_off18_inb : ∀ (v90 : BitVec 32) (k0_hw9 : k0_chk9 v90), ∀ a, (k0_off18 v90) a + S8x128.size a ≤ S65536x128.size a := fun v90 k0_hw9 => k0_hw9.2

def k0_off19 (k0_t1 : Fin k0_t1_loop.trips) : Fin 2 → Nat :=
  let c0_i32 : BitVec 32 := 0#32
  let c1_i32 : BitVec 32 := 1#32
  let arg13 : BitVec 32 := Scf.iv c0_i32 c1_i32 k0_t1
  let v96 : Index := Scalar.indexCast arg13
  let c9 : Index := 9#32
  ![v96.toNat, 9]
def k0_mult10 (v97 : BitVec 32) : BitVec 32 :=
  v97

def k0_off20 (v97 : BitVec 32) : Fin 2 → Nat :=
  let v98 : BitVec 32 := v97
  let v99 : Index := Scalar.indexCast v98
  let c0_29 : Index := 0#32
  ![v99.toNat, 0]

def k0_chk10 (v97 : BitVec 32) : Prop :=
  (8 ∣ (k0_mult10 v97).toNat) ∧
  (∀ a, (k0_off20 v97) a + S8x128.size a ≤ S65536x128.size a)
theorem k0_mult10_dvd : ∀ (v97 : BitVec 32) (k0_hw10 : k0_chk10 v97), 8 ∣ (k0_mult10 v97).toNat := fun v97 k0_hw10 => k0_hw10.1
theorem k0_off20_inb : ∀ (v97 : BitVec 32) (k0_hw10 : k0_chk10 v97), ∀ a, (k0_off20 v97) a + S8x128.size a ≤ S65536x128.size a := fun v97 k0_hw10 => k0_hw10.2

def k0_off21 (k0_t1 : Fin k0_t1_loop.trips) : Fin 2 → Nat :=
  let c0_i32 : BitVec 32 := 0#32
  let c1_i32 : BitVec 32 := 1#32
  let arg13 : BitVec 32 := Scf.iv c0_i32 c1_i32 k0_t1
  let v103 : Index := Scalar.indexCast arg13
  let c10 : Index := 10#32
  ![v103.toNat, 10]
def k0_mult11 (v104 : BitVec 32) : BitVec 32 :=
  v104

def k0_off22 (v104 : BitVec 32) : Fin 2 → Nat :=
  let v105 : BitVec 32 := v104
  let v106 : Index := Scalar.indexCast v105
  let c0_30 : Index := 0#32
  ![v106.toNat, 0]

def k0_chk11 (v104 : BitVec 32) : Prop :=
  (8 ∣ (k0_mult11 v104).toNat) ∧
  (∀ a, (k0_off22 v104) a + S8x128.size a ≤ S65536x128.size a)
theorem k0_mult11_dvd : ∀ (v104 : BitVec 32) (k0_hw11 : k0_chk11 v104), 8 ∣ (k0_mult11 v104).toNat := fun v104 k0_hw11 => k0_hw11.1
theorem k0_off22_inb : ∀ (v104 : BitVec 32) (k0_hw11 : k0_chk11 v104), ∀ a, (k0_off22 v104) a + S8x128.size a ≤ S65536x128.size a := fun v104 k0_hw11 => k0_hw11.2

def k0_off23 (k0_t1 : Fin k0_t1_loop.trips) : Fin 2 → Nat :=
  let c0_i32 : BitVec 32 := 0#32
  let c1_i32 : BitVec 32 := 1#32
  let arg13 : BitVec 32 := Scf.iv c0_i32 c1_i32 k0_t1
  let v110 : Index := Scalar.indexCast arg13
  let c11 : Index := 11#32
  ![v110.toNat, 11]
def k0_mult12 (v111 : BitVec 32) : BitVec 32 :=
  v111

def k0_off24 (v111 : BitVec 32) : Fin 2 → Nat :=
  let v112 : BitVec 32 := v111
  let v113 : Index := Scalar.indexCast v112
  let c0_31 : Index := 0#32
  ![v113.toNat, 0]

def k0_chk12 (v111 : BitVec 32) : Prop :=
  (8 ∣ (k0_mult12 v111).toNat) ∧
  (∀ a, (k0_off24 v111) a + S8x128.size a ≤ S65536x128.size a)
theorem k0_mult12_dvd : ∀ (v111 : BitVec 32) (k0_hw12 : k0_chk12 v111), 8 ∣ (k0_mult12 v111).toNat := fun v111 k0_hw12 => k0_hw12.1
theorem k0_off24_inb : ∀ (v111 : BitVec 32) (k0_hw12 : k0_chk12 v111), ∀ a, (k0_off24 v111) a + S8x128.size a ≤ S65536x128.size a := fun v111 k0_hw12 => k0_hw12.2

def k0_off25 (k0_t1 : Fin k0_t1_loop.trips) : Fin 2 → Nat :=
  let c0_i32 : BitVec 32 := 0#32
  let c1_i32 : BitVec 32 := 1#32
  let arg13 : BitVec 32 := Scf.iv c0_i32 c1_i32 k0_t1
  let v117 : Index := Scalar.indexCast arg13
  let c12 : Index := 12#32
  ![v117.toNat, 12]
def k0_mult13 (v118 : BitVec 32) : BitVec 32 :=
  v118

def k0_off26 (v118 : BitVec 32) : Fin 2 → Nat :=
  let v119 : BitVec 32 := v118
  let v120 : Index := Scalar.indexCast v119
  let c0_32 : Index := 0#32
  ![v120.toNat, 0]

def k0_chk13 (v118 : BitVec 32) : Prop :=
  (8 ∣ (k0_mult13 v118).toNat) ∧
  (∀ a, (k0_off26 v118) a + S8x128.size a ≤ S65536x128.size a)
theorem k0_mult13_dvd : ∀ (v118 : BitVec 32) (k0_hw13 : k0_chk13 v118), 8 ∣ (k0_mult13 v118).toNat := fun v118 k0_hw13 => k0_hw13.1
theorem k0_off26_inb : ∀ (v118 : BitVec 32) (k0_hw13 : k0_chk13 v118), ∀ a, (k0_off26 v118) a + S8x128.size a ≤ S65536x128.size a := fun v118 k0_hw13 => k0_hw13.2

def k0_off27 (k0_t1 : Fin k0_t1_loop.trips) : Fin 2 → Nat :=
  let c0_i32 : BitVec 32 := 0#32
  let c1_i32 : BitVec 32 := 1#32
  let arg13 : BitVec 32 := Scf.iv c0_i32 c1_i32 k0_t1
  let v124 : Index := Scalar.indexCast arg13
  let c13 : Index := 13#32
  ![v124.toNat, 13]
def k0_mult14 (v125 : BitVec 32) : BitVec 32 :=
  v125

def k0_off28 (v125 : BitVec 32) : Fin 2 → Nat :=
  let v126 : BitVec 32 := v125
  let v127 : Index := Scalar.indexCast v126
  let c0_33 : Index := 0#32
  ![v127.toNat, 0]

def k0_chk14 (v125 : BitVec 32) : Prop :=
  (8 ∣ (k0_mult14 v125).toNat) ∧
  (∀ a, (k0_off28 v125) a + S8x128.size a ≤ S65536x128.size a)
theorem k0_mult14_dvd : ∀ (v125 : BitVec 32) (k0_hw14 : k0_chk14 v125), 8 ∣ (k0_mult14 v125).toNat := fun v125 k0_hw14 => k0_hw14.1
theorem k0_off28_inb : ∀ (v125 : BitVec 32) (k0_hw14 : k0_chk14 v125), ∀ a, (k0_off28 v125) a + S8x128.size a ≤ S65536x128.size a := fun v125 k0_hw14 => k0_hw14.2

def k0_off29 (k0_t1 : Fin k0_t1_loop.trips) : Fin 2 → Nat :=
  let c0_i32 : BitVec 32 := 0#32
  let c1_i32 : BitVec 32 := 1#32
  let arg13 : BitVec 32 := Scf.iv c0_i32 c1_i32 k0_t1
  let v131 : Index := Scalar.indexCast arg13
  let c14 : Index := 14#32
  ![v131.toNat, 14]
def k0_mult15 (v132 : BitVec 32) : BitVec 32 :=
  v132

def k0_off30 (v132 : BitVec 32) : Fin 2 → Nat :=
  let v133 : BitVec 32 := v132
  let v134 : Index := Scalar.indexCast v133
  let c0_34 : Index := 0#32
  ![v134.toNat, 0]

def k0_chk15 (v132 : BitVec 32) : Prop :=
  (8 ∣ (k0_mult15 v132).toNat) ∧
  (∀ a, (k0_off30 v132) a + S8x128.size a ≤ S65536x128.size a)
theorem k0_mult15_dvd : ∀ (v132 : BitVec 32) (k0_hw15 : k0_chk15 v132), 8 ∣ (k0_mult15 v132).toNat := fun v132 k0_hw15 => k0_hw15.1
theorem k0_off30_inb : ∀ (v132 : BitVec 32) (k0_hw15 : k0_chk15 v132), ∀ a, (k0_off30 v132) a + S8x128.size a ≤ S65536x128.size a := fun v132 k0_hw15 => k0_hw15.2

def k0_off31 (k0_t1 : Fin k0_t1_loop.trips) : Fin 2 → Nat :=
  let c0_i32 : BitVec 32 := 0#32
  let c1_i32 : BitVec 32 := 1#32
  let arg13 : BitVec 32 := Scf.iv c0_i32 c1_i32 k0_t1
  let v138 : Index := Scalar.indexCast arg13
  let c15 : Index := 15#32
  ![v138.toNat, 15]
def k0_mult16 (v139 : BitVec 32) : BitVec 32 :=
  v139

def k0_off32 (v139 : BitVec 32) : Fin 2 → Nat :=
  let v140 : BitVec 32 := v139
  let v141 : Index := Scalar.indexCast v140
  let c0_35 : Index := 0#32
  ![v141.toNat, 0]

def k0_chk16 (v139 : BitVec 32) : Prop :=
  (8 ∣ (k0_mult16 v139).toNat) ∧
  (∀ a, (k0_off32 v139) a + S8x128.size a ≤ S65536x128.size a)
theorem k0_mult16_dvd : ∀ (v139 : BitVec 32) (k0_hw16 : k0_chk16 v139), 8 ∣ (k0_mult16 v139).toNat := fun v139 k0_hw16 => k0_hw16.1
theorem k0_off32_inb : ∀ (v139 : BitVec 32) (k0_hw16 : k0_chk16 v139), ∀ a, (k0_off32 v139) a + S8x128.size a ≤ S65536x128.size a := fun v139 k0_hw16 => k0_hw16.2

def k0_off33 (k0_t1 : Fin k0_t1_loop.trips) : Fin 2 → Nat :=
  let c0_i32 : BitVec 32 := 0#32
  let c1_i32 : BitVec 32 := 1#32
  let arg13 : BitVec 32 := Scf.iv c0_i32 c1_i32 k0_t1
  let v145 : Index := Scalar.indexCast arg13
  let c16 : Index := 16#32
  ![v145.toNat, 16]
def k0_mult17 (v146 : BitVec 32) : BitVec 32 :=
  v146

def k0_off34 (v146 : BitVec 32) : Fin 2 → Nat :=
  let v147 : BitVec 32 := v146
  let v148 : Index := Scalar.indexCast v147
  let c0_36 : Index := 0#32
  ![v148.toNat, 0]

def k0_chk17 (v146 : BitVec 32) : Prop :=
  (8 ∣ (k0_mult17 v146).toNat) ∧
  (∀ a, (k0_off34 v146) a + S8x128.size a ≤ S65536x128.size a)
theorem k0_mult17_dvd : ∀ (v146 : BitVec 32) (k0_hw17 : k0_chk17 v146), 8 ∣ (k0_mult17 v146).toNat := fun v146 k0_hw17 => k0_hw17.1
theorem k0_off34_inb : ∀ (v146 : BitVec 32) (k0_hw17 : k0_chk17 v146), ∀ a, (k0_off34 v146) a + S8x128.size a ≤ S65536x128.size a := fun v146 k0_hw17 => k0_hw17.2

def k0_off35 (k0_t1 : Fin k0_t1_loop.trips) : Fin 2 → Nat :=
  let c0_i32 : BitVec 32 := 0#32
  let c1_i32 : BitVec 32 := 1#32
  let arg13 : BitVec 32 := Scf.iv c0_i32 c1_i32 k0_t1
  let v152 : Index := Scalar.indexCast arg13
  let c17 : Index := 17#32
  ![v152.toNat, 17]
def k0_mult18 (v153 : BitVec 32) : BitVec 32 :=
  v153

def k0_off36 (v153 : BitVec 32) : Fin 2 → Nat :=
  let v154 : BitVec 32 := v153
  let v155 : Index := Scalar.indexCast v154
  let c0_37 : Index := 0#32
  ![v155.toNat, 0]

def k0_chk18 (v153 : BitVec 32) : Prop :=
  (8 ∣ (k0_mult18 v153).toNat) ∧
  (∀ a, (k0_off36 v153) a + S8x128.size a ≤ S65536x128.size a)
theorem k0_mult18_dvd : ∀ (v153 : BitVec 32) (k0_hw18 : k0_chk18 v153), 8 ∣ (k0_mult18 v153).toNat := fun v153 k0_hw18 => k0_hw18.1
theorem k0_off36_inb : ∀ (v153 : BitVec 32) (k0_hw18 : k0_chk18 v153), ∀ a, (k0_off36 v153) a + S8x128.size a ≤ S65536x128.size a := fun v153 k0_hw18 => k0_hw18.2

def k0_off37 (k0_t1 : Fin k0_t1_loop.trips) : Fin 2 → Nat :=
  let c0_i32 : BitVec 32 := 0#32
  let c1_i32 : BitVec 32 := 1#32
  let arg13 : BitVec 32 := Scf.iv c0_i32 c1_i32 k0_t1
  let v159 : Index := Scalar.indexCast arg13
  let c18 : Index := 18#32
  ![v159.toNat, 18]
def k0_mult19 (v160 : BitVec 32) : BitVec 32 :=
  v160

def k0_off38 (v160 : BitVec 32) : Fin 2 → Nat :=
  let v161 : BitVec 32 := v160
  let v162 : Index := Scalar.indexCast v161
  let c0_38 : Index := 0#32
  ![v162.toNat, 0]

def k0_chk19 (v160 : BitVec 32) : Prop :=
  (8 ∣ (k0_mult19 v160).toNat) ∧
  (∀ a, (k0_off38 v160) a + S8x128.size a ≤ S65536x128.size a)
theorem k0_mult19_dvd : ∀ (v160 : BitVec 32) (k0_hw19 : k0_chk19 v160), 8 ∣ (k0_mult19 v160).toNat := fun v160 k0_hw19 => k0_hw19.1
theorem k0_off38_inb : ∀ (v160 : BitVec 32) (k0_hw19 : k0_chk19 v160), ∀ a, (k0_off38 v160) a + S8x128.size a ≤ S65536x128.size a := fun v160 k0_hw19 => k0_hw19.2

def k0_off39 (k0_t1 : Fin k0_t1_loop.trips) : Fin 2 → Nat :=
  let c0_i32 : BitVec 32 := 0#32
  let c1_i32 : BitVec 32 := 1#32
  let arg13 : BitVec 32 := Scf.iv c0_i32 c1_i32 k0_t1
  let v166 : Index := Scalar.indexCast arg13
  let c19 : Index := 19#32
  ![v166.toNat, 19]
def k0_mult20 (v167 : BitVec 32) : BitVec 32 :=
  v167

def k0_off40 (v167 : BitVec 32) : Fin 2 → Nat :=
  let v168 : BitVec 32 := v167
  let v169 : Index := Scalar.indexCast v168
  let c0_39 : Index := 0#32
  ![v169.toNat, 0]

def k0_chk20 (v167 : BitVec 32) : Prop :=
  (8 ∣ (k0_mult20 v167).toNat) ∧
  (∀ a, (k0_off40 v167) a + S8x128.size a ≤ S65536x128.size a)
theorem k0_mult20_dvd : ∀ (v167 : BitVec 32) (k0_hw20 : k0_chk20 v167), 8 ∣ (k0_mult20 v167).toNat := fun v167 k0_hw20 => k0_hw20.1
theorem k0_off40_inb : ∀ (v167 : BitVec 32) (k0_hw20 : k0_chk20 v167), ∀ a, (k0_off40 v167) a + S8x128.size a ≤ S65536x128.size a := fun v167 k0_hw20 => k0_hw20.2

def k0_off41 (k0_t1 : Fin k0_t1_loop.trips) : Fin 2 → Nat :=
  let c0_i32 : BitVec 32 := 0#32
  let c1_i32 : BitVec 32 := 1#32
  let arg13 : BitVec 32 := Scf.iv c0_i32 c1_i32 k0_t1
  let v173 : Index := Scalar.indexCast arg13
  let c20 : Index := 20#32
  ![v173.toNat, 20]
def k0_mult21 (v174 : BitVec 32) : BitVec 32 :=
  v174

def k0_off42 (v174 : BitVec 32) : Fin 2 → Nat :=
  let v175 : BitVec 32 := v174
  let v176 : Index := Scalar.indexCast v175
  let c0_40 : Index := 0#32
  ![v176.toNat, 0]

def k0_chk21 (v174 : BitVec 32) : Prop :=
  (8 ∣ (k0_mult21 v174).toNat) ∧
  (∀ a, (k0_off42 v174) a + S8x128.size a ≤ S65536x128.size a)
theorem k0_mult21_dvd : ∀ (v174 : BitVec 32) (k0_hw21 : k0_chk21 v174), 8 ∣ (k0_mult21 v174).toNat := fun v174 k0_hw21 => k0_hw21.1
theorem k0_off42_inb : ∀ (v174 : BitVec 32) (k0_hw21 : k0_chk21 v174), ∀ a, (k0_off42 v174) a + S8x128.size a ≤ S65536x128.size a := fun v174 k0_hw21 => k0_hw21.2

def k0_off43 (k0_t1 : Fin k0_t1_loop.trips) : Fin 2 → Nat :=
  let c0_i32 : BitVec 32 := 0#32
  let c1_i32 : BitVec 32 := 1#32
  let arg13 : BitVec 32 := Scf.iv c0_i32 c1_i32 k0_t1
  let v180 : Index := Scalar.indexCast arg13
  let c21 : Index := 21#32
  ![v180.toNat, 21]
def k0_mult22 (v181 : BitVec 32) : BitVec 32 :=
  v181

def k0_off44 (v181 : BitVec 32) : Fin 2 → Nat :=
  let v182 : BitVec 32 := v181
  let v183 : Index := Scalar.indexCast v182
  let c0_41 : Index := 0#32
  ![v183.toNat, 0]

def k0_chk22 (v181 : BitVec 32) : Prop :=
  (8 ∣ (k0_mult22 v181).toNat) ∧
  (∀ a, (k0_off44 v181) a + S8x128.size a ≤ S65536x128.size a)
theorem k0_mult22_dvd : ∀ (v181 : BitVec 32) (k0_hw22 : k0_chk22 v181), 8 ∣ (k0_mult22 v181).toNat := fun v181 k0_hw22 => k0_hw22.1
theorem k0_off44_inb : ∀ (v181 : BitVec 32) (k0_hw22 : k0_chk22 v181), ∀ a, (k0_off44 v181) a + S8x128.size a ≤ S65536x128.size a := fun v181 k0_hw22 => k0_hw22.2

def k0_off45 (k0_t1 : Fin k0_t1_loop.trips) : Fin 2 → Nat :=
  let c0_i32 : BitVec 32 := 0#32
  let c1_i32 : BitVec 32 := 1#32
  let arg13 : BitVec 32 := Scf.iv c0_i32 c1_i32 k0_t1
  let v187 : Index := Scalar.indexCast arg13
  let c22 : Index := 22#32
  ![v187.toNat, 22]
def k0_mult23 (v188 : BitVec 32) : BitVec 32 :=
  v188

def k0_off46 (v188 : BitVec 32) : Fin 2 → Nat :=
  let v189 : BitVec 32 := v188
  let v190 : Index := Scalar.indexCast v189
  let c0_42 : Index := 0#32
  ![v190.toNat, 0]

def k0_chk23 (v188 : BitVec 32) : Prop :=
  (8 ∣ (k0_mult23 v188).toNat) ∧
  (∀ a, (k0_off46 v188) a + S8x128.size a ≤ S65536x128.size a)
theorem k0_mult23_dvd : ∀ (v188 : BitVec 32) (k0_hw23 : k0_chk23 v188), 8 ∣ (k0_mult23 v188).toNat := fun v188 k0_hw23 => k0_hw23.1
theorem k0_off46_inb : ∀ (v188 : BitVec 32) (k0_hw23 : k0_chk23 v188), ∀ a, (k0_off46 v188) a + S8x128.size a ≤ S65536x128.size a := fun v188 k0_hw23 => k0_hw23.2

def k0_off47 (k0_t1 : Fin k0_t1_loop.trips) : Fin 2 → Nat :=
  let c0_i32 : BitVec 32 := 0#32
  let c1_i32 : BitVec 32 := 1#32
  let arg13 : BitVec 32 := Scf.iv c0_i32 c1_i32 k0_t1
  let v194 : Index := Scalar.indexCast arg13
  let c23 : Index := 23#32
  ![v194.toNat, 23]
def k0_mult24 (v195 : BitVec 32) : BitVec 32 :=
  v195

def k0_off48 (v195 : BitVec 32) : Fin 2 → Nat :=
  let v196 : BitVec 32 := v195
  let v197 : Index := Scalar.indexCast v196
  let c0_43 : Index := 0#32
  ![v197.toNat, 0]

def k0_chk24 (v195 : BitVec 32) : Prop :=
  (8 ∣ (k0_mult24 v195).toNat) ∧
  (∀ a, (k0_off48 v195) a + S8x128.size a ≤ S65536x128.size a)
theorem k0_mult24_dvd : ∀ (v195 : BitVec 32) (k0_hw24 : k0_chk24 v195), 8 ∣ (k0_mult24 v195).toNat := fun v195 k0_hw24 => k0_hw24.1
theorem k0_off48_inb : ∀ (v195 : BitVec 32) (k0_hw24 : k0_chk24 v195), ∀ a, (k0_off48 v195) a + S8x128.size a ≤ S65536x128.size a := fun v195 k0_hw24 => k0_hw24.2

def k0_off49 (k0_t1 : Fin k0_t1_loop.trips) : Fin 2 → Nat :=
  let c0_i32 : BitVec 32 := 0#32
  let c1_i32 : BitVec 32 := 1#32
  let arg13 : BitVec 32 := Scf.iv c0_i32 c1_i32 k0_t1
  let v201 : Index := Scalar.indexCast arg13
  let c24 : Index := 24#32
  ![v201.toNat, 24]
def k0_mult25 (v202 : BitVec 32) : BitVec 32 :=
  v202

def k0_off50 (v202 : BitVec 32) : Fin 2 → Nat :=
  let v203 : BitVec 32 := v202
  let v204 : Index := Scalar.indexCast v203
  let c0_44 : Index := 0#32
  ![v204.toNat, 0]

def k0_chk25 (v202 : BitVec 32) : Prop :=
  (8 ∣ (k0_mult25 v202).toNat) ∧
  (∀ a, (k0_off50 v202) a + S8x128.size a ≤ S65536x128.size a)
theorem k0_mult25_dvd : ∀ (v202 : BitVec 32) (k0_hw25 : k0_chk25 v202), 8 ∣ (k0_mult25 v202).toNat := fun v202 k0_hw25 => k0_hw25.1
theorem k0_off50_inb : ∀ (v202 : BitVec 32) (k0_hw25 : k0_chk25 v202), ∀ a, (k0_off50 v202) a + S8x128.size a ≤ S65536x128.size a := fun v202 k0_hw25 => k0_hw25.2

def k0_off51 (k0_t1 : Fin k0_t1_loop.trips) : Fin 2 → Nat :=
  let c0_i32 : BitVec 32 := 0#32
  let c1_i32 : BitVec 32 := 1#32
  let arg13 : BitVec 32 := Scf.iv c0_i32 c1_i32 k0_t1
  let v208 : Index := Scalar.indexCast arg13
  let c25 : Index := 25#32
  ![v208.toNat, 25]
def k0_mult26 (v209 : BitVec 32) : BitVec 32 :=
  v209

def k0_off52 (v209 : BitVec 32) : Fin 2 → Nat :=
  let v210 : BitVec 32 := v209
  let v211 : Index := Scalar.indexCast v210
  let c0_45 : Index := 0#32
  ![v211.toNat, 0]

def k0_chk26 (v209 : BitVec 32) : Prop :=
  (8 ∣ (k0_mult26 v209).toNat) ∧
  (∀ a, (k0_off52 v209) a + S8x128.size a ≤ S65536x128.size a)
theorem k0_mult26_dvd : ∀ (v209 : BitVec 32) (k0_hw26 : k0_chk26 v209), 8 ∣ (k0_mult26 v209).toNat := fun v209 k0_hw26 => k0_hw26.1
theorem k0_off52_inb : ∀ (v209 : BitVec 32) (k0_hw26 : k0_chk26 v209), ∀ a, (k0_off52 v209) a + S8x128.size a ≤ S65536x128.size a := fun v209 k0_hw26 => k0_hw26.2

def k0_off53 (k0_t1 : Fin k0_t1_loop.trips) : Fin 2 → Nat :=
  let c0_i32 : BitVec 32 := 0#32
  let c1_i32 : BitVec 32 := 1#32
  let arg13 : BitVec 32 := Scf.iv c0_i32 c1_i32 k0_t1
  let v215 : Index := Scalar.indexCast arg13
  let c26 : Index := 26#32
  ![v215.toNat, 26]
def k0_mult27 (v216 : BitVec 32) : BitVec 32 :=
  v216

def k0_off54 (v216 : BitVec 32) : Fin 2 → Nat :=
  let v217 : BitVec 32 := v216
  let v218 : Index := Scalar.indexCast v217
  let c0_46 : Index := 0#32
  ![v218.toNat, 0]

def k0_chk27 (v216 : BitVec 32) : Prop :=
  (8 ∣ (k0_mult27 v216).toNat) ∧
  (∀ a, (k0_off54 v216) a + S8x128.size a ≤ S65536x128.size a)
theorem k0_mult27_dvd : ∀ (v216 : BitVec 32) (k0_hw27 : k0_chk27 v216), 8 ∣ (k0_mult27 v216).toNat := fun v216 k0_hw27 => k0_hw27.1
theorem k0_off54_inb : ∀ (v216 : BitVec 32) (k0_hw27 : k0_chk27 v216), ∀ a, (k0_off54 v216) a + S8x128.size a ≤ S65536x128.size a := fun v216 k0_hw27 => k0_hw27.2

def k0_off55 (k0_t1 : Fin k0_t1_loop.trips) : Fin 2 → Nat :=
  let c0_i32 : BitVec 32 := 0#32
  let c1_i32 : BitVec 32 := 1#32
  let arg13 : BitVec 32 := Scf.iv c0_i32 c1_i32 k0_t1
  let v222 : Index := Scalar.indexCast arg13
  let c27 : Index := 27#32
  ![v222.toNat, 27]
def k0_mult28 (v223 : BitVec 32) : BitVec 32 :=
  v223

def k0_off56 (v223 : BitVec 32) : Fin 2 → Nat :=
  let v224 : BitVec 32 := v223
  let v225 : Index := Scalar.indexCast v224
  let c0_47 : Index := 0#32
  ![v225.toNat, 0]

def k0_chk28 (v223 : BitVec 32) : Prop :=
  (8 ∣ (k0_mult28 v223).toNat) ∧
  (∀ a, (k0_off56 v223) a + S8x128.size a ≤ S65536x128.size a)
theorem k0_mult28_dvd : ∀ (v223 : BitVec 32) (k0_hw28 : k0_chk28 v223), 8 ∣ (k0_mult28 v223).toNat := fun v223 k0_hw28 => k0_hw28.1
theorem k0_off56_inb : ∀ (v223 : BitVec 32) (k0_hw28 : k0_chk28 v223), ∀ a, (k0_off56 v223) a + S8x128.size a ≤ S65536x128.size a := fun v223 k0_hw28 => k0_hw28.2

def k0_off57 (k0_t1 : Fin k0_t1_loop.trips) : Fin 2 → Nat :=
  let c0_i32 : BitVec 32 := 0#32
  let c1_i32 : BitVec 32 := 1#32
  let arg13 : BitVec 32 := Scf.iv c0_i32 c1_i32 k0_t1
  let v229 : Index := Scalar.indexCast arg13
  let c28 : Index := 28#32
  ![v229.toNat, 28]
def k0_mult29 (v230 : BitVec 32) : BitVec 32 :=
  v230

def k0_off58 (v230 : BitVec 32) : Fin 2 → Nat :=
  let v231 : BitVec 32 := v230
  let v232 : Index := Scalar.indexCast v231
  let c0_48 : Index := 0#32
  ![v232.toNat, 0]

def k0_chk29 (v230 : BitVec 32) : Prop :=
  (8 ∣ (k0_mult29 v230).toNat) ∧
  (∀ a, (k0_off58 v230) a + S8x128.size a ≤ S65536x128.size a)
theorem k0_mult29_dvd : ∀ (v230 : BitVec 32) (k0_hw29 : k0_chk29 v230), 8 ∣ (k0_mult29 v230).toNat := fun v230 k0_hw29 => k0_hw29.1
theorem k0_off58_inb : ∀ (v230 : BitVec 32) (k0_hw29 : k0_chk29 v230), ∀ a, (k0_off58 v230) a + S8x128.size a ≤ S65536x128.size a := fun v230 k0_hw29 => k0_hw29.2

def k0_off59 (k0_t1 : Fin k0_t1_loop.trips) : Fin 2 → Nat :=
  let c0_i32 : BitVec 32 := 0#32
  let c1_i32 : BitVec 32 := 1#32
  let arg13 : BitVec 32 := Scf.iv c0_i32 c1_i32 k0_t1
  let v236 : Index := Scalar.indexCast arg13
  let c29 : Index := 29#32
  ![v236.toNat, 29]
def k0_mult30 (v237 : BitVec 32) : BitVec 32 :=
  v237

def k0_off60 (v237 : BitVec 32) : Fin 2 → Nat :=
  let v238 : BitVec 32 := v237
  let v239 : Index := Scalar.indexCast v238
  let c0_49 : Index := 0#32
  ![v239.toNat, 0]

def k0_chk30 (v237 : BitVec 32) : Prop :=
  (8 ∣ (k0_mult30 v237).toNat) ∧
  (∀ a, (k0_off60 v237) a + S8x128.size a ≤ S65536x128.size a)
theorem k0_mult30_dvd : ∀ (v237 : BitVec 32) (k0_hw30 : k0_chk30 v237), 8 ∣ (k0_mult30 v237).toNat := fun v237 k0_hw30 => k0_hw30.1
theorem k0_off60_inb : ∀ (v237 : BitVec 32) (k0_hw30 : k0_chk30 v237), ∀ a, (k0_off60 v237) a + S8x128.size a ≤ S65536x128.size a := fun v237 k0_hw30 => k0_hw30.2

def k0_off61 (k0_t1 : Fin k0_t1_loop.trips) : Fin 2 → Nat :=
  let c0_i32 : BitVec 32 := 0#32
  let c1_i32 : BitVec 32 := 1#32
  let arg13 : BitVec 32 := Scf.iv c0_i32 c1_i32 k0_t1
  let v243 : Index := Scalar.indexCast arg13
  let c30 : Index := 30#32
  ![v243.toNat, 30]
def k0_mult31 (v244 : BitVec 32) : BitVec 32 :=
  v244

def k0_off62 (v244 : BitVec 32) : Fin 2 → Nat :=
  let v245 : BitVec 32 := v244
  let v246 : Index := Scalar.indexCast v245
  let c0_50 : Index := 0#32
  ![v246.toNat, 0]

def k0_chk31 (v244 : BitVec 32) : Prop :=
  (8 ∣ (k0_mult31 v244).toNat) ∧
  (∀ a, (k0_off62 v244) a + S8x128.size a ≤ S65536x128.size a)
theorem k0_mult31_dvd : ∀ (v244 : BitVec 32) (k0_hw31 : k0_chk31 v244), 8 ∣ (k0_mult31 v244).toNat := fun v244 k0_hw31 => k0_hw31.1
theorem k0_off62_inb : ∀ (v244 : BitVec 32) (k0_hw31 : k0_chk31 v244), ∀ a, (k0_off62 v244) a + S8x128.size a ≤ S65536x128.size a := fun v244 k0_hw31 => k0_hw31.2

def k0_off63 (k0_t1 : Fin k0_t1_loop.trips) : Fin 2 → Nat :=
  let c0_i32 : BitVec 32 := 0#32
  let c1_i32 : BitVec 32 := 1#32
  let arg13 : BitVec 32 := Scf.iv c0_i32 c1_i32 k0_t1
  let v250 : Index := Scalar.indexCast arg13
  let c31 : Index := 31#32
  ![v250.toNat, 31]
def k0_mult32 (v251 : BitVec 32) : BitVec 32 :=
  v251

def k0_off64 (v251 : BitVec 32) : Fin 2 → Nat :=
  let v252 : BitVec 32 := v251
  let v253 : Index := Scalar.indexCast v252
  let c0_51 : Index := 0#32
  ![v253.toNat, 0]

def k0_chk32 (v251 : BitVec 32) : Prop :=
  (8 ∣ (k0_mult32 v251).toNat) ∧
  (∀ a, (k0_off64 v251) a + S8x128.size a ≤ S65536x128.size a)
theorem k0_mult32_dvd : ∀ (v251 : BitVec 32) (k0_hw32 : k0_chk32 v251), 8 ∣ (k0_mult32 v251).toNat := fun v251 k0_hw32 => k0_hw32.1
theorem k0_off64_inb : ∀ (v251 : BitVec 32) (k0_hw32 : k0_chk32 v251), ∀ a, (k0_off64 v251) a + S8x128.size a ≤ S65536x128.size a := fun v251 k0_hw32 => k0_hw32.2

def k0_off65 (k0_t1 : Fin k0_t1_loop.trips) : Fin 2 → Nat :=
  let c0_i32 : BitVec 32 := 0#32
  let c1_i32 : BitVec 32 := 1#32
  let arg13 : BitVec 32 := Scf.iv c0_i32 c1_i32 k0_t1
  let v257 : Index := Scalar.indexCast arg13
  let c32 : Index := 32#32
  ![v257.toNat, 32]
def k0_mult33 (v258 : BitVec 32) : BitVec 32 :=
  v258

def k0_off66 (v258 : BitVec 32) : Fin 2 → Nat :=
  let v259 : BitVec 32 := v258
  let v260 : Index := Scalar.indexCast v259
  let c0_52 : Index := 0#32
  ![v260.toNat, 0]

def k0_chk33 (v258 : BitVec 32) : Prop :=
  (8 ∣ (k0_mult33 v258).toNat) ∧
  (∀ a, (k0_off66 v258) a + S8x128.size a ≤ S65536x128.size a)
theorem k0_mult33_dvd : ∀ (v258 : BitVec 32) (k0_hw33 : k0_chk33 v258), 8 ∣ (k0_mult33 v258).toNat := fun v258 k0_hw33 => k0_hw33.1
theorem k0_off66_inb : ∀ (v258 : BitVec 32) (k0_hw33 : k0_chk33 v258), ∀ a, (k0_off66 v258) a + S8x128.size a ≤ S65536x128.size a := fun v258 k0_hw33 => k0_hw33.2

def k0_off67 (k0_t1 : Fin k0_t1_loop.trips) : Fin 2 → Nat :=
  let c0_i32 : BitVec 32 := 0#32
  let c1_i32 : BitVec 32 := 1#32
  let arg13 : BitVec 32 := Scf.iv c0_i32 c1_i32 k0_t1
  let v264 : Index := Scalar.indexCast arg13
  let c33 : Index := 33#32
  ![v264.toNat, 33]
def k0_mult34 (v265 : BitVec 32) : BitVec 32 :=
  v265

def k0_off68 (v265 : BitVec 32) : Fin 2 → Nat :=
  let v266 : BitVec 32 := v265
  let v267 : Index := Scalar.indexCast v266
  let c0_53 : Index := 0#32
  ![v267.toNat, 0]

def k0_chk34 (v265 : BitVec 32) : Prop :=
  (8 ∣ (k0_mult34 v265).toNat) ∧
  (∀ a, (k0_off68 v265) a + S8x128.size a ≤ S65536x128.size a)
theorem k0_mult34_dvd : ∀ (v265 : BitVec 32) (k0_hw34 : k0_chk34 v265), 8 ∣ (k0_mult34 v265).toNat := fun v265 k0_hw34 => k0_hw34.1
theorem k0_off68_inb : ∀ (v265 : BitVec 32) (k0_hw34 : k0_chk34 v265), ∀ a, (k0_off68 v265) a + S8x128.size a ≤ S65536x128.size a := fun v265 k0_hw34 => k0_hw34.2

def k0_off69 (k0_t1 : Fin k0_t1_loop.trips) : Fin 2 → Nat :=
  let c0_i32 : BitVec 32 := 0#32
  let c1_i32 : BitVec 32 := 1#32
  let arg13 : BitVec 32 := Scf.iv c0_i32 c1_i32 k0_t1
  let v271 : Index := Scalar.indexCast arg13
  let c34 : Index := 34#32
  ![v271.toNat, 34]
def k0_mult35 (v272 : BitVec 32) : BitVec 32 :=
  v272

def k0_off70 (v272 : BitVec 32) : Fin 2 → Nat :=
  let v273 : BitVec 32 := v272
  let v274 : Index := Scalar.indexCast v273
  let c0_54 : Index := 0#32
  ![v274.toNat, 0]

def k0_chk35 (v272 : BitVec 32) : Prop :=
  (8 ∣ (k0_mult35 v272).toNat) ∧
  (∀ a, (k0_off70 v272) a + S8x128.size a ≤ S65536x128.size a)
theorem k0_mult35_dvd : ∀ (v272 : BitVec 32) (k0_hw35 : k0_chk35 v272), 8 ∣ (k0_mult35 v272).toNat := fun v272 k0_hw35 => k0_hw35.1
theorem k0_off70_inb : ∀ (v272 : BitVec 32) (k0_hw35 : k0_chk35 v272), ∀ a, (k0_off70 v272) a + S8x128.size a ≤ S65536x128.size a := fun v272 k0_hw35 => k0_hw35.2

def k0_off71 (k0_t1 : Fin k0_t1_loop.trips) : Fin 2 → Nat :=
  let c0_i32 : BitVec 32 := 0#32
  let c1_i32 : BitVec 32 := 1#32
  let arg13 : BitVec 32 := Scf.iv c0_i32 c1_i32 k0_t1
  let v278 : Index := Scalar.indexCast arg13
  let c35 : Index := 35#32
  ![v278.toNat, 35]
def k0_mult36 (v279 : BitVec 32) : BitVec 32 :=
  v279

def k0_off72 (v279 : BitVec 32) : Fin 2 → Nat :=
  let v280 : BitVec 32 := v279
  let v281 : Index := Scalar.indexCast v280
  let c0_55 : Index := 0#32
  ![v281.toNat, 0]

def k0_chk36 (v279 : BitVec 32) : Prop :=
  (8 ∣ (k0_mult36 v279).toNat) ∧
  (∀ a, (k0_off72 v279) a + S8x128.size a ≤ S65536x128.size a)
theorem k0_mult36_dvd : ∀ (v279 : BitVec 32) (k0_hw36 : k0_chk36 v279), 8 ∣ (k0_mult36 v279).toNat := fun v279 k0_hw36 => k0_hw36.1
theorem k0_off72_inb : ∀ (v279 : BitVec 32) (k0_hw36 : k0_chk36 v279), ∀ a, (k0_off72 v279) a + S8x128.size a ≤ S65536x128.size a := fun v279 k0_hw36 => k0_hw36.2

def k0_off73 (k0_t1 : Fin k0_t1_loop.trips) : Fin 2 → Nat :=
  let c0_i32 : BitVec 32 := 0#32
  let c1_i32 : BitVec 32 := 1#32
  let arg13 : BitVec 32 := Scf.iv c0_i32 c1_i32 k0_t1
  let v285 : Index := Scalar.indexCast arg13
  let c36 : Index := 36#32
  ![v285.toNat, 36]
def k0_mult37 (v286 : BitVec 32) : BitVec 32 :=
  v286

def k0_off74 (v286 : BitVec 32) : Fin 2 → Nat :=
  let v287 : BitVec 32 := v286
  let v288 : Index := Scalar.indexCast v287
  let c0_56 : Index := 0#32
  ![v288.toNat, 0]

def k0_chk37 (v286 : BitVec 32) : Prop :=
  (8 ∣ (k0_mult37 v286).toNat) ∧
  (∀ a, (k0_off74 v286) a + S8x128.size a ≤ S65536x128.size a)
theorem k0_mult37_dvd : ∀ (v286 : BitVec 32) (k0_hw37 : k0_chk37 v286), 8 ∣ (k0_mult37 v286).toNat := fun v286 k0_hw37 => k0_hw37.1
theorem k0_off74_inb : ∀ (v286 : BitVec 32) (k0_hw37 : k0_chk37 v286), ∀ a, (k0_off74 v286) a + S8x128.size a ≤ S65536x128.size a := fun v286 k0_hw37 => k0_hw37.2

def k0_off75 (k0_t1 : Fin k0_t1_loop.trips) : Fin 2 → Nat :=
  let c0_i32 : BitVec 32 := 0#32
  let c1_i32 : BitVec 32 := 1#32
  let arg13 : BitVec 32 := Scf.iv c0_i32 c1_i32 k0_t1
  let v292 : Index := Scalar.indexCast arg13
  let c37 : Index := 37#32
  ![v292.toNat, 37]
def k0_mult38 (v293 : BitVec 32) : BitVec 32 :=
  v293

def k0_off76 (v293 : BitVec 32) : Fin 2 → Nat :=
  let v294 : BitVec 32 := v293
  let v295 : Index := Scalar.indexCast v294
  let c0_57 : Index := 0#32
  ![v295.toNat, 0]

def k0_chk38 (v293 : BitVec 32) : Prop :=
  (8 ∣ (k0_mult38 v293).toNat) ∧
  (∀ a, (k0_off76 v293) a + S8x128.size a ≤ S65536x128.size a)
theorem k0_mult38_dvd : ∀ (v293 : BitVec 32) (k0_hw38 : k0_chk38 v293), 8 ∣ (k0_mult38 v293).toNat := fun v293 k0_hw38 => k0_hw38.1
theorem k0_off76_inb : ∀ (v293 : BitVec 32) (k0_hw38 : k0_chk38 v293), ∀ a, (k0_off76 v293) a + S8x128.size a ≤ S65536x128.size a := fun v293 k0_hw38 => k0_hw38.2

def k0_off77 (k0_t1 : Fin k0_t1_loop.trips) : Fin 2 → Nat :=
  let c0_i32 : BitVec 32 := 0#32
  let c1_i32 : BitVec 32 := 1#32
  let arg13 : BitVec 32 := Scf.iv c0_i32 c1_i32 k0_t1
  let v299 : Index := Scalar.indexCast arg13
  let c38 : Index := 38#32
  ![v299.toNat, 38]
def k0_mult39 (v300 : BitVec 32) : BitVec 32 :=
  v300

def k0_off78 (v300 : BitVec 32) : Fin 2 → Nat :=
  let v301 : BitVec 32 := v300
  let v302 : Index := Scalar.indexCast v301
  let c0_58 : Index := 0#32
  ![v302.toNat, 0]

def k0_chk39 (v300 : BitVec 32) : Prop :=
  (8 ∣ (k0_mult39 v300).toNat) ∧
  (∀ a, (k0_off78 v300) a + S8x128.size a ≤ S65536x128.size a)
theorem k0_mult39_dvd : ∀ (v300 : BitVec 32) (k0_hw39 : k0_chk39 v300), 8 ∣ (k0_mult39 v300).toNat := fun v300 k0_hw39 => k0_hw39.1
theorem k0_off78_inb : ∀ (v300 : BitVec 32) (k0_hw39 : k0_chk39 v300), ∀ a, (k0_off78 v300) a + S8x128.size a ≤ S65536x128.size a := fun v300 k0_hw39 => k0_hw39.2

def k0_off79 (k0_t1 : Fin k0_t1_loop.trips) : Fin 2 → Nat :=
  let c0_i32 : BitVec 32 := 0#32
  let c1_i32 : BitVec 32 := 1#32
  let arg13 : BitVec 32 := Scf.iv c0_i32 c1_i32 k0_t1
  let v306 : Index := Scalar.indexCast arg13
  let c39 : Index := 39#32
  ![v306.toNat, 39]
def k0_mult40 (v307 : BitVec 32) : BitVec 32 :=
  v307

def k0_off80 (v307 : BitVec 32) : Fin 2 → Nat :=
  let v308 : BitVec 32 := v307
  let v309 : Index := Scalar.indexCast v308
  let c0_59 : Index := 0#32
  ![v309.toNat, 0]

def k0_chk40 (v307 : BitVec 32) : Prop :=
  (8 ∣ (k0_mult40 v307).toNat) ∧
  (∀ a, (k0_off80 v307) a + S8x128.size a ≤ S65536x128.size a)
theorem k0_mult40_dvd : ∀ (v307 : BitVec 32) (k0_hw40 : k0_chk40 v307), 8 ∣ (k0_mult40 v307).toNat := fun v307 k0_hw40 => k0_hw40.1
theorem k0_off80_inb : ∀ (v307 : BitVec 32) (k0_hw40 : k0_chk40 v307), ∀ a, (k0_off80 v307) a + S8x128.size a ≤ S65536x128.size a := fun v307 k0_hw40 => k0_hw40.2

def k0_off81 (k0_t1 : Fin k0_t1_loop.trips) : Fin 2 → Nat :=
  let c0_i32 : BitVec 32 := 0#32
  let c1_i32 : BitVec 32 := 1#32
  let arg13 : BitVec 32 := Scf.iv c0_i32 c1_i32 k0_t1
  let v313 : Index := Scalar.indexCast arg13
  let c40 : Index := 40#32
  ![v313.toNat, 40]
def k0_mult41 (v314 : BitVec 32) : BitVec 32 :=
  v314

def k0_off82 (v314 : BitVec 32) : Fin 2 → Nat :=
  let v315 : BitVec 32 := v314
  let v316 : Index := Scalar.indexCast v315
  let c0_60 : Index := 0#32
  ![v316.toNat, 0]

def k0_chk41 (v314 : BitVec 32) : Prop :=
  (8 ∣ (k0_mult41 v314).toNat) ∧
  (∀ a, (k0_off82 v314) a + S8x128.size a ≤ S65536x128.size a)
theorem k0_mult41_dvd : ∀ (v314 : BitVec 32) (k0_hw41 : k0_chk41 v314), 8 ∣ (k0_mult41 v314).toNat := fun v314 k0_hw41 => k0_hw41.1
theorem k0_off82_inb : ∀ (v314 : BitVec 32) (k0_hw41 : k0_chk41 v314), ∀ a, (k0_off82 v314) a + S8x128.size a ≤ S65536x128.size a := fun v314 k0_hw41 => k0_hw41.2

def k0_off83 (k0_t1 : Fin k0_t1_loop.trips) : Fin 2 → Nat :=
  let c0_i32 : BitVec 32 := 0#32
  let c1_i32 : BitVec 32 := 1#32
  let arg13 : BitVec 32 := Scf.iv c0_i32 c1_i32 k0_t1
  let v320 : Index := Scalar.indexCast arg13
  let c41 : Index := 41#32
  ![v320.toNat, 41]
def k0_mult42 (v321 : BitVec 32) : BitVec 32 :=
  v321

def k0_off84 (v321 : BitVec 32) : Fin 2 → Nat :=
  let v322 : BitVec 32 := v321
  let v323 : Index := Scalar.indexCast v322
  let c0_61 : Index := 0#32
  ![v323.toNat, 0]

def k0_chk42 (v321 : BitVec 32) : Prop :=
  (8 ∣ (k0_mult42 v321).toNat) ∧
  (∀ a, (k0_off84 v321) a + S8x128.size a ≤ S65536x128.size a)
theorem k0_mult42_dvd : ∀ (v321 : BitVec 32) (k0_hw42 : k0_chk42 v321), 8 ∣ (k0_mult42 v321).toNat := fun v321 k0_hw42 => k0_hw42.1
theorem k0_off84_inb : ∀ (v321 : BitVec 32) (k0_hw42 : k0_chk42 v321), ∀ a, (k0_off84 v321) a + S8x128.size a ≤ S65536x128.size a := fun v321 k0_hw42 => k0_hw42.2

def k0_off85 (k0_t1 : Fin k0_t1_loop.trips) : Fin 2 → Nat :=
  let c0_i32 : BitVec 32 := 0#32
  let c1_i32 : BitVec 32 := 1#32
  let arg13 : BitVec 32 := Scf.iv c0_i32 c1_i32 k0_t1
  let v327 : Index := Scalar.indexCast arg13
  let c42 : Index := 42#32
  ![v327.toNat, 42]
def k0_mult43 (v328 : BitVec 32) : BitVec 32 :=
  v328

def k0_off86 (v328 : BitVec 32) : Fin 2 → Nat :=
  let v329 : BitVec 32 := v328
  let v330 : Index := Scalar.indexCast v329
  let c0_62 : Index := 0#32
  ![v330.toNat, 0]

def k0_chk43 (v328 : BitVec 32) : Prop :=
  (8 ∣ (k0_mult43 v328).toNat) ∧
  (∀ a, (k0_off86 v328) a + S8x128.size a ≤ S65536x128.size a)
theorem k0_mult43_dvd : ∀ (v328 : BitVec 32) (k0_hw43 : k0_chk43 v328), 8 ∣ (k0_mult43 v328).toNat := fun v328 k0_hw43 => k0_hw43.1
theorem k0_off86_inb : ∀ (v328 : BitVec 32) (k0_hw43 : k0_chk43 v328), ∀ a, (k0_off86 v328) a + S8x128.size a ≤ S65536x128.size a := fun v328 k0_hw43 => k0_hw43.2

def k0_off87 (k0_t1 : Fin k0_t1_loop.trips) : Fin 2 → Nat :=
  let c0_i32 : BitVec 32 := 0#32
  let c1_i32 : BitVec 32 := 1#32
  let arg13 : BitVec 32 := Scf.iv c0_i32 c1_i32 k0_t1
  let v334 : Index := Scalar.indexCast arg13
  let c43 : Index := 43#32
  ![v334.toNat, 43]
def k0_mult44 (v335 : BitVec 32) : BitVec 32 :=
  v335

def k0_off88 (v335 : BitVec 32) : Fin 2 → Nat :=
  let v336 : BitVec 32 := v335
  let v337 : Index := Scalar.indexCast v336
  let c0_63 : Index := 0#32
  ![v337.toNat, 0]

def k0_chk44 (v335 : BitVec 32) : Prop :=
  (8 ∣ (k0_mult44 v335).toNat) ∧
  (∀ a, (k0_off88 v335) a + S8x128.size a ≤ S65536x128.size a)
theorem k0_mult44_dvd : ∀ (v335 : BitVec 32) (k0_hw44 : k0_chk44 v335), 8 ∣ (k0_mult44 v335).toNat := fun v335 k0_hw44 => k0_hw44.1
theorem k0_off88_inb : ∀ (v335 : BitVec 32) (k0_hw44 : k0_chk44 v335), ∀ a, (k0_off88 v335) a + S8x128.size a ≤ S65536x128.size a := fun v335 k0_hw44 => k0_hw44.2

def k0_off89 (k0_t1 : Fin k0_t1_loop.trips) : Fin 2 → Nat :=
  let c0_i32 : BitVec 32 := 0#32
  let c1_i32 : BitVec 32 := 1#32
  let arg13 : BitVec 32 := Scf.iv c0_i32 c1_i32 k0_t1
  let v341 : Index := Scalar.indexCast arg13
  let c44 : Index := 44#32
  ![v341.toNat, 44]
def k0_mult45 (v342 : BitVec 32) : BitVec 32 :=
  v342

def k0_off90 (v342 : BitVec 32) : Fin 2 → Nat :=
  let v343 : BitVec 32 := v342
  let v344 : Index := Scalar.indexCast v343
  let c0_64 : Index := 0#32
  ![v344.toNat, 0]

def k0_chk45 (v342 : BitVec 32) : Prop :=
  (8 ∣ (k0_mult45 v342).toNat) ∧
  (∀ a, (k0_off90 v342) a + S8x128.size a ≤ S65536x128.size a)
theorem k0_mult45_dvd : ∀ (v342 : BitVec 32) (k0_hw45 : k0_chk45 v342), 8 ∣ (k0_mult45 v342).toNat := fun v342 k0_hw45 => k0_hw45.1
theorem k0_off90_inb : ∀ (v342 : BitVec 32) (k0_hw45 : k0_chk45 v342), ∀ a, (k0_off90 v342) a + S8x128.size a ≤ S65536x128.size a := fun v342 k0_hw45 => k0_hw45.2

def k0_off91 (k0_t1 : Fin k0_t1_loop.trips) : Fin 2 → Nat :=
  let c0_i32 : BitVec 32 := 0#32
  let c1_i32 : BitVec 32 := 1#32
  let arg13 : BitVec 32 := Scf.iv c0_i32 c1_i32 k0_t1
  let v348 : Index := Scalar.indexCast arg13
  let c45 : Index := 45#32
  ![v348.toNat, 45]
def k0_mult46 (v349 : BitVec 32) : BitVec 32 :=
  v349

def k0_off92 (v349 : BitVec 32) : Fin 2 → Nat :=
  let v350 : BitVec 32 := v349
  let v351 : Index := Scalar.indexCast v350
  let c0_65 : Index := 0#32
  ![v351.toNat, 0]

def k0_chk46 (v349 : BitVec 32) : Prop :=
  (8 ∣ (k0_mult46 v349).toNat) ∧
  (∀ a, (k0_off92 v349) a + S8x128.size a ≤ S65536x128.size a)
theorem k0_mult46_dvd : ∀ (v349 : BitVec 32) (k0_hw46 : k0_chk46 v349), 8 ∣ (k0_mult46 v349).toNat := fun v349 k0_hw46 => k0_hw46.1
theorem k0_off92_inb : ∀ (v349 : BitVec 32) (k0_hw46 : k0_chk46 v349), ∀ a, (k0_off92 v349) a + S8x128.size a ≤ S65536x128.size a := fun v349 k0_hw46 => k0_hw46.2

def k0_off93 (k0_t1 : Fin k0_t1_loop.trips) : Fin 2 → Nat :=
  let c0_i32 : BitVec 32 := 0#32
  let c1_i32 : BitVec 32 := 1#32
  let arg13 : BitVec 32 := Scf.iv c0_i32 c1_i32 k0_t1
  let v355 : Index := Scalar.indexCast arg13
  let c46 : Index := 46#32
  ![v355.toNat, 46]
def k0_mult47 (v356 : BitVec 32) : BitVec 32 :=
  v356

def k0_off94 (v356 : BitVec 32) : Fin 2 → Nat :=
  let v357 : BitVec 32 := v356
  let v358 : Index := Scalar.indexCast v357
  let c0_66 : Index := 0#32
  ![v358.toNat, 0]

def k0_chk47 (v356 : BitVec 32) : Prop :=
  (8 ∣ (k0_mult47 v356).toNat) ∧
  (∀ a, (k0_off94 v356) a + S8x128.size a ≤ S65536x128.size a)
theorem k0_mult47_dvd : ∀ (v356 : BitVec 32) (k0_hw47 : k0_chk47 v356), 8 ∣ (k0_mult47 v356).toNat := fun v356 k0_hw47 => k0_hw47.1
theorem k0_off94_inb : ∀ (v356 : BitVec 32) (k0_hw47 : k0_chk47 v356), ∀ a, (k0_off94 v356) a + S8x128.size a ≤ S65536x128.size a := fun v356 k0_hw47 => k0_hw47.2

def k0_off95 (k0_t1 : Fin k0_t1_loop.trips) : Fin 2 → Nat :=
  let c0_i32 : BitVec 32 := 0#32
  let c1_i32 : BitVec 32 := 1#32
  let arg13 : BitVec 32 := Scf.iv c0_i32 c1_i32 k0_t1
  let v362 : Index := Scalar.indexCast arg13
  let c47 : Index := 47#32
  ![v362.toNat, 47]
def k0_mult48 (v363 : BitVec 32) : BitVec 32 :=
  v363

def k0_off96 (v363 : BitVec 32) : Fin 2 → Nat :=
  let v364 : BitVec 32 := v363
  let v365 : Index := Scalar.indexCast v364
  let c0_67 : Index := 0#32
  ![v365.toNat, 0]

def k0_chk48 (v363 : BitVec 32) : Prop :=
  (8 ∣ (k0_mult48 v363).toNat) ∧
  (∀ a, (k0_off96 v363) a + S8x128.size a ≤ S65536x128.size a)
theorem k0_mult48_dvd : ∀ (v363 : BitVec 32) (k0_hw48 : k0_chk48 v363), 8 ∣ (k0_mult48 v363).toNat := fun v363 k0_hw48 => k0_hw48.1
theorem k0_off96_inb : ∀ (v363 : BitVec 32) (k0_hw48 : k0_chk48 v363), ∀ a, (k0_off96 v363) a + S8x128.size a ≤ S65536x128.size a := fun v363 k0_hw48 => k0_hw48.2

def k0_off97 (k0_t1 : Fin k0_t1_loop.trips) : Fin 2 → Nat :=
  let c0_i32 : BitVec 32 := 0#32
  let c1_i32 : BitVec 32 := 1#32
  let arg13 : BitVec 32 := Scf.iv c0_i32 c1_i32 k0_t1
  let v369 : Index := Scalar.indexCast arg13
  let c48 : Index := 48#32
  ![v369.toNat, 48]
def k0_mult49 (v370 : BitVec 32) : BitVec 32 :=
  v370

def k0_off98 (v370 : BitVec 32) : Fin 2 → Nat :=
  let v371 : BitVec 32 := v370
  let v372 : Index := Scalar.indexCast v371
  let c0_68 : Index := 0#32
  ![v372.toNat, 0]

def k0_chk49 (v370 : BitVec 32) : Prop :=
  (8 ∣ (k0_mult49 v370).toNat) ∧
  (∀ a, (k0_off98 v370) a + S8x128.size a ≤ S65536x128.size a)
theorem k0_mult49_dvd : ∀ (v370 : BitVec 32) (k0_hw49 : k0_chk49 v370), 8 ∣ (k0_mult49 v370).toNat := fun v370 k0_hw49 => k0_hw49.1
theorem k0_off98_inb : ∀ (v370 : BitVec 32) (k0_hw49 : k0_chk49 v370), ∀ a, (k0_off98 v370) a + S8x128.size a ≤ S65536x128.size a := fun v370 k0_hw49 => k0_hw49.2

def k0_off99 (k0_t1 : Fin k0_t1_loop.trips) : Fin 2 → Nat :=
  let c0_i32 : BitVec 32 := 0#32
  let c1_i32 : BitVec 32 := 1#32
  let arg13 : BitVec 32 := Scf.iv c0_i32 c1_i32 k0_t1
  let v376 : Index := Scalar.indexCast arg13
  let c49 : Index := 49#32
  ![v376.toNat, 49]
def k0_mult50 (v377 : BitVec 32) : BitVec 32 :=
  v377

def k0_off100 (v377 : BitVec 32) : Fin 2 → Nat :=
  let v378 : BitVec 32 := v377
  let v379 : Index := Scalar.indexCast v378
  let c0_69 : Index := 0#32
  ![v379.toNat, 0]

def k0_chk50 (v377 : BitVec 32) : Prop :=
  (8 ∣ (k0_mult50 v377).toNat) ∧
  (∀ a, (k0_off100 v377) a + S8x128.size a ≤ S65536x128.size a)
theorem k0_mult50_dvd : ∀ (v377 : BitVec 32) (k0_hw50 : k0_chk50 v377), 8 ∣ (k0_mult50 v377).toNat := fun v377 k0_hw50 => k0_hw50.1
theorem k0_off100_inb : ∀ (v377 : BitVec 32) (k0_hw50 : k0_chk50 v377), ∀ a, (k0_off100 v377) a + S8x128.size a ≤ S65536x128.size a := fun v377 k0_hw50 => k0_hw50.2

def k0_off101 (k0_t1 : Fin k0_t1_loop.trips) : Fin 2 → Nat :=
  let c0_i32 : BitVec 32 := 0#32
  let c1_i32 : BitVec 32 := 1#32
  let arg13 : BitVec 32 := Scf.iv c0_i32 c1_i32 k0_t1
  let v383 : Index := Scalar.indexCast arg13
  let c50 : Index := 50#32
  ![v383.toNat, 50]
def k0_mult51 (v384 : BitVec 32) : BitVec 32 :=
  v384

def k0_off102 (v384 : BitVec 32) : Fin 2 → Nat :=
  let v385 : BitVec 32 := v384
  let v386 : Index := Scalar.indexCast v385
  let c0_70 : Index := 0#32
  ![v386.toNat, 0]

def k0_chk51 (v384 : BitVec 32) : Prop :=
  (8 ∣ (k0_mult51 v384).toNat) ∧
  (∀ a, (k0_off102 v384) a + S8x128.size a ≤ S65536x128.size a)
theorem k0_mult51_dvd : ∀ (v384 : BitVec 32) (k0_hw51 : k0_chk51 v384), 8 ∣ (k0_mult51 v384).toNat := fun v384 k0_hw51 => k0_hw51.1
theorem k0_off102_inb : ∀ (v384 : BitVec 32) (k0_hw51 : k0_chk51 v384), ∀ a, (k0_off102 v384) a + S8x128.size a ≤ S65536x128.size a := fun v384 k0_hw51 => k0_hw51.2

def k0_off103 (k0_t1 : Fin k0_t1_loop.trips) : Fin 2 → Nat :=
  let c0_i32 : BitVec 32 := 0#32
  let c1_i32 : BitVec 32 := 1#32
  let arg13 : BitVec 32 := Scf.iv c0_i32 c1_i32 k0_t1
  let v390 : Index := Scalar.indexCast arg13
  let c51 : Index := 51#32
  ![v390.toNat, 51]
def k0_mult52 (v391 : BitVec 32) : BitVec 32 :=
  v391

def k0_off104 (v391 : BitVec 32) : Fin 2 → Nat :=
  let v392 : BitVec 32 := v391
  let v393 : Index := Scalar.indexCast v392
  let c0_71 : Index := 0#32
  ![v393.toNat, 0]

def k0_chk52 (v391 : BitVec 32) : Prop :=
  (8 ∣ (k0_mult52 v391).toNat) ∧
  (∀ a, (k0_off104 v391) a + S8x128.size a ≤ S65536x128.size a)
theorem k0_mult52_dvd : ∀ (v391 : BitVec 32) (k0_hw52 : k0_chk52 v391), 8 ∣ (k0_mult52 v391).toNat := fun v391 k0_hw52 => k0_hw52.1
theorem k0_off104_inb : ∀ (v391 : BitVec 32) (k0_hw52 : k0_chk52 v391), ∀ a, (k0_off104 v391) a + S8x128.size a ≤ S65536x128.size a := fun v391 k0_hw52 => k0_hw52.2

def k0_off105 (k0_t1 : Fin k0_t1_loop.trips) : Fin 2 → Nat :=
  let c0_i32 : BitVec 32 := 0#32
  let c1_i32 : BitVec 32 := 1#32
  let arg13 : BitVec 32 := Scf.iv c0_i32 c1_i32 k0_t1
  let v397 : Index := Scalar.indexCast arg13
  let c52 : Index := 52#32
  ![v397.toNat, 52]
def k0_mult53 (v398 : BitVec 32) : BitVec 32 :=
  v398

def k0_off106 (v398 : BitVec 32) : Fin 2 → Nat :=
  let v399 : BitVec 32 := v398
  let v400 : Index := Scalar.indexCast v399
  let c0_72 : Index := 0#32
  ![v400.toNat, 0]

def k0_chk53 (v398 : BitVec 32) : Prop :=
  (8 ∣ (k0_mult53 v398).toNat) ∧
  (∀ a, (k0_off106 v398) a + S8x128.size a ≤ S65536x128.size a)
theorem k0_mult53_dvd : ∀ (v398 : BitVec 32) (k0_hw53 : k0_chk53 v398), 8 ∣ (k0_mult53 v398).toNat := fun v398 k0_hw53 => k0_hw53.1
theorem k0_off106_inb : ∀ (v398 : BitVec 32) (k0_hw53 : k0_chk53 v398), ∀ a, (k0_off106 v398) a + S8x128.size a ≤ S65536x128.size a := fun v398 k0_hw53 => k0_hw53.2

def k0_off107 (k0_t1 : Fin k0_t1_loop.trips) : Fin 2 → Nat :=
  let c0_i32 : BitVec 32 := 0#32
  let c1_i32 : BitVec 32 := 1#32
  let arg13 : BitVec 32 := Scf.iv c0_i32 c1_i32 k0_t1
  let v404 : Index := Scalar.indexCast arg13
  let c53 : Index := 53#32
  ![v404.toNat, 53]
def k0_mult54 (v405 : BitVec 32) : BitVec 32 :=
  v405

def k0_off108 (v405 : BitVec 32) : Fin 2 → Nat :=
  let v406 : BitVec 32 := v405
  let v407 : Index := Scalar.indexCast v406
  let c0_73 : Index := 0#32
  ![v407.toNat, 0]

def k0_chk54 (v405 : BitVec 32) : Prop :=
  (8 ∣ (k0_mult54 v405).toNat) ∧
  (∀ a, (k0_off108 v405) a + S8x128.size a ≤ S65536x128.size a)
theorem k0_mult54_dvd : ∀ (v405 : BitVec 32) (k0_hw54 : k0_chk54 v405), 8 ∣ (k0_mult54 v405).toNat := fun v405 k0_hw54 => k0_hw54.1
theorem k0_off108_inb : ∀ (v405 : BitVec 32) (k0_hw54 : k0_chk54 v405), ∀ a, (k0_off108 v405) a + S8x128.size a ≤ S65536x128.size a := fun v405 k0_hw54 => k0_hw54.2

def k0_off109 (k0_t1 : Fin k0_t1_loop.trips) : Fin 2 → Nat :=
  let c0_i32 : BitVec 32 := 0#32
  let c1_i32 : BitVec 32 := 1#32
  let arg13 : BitVec 32 := Scf.iv c0_i32 c1_i32 k0_t1
  let v411 : Index := Scalar.indexCast arg13
  let c54 : Index := 54#32
  ![v411.toNat, 54]
def k0_mult55 (v412 : BitVec 32) : BitVec 32 :=
  v412

def k0_off110 (v412 : BitVec 32) : Fin 2 → Nat :=
  let v413 : BitVec 32 := v412
  let v414 : Index := Scalar.indexCast v413
  let c0_74 : Index := 0#32
  ![v414.toNat, 0]

def k0_chk55 (v412 : BitVec 32) : Prop :=
  (8 ∣ (k0_mult55 v412).toNat) ∧
  (∀ a, (k0_off110 v412) a + S8x128.size a ≤ S65536x128.size a)
theorem k0_mult55_dvd : ∀ (v412 : BitVec 32) (k0_hw55 : k0_chk55 v412), 8 ∣ (k0_mult55 v412).toNat := fun v412 k0_hw55 => k0_hw55.1
theorem k0_off110_inb : ∀ (v412 : BitVec 32) (k0_hw55 : k0_chk55 v412), ∀ a, (k0_off110 v412) a + S8x128.size a ≤ S65536x128.size a := fun v412 k0_hw55 => k0_hw55.2

def k0_off111 (k0_t1 : Fin k0_t1_loop.trips) : Fin 2 → Nat :=
  let c0_i32 : BitVec 32 := 0#32
  let c1_i32 : BitVec 32 := 1#32
  let arg13 : BitVec 32 := Scf.iv c0_i32 c1_i32 k0_t1
  let v418 : Index := Scalar.indexCast arg13
  let c55 : Index := 55#32
  ![v418.toNat, 55]
def k0_mult56 (v419 : BitVec 32) : BitVec 32 :=
  v419

def k0_off112 (v419 : BitVec 32) : Fin 2 → Nat :=
  let v420 : BitVec 32 := v419
  let v421 : Index := Scalar.indexCast v420
  let c0_75 : Index := 0#32
  ![v421.toNat, 0]

def k0_chk56 (v419 : BitVec 32) : Prop :=
  (8 ∣ (k0_mult56 v419).toNat) ∧
  (∀ a, (k0_off112 v419) a + S8x128.size a ≤ S65536x128.size a)
theorem k0_mult56_dvd : ∀ (v419 : BitVec 32) (k0_hw56 : k0_chk56 v419), 8 ∣ (k0_mult56 v419).toNat := fun v419 k0_hw56 => k0_hw56.1
theorem k0_off112_inb : ∀ (v419 : BitVec 32) (k0_hw56 : k0_chk56 v419), ∀ a, (k0_off112 v419) a + S8x128.size a ≤ S65536x128.size a := fun v419 k0_hw56 => k0_hw56.2

def k0_off113 (k0_t1 : Fin k0_t1_loop.trips) : Fin 2 → Nat :=
  let c0_i32 : BitVec 32 := 0#32
  let c1_i32 : BitVec 32 := 1#32
  let arg13 : BitVec 32 := Scf.iv c0_i32 c1_i32 k0_t1
  let v425 : Index := Scalar.indexCast arg13
  let c56 : Index := 56#32
  ![v425.toNat, 56]
def k0_mult57 (v426 : BitVec 32) : BitVec 32 :=
  v426

def k0_off114 (v426 : BitVec 32) : Fin 2 → Nat :=
  let v427 : BitVec 32 := v426
  let v428 : Index := Scalar.indexCast v427
  let c0_76 : Index := 0#32
  ![v428.toNat, 0]

def k0_chk57 (v426 : BitVec 32) : Prop :=
  (8 ∣ (k0_mult57 v426).toNat) ∧
  (∀ a, (k0_off114 v426) a + S8x128.size a ≤ S65536x128.size a)
theorem k0_mult57_dvd : ∀ (v426 : BitVec 32) (k0_hw57 : k0_chk57 v426), 8 ∣ (k0_mult57 v426).toNat := fun v426 k0_hw57 => k0_hw57.1
theorem k0_off114_inb : ∀ (v426 : BitVec 32) (k0_hw57 : k0_chk57 v426), ∀ a, (k0_off114 v426) a + S8x128.size a ≤ S65536x128.size a := fun v426 k0_hw57 => k0_hw57.2

def k0_off115 (k0_t1 : Fin k0_t1_loop.trips) : Fin 2 → Nat :=
  let c0_i32 : BitVec 32 := 0#32
  let c1_i32 : BitVec 32 := 1#32
  let arg13 : BitVec 32 := Scf.iv c0_i32 c1_i32 k0_t1
  let v432 : Index := Scalar.indexCast arg13
  let c57 : Index := 57#32
  ![v432.toNat, 57]
def k0_mult58 (v433 : BitVec 32) : BitVec 32 :=
  v433

def k0_off116 (v433 : BitVec 32) : Fin 2 → Nat :=
  let v434 : BitVec 32 := v433
  let v435 : Index := Scalar.indexCast v434
  let c0_77 : Index := 0#32
  ![v435.toNat, 0]

def k0_chk58 (v433 : BitVec 32) : Prop :=
  (8 ∣ (k0_mult58 v433).toNat) ∧
  (∀ a, (k0_off116 v433) a + S8x128.size a ≤ S65536x128.size a)
theorem k0_mult58_dvd : ∀ (v433 : BitVec 32) (k0_hw58 : k0_chk58 v433), 8 ∣ (k0_mult58 v433).toNat := fun v433 k0_hw58 => k0_hw58.1
theorem k0_off116_inb : ∀ (v433 : BitVec 32) (k0_hw58 : k0_chk58 v433), ∀ a, (k0_off116 v433) a + S8x128.size a ≤ S65536x128.size a := fun v433 k0_hw58 => k0_hw58.2

def k0_off117 (k0_t1 : Fin k0_t1_loop.trips) : Fin 2 → Nat :=
  let c0_i32 : BitVec 32 := 0#32
  let c1_i32 : BitVec 32 := 1#32
  let arg13 : BitVec 32 := Scf.iv c0_i32 c1_i32 k0_t1
  let v439 : Index := Scalar.indexCast arg13
  let c58 : Index := 58#32
  ![v439.toNat, 58]
def k0_mult59 (v440 : BitVec 32) : BitVec 32 :=
  v440

def k0_off118 (v440 : BitVec 32) : Fin 2 → Nat :=
  let v441 : BitVec 32 := v440
  let v442 : Index := Scalar.indexCast v441
  let c0_78 : Index := 0#32
  ![v442.toNat, 0]

def k0_chk59 (v440 : BitVec 32) : Prop :=
  (8 ∣ (k0_mult59 v440).toNat) ∧
  (∀ a, (k0_off118 v440) a + S8x128.size a ≤ S65536x128.size a)
theorem k0_mult59_dvd : ∀ (v440 : BitVec 32) (k0_hw59 : k0_chk59 v440), 8 ∣ (k0_mult59 v440).toNat := fun v440 k0_hw59 => k0_hw59.1
theorem k0_off118_inb : ∀ (v440 : BitVec 32) (k0_hw59 : k0_chk59 v440), ∀ a, (k0_off118 v440) a + S8x128.size a ≤ S65536x128.size a := fun v440 k0_hw59 => k0_hw59.2

def k0_off119 (k0_t1 : Fin k0_t1_loop.trips) : Fin 2 → Nat :=
  let c0_i32 : BitVec 32 := 0#32
  let c1_i32 : BitVec 32 := 1#32
  let arg13 : BitVec 32 := Scf.iv c0_i32 c1_i32 k0_t1
  let v446 : Index := Scalar.indexCast arg13
  let c59 : Index := 59#32
  ![v446.toNat, 59]
def k0_mult60 (v447 : BitVec 32) : BitVec 32 :=
  v447

def k0_off120 (v447 : BitVec 32) : Fin 2 → Nat :=
  let v448 : BitVec 32 := v447
  let v449 : Index := Scalar.indexCast v448
  let c0_79 : Index := 0#32
  ![v449.toNat, 0]

def k0_chk60 (v447 : BitVec 32) : Prop :=
  (8 ∣ (k0_mult60 v447).toNat) ∧
  (∀ a, (k0_off120 v447) a + S8x128.size a ≤ S65536x128.size a)
theorem k0_mult60_dvd : ∀ (v447 : BitVec 32) (k0_hw60 : k0_chk60 v447), 8 ∣ (k0_mult60 v447).toNat := fun v447 k0_hw60 => k0_hw60.1
theorem k0_off120_inb : ∀ (v447 : BitVec 32) (k0_hw60 : k0_chk60 v447), ∀ a, (k0_off120 v447) a + S8x128.size a ≤ S65536x128.size a := fun v447 k0_hw60 => k0_hw60.2

def k0_off121 (k0_t1 : Fin k0_t1_loop.trips) : Fin 2 → Nat :=
  let c0_i32 : BitVec 32 := 0#32
  let c1_i32 : BitVec 32 := 1#32
  let arg13 : BitVec 32 := Scf.iv c0_i32 c1_i32 k0_t1
  let v453 : Index := Scalar.indexCast arg13
  let c60 : Index := 60#32
  ![v453.toNat, 60]
def k0_mult61 (v454 : BitVec 32) : BitVec 32 :=
  v454

def k0_off122 (v454 : BitVec 32) : Fin 2 → Nat :=
  let v455 : BitVec 32 := v454
  let v456 : Index := Scalar.indexCast v455
  let c0_80 : Index := 0#32
  ![v456.toNat, 0]

def k0_chk61 (v454 : BitVec 32) : Prop :=
  (8 ∣ (k0_mult61 v454).toNat) ∧
  (∀ a, (k0_off122 v454) a + S8x128.size a ≤ S65536x128.size a)
theorem k0_mult61_dvd : ∀ (v454 : BitVec 32) (k0_hw61 : k0_chk61 v454), 8 ∣ (k0_mult61 v454).toNat := fun v454 k0_hw61 => k0_hw61.1
theorem k0_off122_inb : ∀ (v454 : BitVec 32) (k0_hw61 : k0_chk61 v454), ∀ a, (k0_off122 v454) a + S8x128.size a ≤ S65536x128.size a := fun v454 k0_hw61 => k0_hw61.2

def k0_off123 (k0_t1 : Fin k0_t1_loop.trips) : Fin 2 → Nat :=
  let c0_i32 : BitVec 32 := 0#32
  let c1_i32 : BitVec 32 := 1#32
  let arg13 : BitVec 32 := Scf.iv c0_i32 c1_i32 k0_t1
  let v460 : Index := Scalar.indexCast arg13
  let c61 : Index := 61#32
  ![v460.toNat, 61]
def k0_mult62 (v461 : BitVec 32) : BitVec 32 :=
  v461

def k0_off124 (v461 : BitVec 32) : Fin 2 → Nat :=
  let v462 : BitVec 32 := v461
  let v463 : Index := Scalar.indexCast v462
  let c0_81 : Index := 0#32
  ![v463.toNat, 0]

def k0_chk62 (v461 : BitVec 32) : Prop :=
  (8 ∣ (k0_mult62 v461).toNat) ∧
  (∀ a, (k0_off124 v461) a + S8x128.size a ≤ S65536x128.size a)
theorem k0_mult62_dvd : ∀ (v461 : BitVec 32) (k0_hw62 : k0_chk62 v461), 8 ∣ (k0_mult62 v461).toNat := fun v461 k0_hw62 => k0_hw62.1
theorem k0_off124_inb : ∀ (v461 : BitVec 32) (k0_hw62 : k0_chk62 v461), ∀ a, (k0_off124 v461) a + S8x128.size a ≤ S65536x128.size a := fun v461 k0_hw62 => k0_hw62.2

def k0_off125 (k0_t1 : Fin k0_t1_loop.trips) : Fin 2 → Nat :=
  let c0_i32 : BitVec 32 := 0#32
  let c1_i32 : BitVec 32 := 1#32
  let arg13 : BitVec 32 := Scf.iv c0_i32 c1_i32 k0_t1
  let v467 : Index := Scalar.indexCast arg13
  let c62 : Index := 62#32
  ![v467.toNat, 62]
def k0_mult63 (v468 : BitVec 32) : BitVec 32 :=
  v468

def k0_off126 (v468 : BitVec 32) : Fin 2 → Nat :=
  let v469 : BitVec 32 := v468
  let v470 : Index := Scalar.indexCast v469
  let c0_82 : Index := 0#32
  ![v470.toNat, 0]

def k0_chk63 (v468 : BitVec 32) : Prop :=
  (8 ∣ (k0_mult63 v468).toNat) ∧
  (∀ a, (k0_off126 v468) a + S8x128.size a ≤ S65536x128.size a)
theorem k0_mult63_dvd : ∀ (v468 : BitVec 32) (k0_hw63 : k0_chk63 v468), 8 ∣ (k0_mult63 v468).toNat := fun v468 k0_hw63 => k0_hw63.1
theorem k0_off126_inb : ∀ (v468 : BitVec 32) (k0_hw63 : k0_chk63 v468), ∀ a, (k0_off126 v468) a + S8x128.size a ≤ S65536x128.size a := fun v468 k0_hw63 => k0_hw63.2

def k0_off127 (k0_t1 : Fin k0_t1_loop.trips) : Fin 2 → Nat :=
  let c0_i32 : BitVec 32 := 0#32
  let c1_i32 : BitVec 32 := 1#32
  let arg13 : BitVec 32 := Scf.iv c0_i32 c1_i32 k0_t1
  let v474 : Index := Scalar.indexCast arg13
  let c63 : Index := 63#32
  ![v474.toNat, 63]
def k0_mult64 (v475 : BitVec 32) : BitVec 32 :=
  v475

def k0_off128 (v475 : BitVec 32) : Fin 2 → Nat :=
  let v476 : BitVec 32 := v475
  let v477 : Index := Scalar.indexCast v476
  let c0_83 : Index := 0#32
  ![v477.toNat, 0]

def k0_chk64 (v475 : BitVec 32) : Prop :=
  (8 ∣ (k0_mult64 v475).toNat) ∧
  (∀ a, (k0_off128 v475) a + S8x128.size a ≤ S65536x128.size a)
theorem k0_mult64_dvd : ∀ (v475 : BitVec 32) (k0_hw64 : k0_chk64 v475), 8 ∣ (k0_mult64 v475).toNat := fun v475 k0_hw64 => k0_hw64.1
theorem k0_off128_inb : ∀ (v475 : BitVec 32) (k0_hw64 : k0_chk64 v475), ∀ a, (k0_off128 v475) a + S8x128.size a ≤ S65536x128.size a := fun v475 k0_hw64 => k0_hw64.2

def k0_off129 (k0_t1 : Fin k0_t1_loop.trips) : Fin 2 → Nat :=
  let c0_i32 : BitVec 32 := 0#32
  let c1_i32 : BitVec 32 := 1#32
  let arg13 : BitVec 32 := Scf.iv c0_i32 c1_i32 k0_t1
  let v481 : Index := Scalar.indexCast arg13
  let c64 : Index := 64#32
  ![v481.toNat, 64]
def k0_mult65 (v482 : BitVec 32) : BitVec 32 :=
  v482

def k0_off130 (v482 : BitVec 32) : Fin 2 → Nat :=
  let v483 : BitVec 32 := v482
  let v484 : Index := Scalar.indexCast v483
  let c0_84 : Index := 0#32
  ![v484.toNat, 0]

def k0_chk65 (v482 : BitVec 32) : Prop :=
  (8 ∣ (k0_mult65 v482).toNat) ∧
  (∀ a, (k0_off130 v482) a + S8x128.size a ≤ S65536x128.size a)
theorem k0_mult65_dvd : ∀ (v482 : BitVec 32) (k0_hw65 : k0_chk65 v482), 8 ∣ (k0_mult65 v482).toNat := fun v482 k0_hw65 => k0_hw65.1
theorem k0_off130_inb : ∀ (v482 : BitVec 32) (k0_hw65 : k0_chk65 v482), ∀ a, (k0_off130 v482) a + S8x128.size a ≤ S65536x128.size a := fun v482 k0_hw65 => k0_hw65.2

def k0_off131 (k0_t1 : Fin k0_t1_loop.trips) : Fin 2 → Nat :=
  let c0_i32 : BitVec 32 := 0#32
  let c1_i32 : BitVec 32 := 1#32
  let arg13 : BitVec 32 := Scf.iv c0_i32 c1_i32 k0_t1
  let v488 : Index := Scalar.indexCast arg13
  let c65 : Index := 65#32
  ![v488.toNat, 65]
def k0_mult66 (v489 : BitVec 32) : BitVec 32 :=
  v489

def k0_off132 (v489 : BitVec 32) : Fin 2 → Nat :=
  let v490 : BitVec 32 := v489
  let v491 : Index := Scalar.indexCast v490
  let c0_85 : Index := 0#32
  ![v491.toNat, 0]

def k0_chk66 (v489 : BitVec 32) : Prop :=
  (8 ∣ (k0_mult66 v489).toNat) ∧
  (∀ a, (k0_off132 v489) a + S8x128.size a ≤ S65536x128.size a)
theorem k0_mult66_dvd : ∀ (v489 : BitVec 32) (k0_hw66 : k0_chk66 v489), 8 ∣ (k0_mult66 v489).toNat := fun v489 k0_hw66 => k0_hw66.1
theorem k0_off132_inb : ∀ (v489 : BitVec 32) (k0_hw66 : k0_chk66 v489), ∀ a, (k0_off132 v489) a + S8x128.size a ≤ S65536x128.size a := fun v489 k0_hw66 => k0_hw66.2

def k0_off133 (k0_t1 : Fin k0_t1_loop.trips) : Fin 2 → Nat :=
  let c0_i32 : BitVec 32 := 0#32
  let c1_i32 : BitVec 32 := 1#32
  let arg13 : BitVec 32 := Scf.iv c0_i32 c1_i32 k0_t1
  let v495 : Index := Scalar.indexCast arg13
  let c66 : Index := 66#32
  ![v495.toNat, 66]
def k0_mult67 (v496 : BitVec 32) : BitVec 32 :=
  v496

def k0_off134 (v496 : BitVec 32) : Fin 2 → Nat :=
  let v497 : BitVec 32 := v496
  let v498 : Index := Scalar.indexCast v497
  let c0_86 : Index := 0#32
  ![v498.toNat, 0]

def k0_chk67 (v496 : BitVec 32) : Prop :=
  (8 ∣ (k0_mult67 v496).toNat) ∧
  (∀ a, (k0_off134 v496) a + S8x128.size a ≤ S65536x128.size a)
theorem k0_mult67_dvd : ∀ (v496 : BitVec 32) (k0_hw67 : k0_chk67 v496), 8 ∣ (k0_mult67 v496).toNat := fun v496 k0_hw67 => k0_hw67.1
theorem k0_off134_inb : ∀ (v496 : BitVec 32) (k0_hw67 : k0_chk67 v496), ∀ a, (k0_off134 v496) a + S8x128.size a ≤ S65536x128.size a := fun v496 k0_hw67 => k0_hw67.2

def k0_off135 (k0_t1 : Fin k0_t1_loop.trips) : Fin 2 → Nat :=
  let c0_i32 : BitVec 32 := 0#32
  let c1_i32 : BitVec 32 := 1#32
  let arg13 : BitVec 32 := Scf.iv c0_i32 c1_i32 k0_t1
  let v502 : Index := Scalar.indexCast arg13
  let c67 : Index := 67#32
  ![v502.toNat, 67]
def k0_mult68 (v503 : BitVec 32) : BitVec 32 :=
  v503

def k0_off136 (v503 : BitVec 32) : Fin 2 → Nat :=
  let v504 : BitVec 32 := v503
  let v505 : Index := Scalar.indexCast v504
  let c0_87 : Index := 0#32
  ![v505.toNat, 0]

def k0_chk68 (v503 : BitVec 32) : Prop :=
  (8 ∣ (k0_mult68 v503).toNat) ∧
  (∀ a, (k0_off136 v503) a + S8x128.size a ≤ S65536x128.size a)
theorem k0_mult68_dvd : ∀ (v503 : BitVec 32) (k0_hw68 : k0_chk68 v503), 8 ∣ (k0_mult68 v503).toNat := fun v503 k0_hw68 => k0_hw68.1
theorem k0_off136_inb : ∀ (v503 : BitVec 32) (k0_hw68 : k0_chk68 v503), ∀ a, (k0_off136 v503) a + S8x128.size a ≤ S65536x128.size a := fun v503 k0_hw68 => k0_hw68.2

def k0_off137 (k0_t1 : Fin k0_t1_loop.trips) : Fin 2 → Nat :=
  let c0_i32 : BitVec 32 := 0#32
  let c1_i32 : BitVec 32 := 1#32
  let arg13 : BitVec 32 := Scf.iv c0_i32 c1_i32 k0_t1
  let v509 : Index := Scalar.indexCast arg13
  let c68 : Index := 68#32
  ![v509.toNat, 68]
def k0_mult69 (v510 : BitVec 32) : BitVec 32 :=
  v510

def k0_off138 (v510 : BitVec 32) : Fin 2 → Nat :=
  let v511 : BitVec 32 := v510
  let v512 : Index := Scalar.indexCast v511
  let c0_88 : Index := 0#32
  ![v512.toNat, 0]

def k0_chk69 (v510 : BitVec 32) : Prop :=
  (8 ∣ (k0_mult69 v510).toNat) ∧
  (∀ a, (k0_off138 v510) a + S8x128.size a ≤ S65536x128.size a)
theorem k0_mult69_dvd : ∀ (v510 : BitVec 32) (k0_hw69 : k0_chk69 v510), 8 ∣ (k0_mult69 v510).toNat := fun v510 k0_hw69 => k0_hw69.1
theorem k0_off138_inb : ∀ (v510 : BitVec 32) (k0_hw69 : k0_chk69 v510), ∀ a, (k0_off138 v510) a + S8x128.size a ≤ S65536x128.size a := fun v510 k0_hw69 => k0_hw69.2

def k0_off139 (k0_t1 : Fin k0_t1_loop.trips) : Fin 2 → Nat :=
  let c0_i32 : BitVec 32 := 0#32
  let c1_i32 : BitVec 32 := 1#32
  let arg13 : BitVec 32 := Scf.iv c0_i32 c1_i32 k0_t1
  let v516 : Index := Scalar.indexCast arg13
  let c69 : Index := 69#32
  ![v516.toNat, 69]
def k0_mult70 (v517 : BitVec 32) : BitVec 32 :=
  v517

def k0_off140 (v517 : BitVec 32) : Fin 2 → Nat :=
  let v518 : BitVec 32 := v517
  let v519 : Index := Scalar.indexCast v518
  let c0_89 : Index := 0#32
  ![v519.toNat, 0]

def k0_chk70 (v517 : BitVec 32) : Prop :=
  (8 ∣ (k0_mult70 v517).toNat) ∧
  (∀ a, (k0_off140 v517) a + S8x128.size a ≤ S65536x128.size a)
theorem k0_mult70_dvd : ∀ (v517 : BitVec 32) (k0_hw70 : k0_chk70 v517), 8 ∣ (k0_mult70 v517).toNat := fun v517 k0_hw70 => k0_hw70.1
theorem k0_off140_inb : ∀ (v517 : BitVec 32) (k0_hw70 : k0_chk70 v517), ∀ a, (k0_off140 v517) a + S8x128.size a ≤ S65536x128.size a := fun v517 k0_hw70 => k0_hw70.2

def k0_off141 (k0_t1 : Fin k0_t1_loop.trips) : Fin 2 → Nat :=
  let c0_i32 : BitVec 32 := 0#32
  let c1_i32 : BitVec 32 := 1#32
  let arg13 : BitVec 32 := Scf.iv c0_i32 c1_i32 k0_t1
  let v523 : Index := Scalar.indexCast arg13
  let c70 : Index := 70#32
  ![v523.toNat, 70]
def k0_mult71 (v524 : BitVec 32) : BitVec 32 :=
  v524

def k0_off142 (v524 : BitVec 32) : Fin 2 → Nat :=
  let v525 : BitVec 32 := v524
  let v526 : Index := Scalar.indexCast v525
  let c0_90 : Index := 0#32
  ![v526.toNat, 0]

def k0_chk71 (v524 : BitVec 32) : Prop :=
  (8 ∣ (k0_mult71 v524).toNat) ∧
  (∀ a, (k0_off142 v524) a + S8x128.size a ≤ S65536x128.size a)
theorem k0_mult71_dvd : ∀ (v524 : BitVec 32) (k0_hw71 : k0_chk71 v524), 8 ∣ (k0_mult71 v524).toNat := fun v524 k0_hw71 => k0_hw71.1
theorem k0_off142_inb : ∀ (v524 : BitVec 32) (k0_hw71 : k0_chk71 v524), ∀ a, (k0_off142 v524) a + S8x128.size a ≤ S65536x128.size a := fun v524 k0_hw71 => k0_hw71.2

def k0_off143 (k0_t1 : Fin k0_t1_loop.trips) : Fin 2 → Nat :=
  let c0_i32 : BitVec 32 := 0#32
  let c1_i32 : BitVec 32 := 1#32
  let arg13 : BitVec 32 := Scf.iv c0_i32 c1_i32 k0_t1
  let v530 : Index := Scalar.indexCast arg13
  let c71 : Index := 71#32
  ![v530.toNat, 71]
def k0_mult72 (v531 : BitVec 32) : BitVec 32 :=
  v531

def k0_off144 (v531 : BitVec 32) : Fin 2 → Nat :=
  let v532 : BitVec 32 := v531
  let v533 : Index := Scalar.indexCast v532
  let c0_91 : Index := 0#32
  ![v533.toNat, 0]

def k0_chk72 (v531 : BitVec 32) : Prop :=
  (8 ∣ (k0_mult72 v531).toNat) ∧
  (∀ a, (k0_off144 v531) a + S8x128.size a ≤ S65536x128.size a)
theorem k0_mult72_dvd : ∀ (v531 : BitVec 32) (k0_hw72 : k0_chk72 v531), 8 ∣ (k0_mult72 v531).toNat := fun v531 k0_hw72 => k0_hw72.1
theorem k0_off144_inb : ∀ (v531 : BitVec 32) (k0_hw72 : k0_chk72 v531), ∀ a, (k0_off144 v531) a + S8x128.size a ≤ S65536x128.size a := fun v531 k0_hw72 => k0_hw72.2

def k0_off145 (k0_t1 : Fin k0_t1_loop.trips) : Fin 2 → Nat :=
  let c0_i32 : BitVec 32 := 0#32
  let c1_i32 : BitVec 32 := 1#32
  let arg13 : BitVec 32 := Scf.iv c0_i32 c1_i32 k0_t1
  let v537 : Index := Scalar.indexCast arg13
  let c72 : Index := 72#32
  ![v537.toNat, 72]
def k0_mult73 (v538 : BitVec 32) : BitVec 32 :=
  v538

def k0_off146 (v538 : BitVec 32) : Fin 2 → Nat :=
  let v539 : BitVec 32 := v538
  let v540 : Index := Scalar.indexCast v539
  let c0_92 : Index := 0#32
  ![v540.toNat, 0]

def k0_chk73 (v538 : BitVec 32) : Prop :=
  (8 ∣ (k0_mult73 v538).toNat) ∧
  (∀ a, (k0_off146 v538) a + S8x128.size a ≤ S65536x128.size a)
theorem k0_mult73_dvd : ∀ (v538 : BitVec 32) (k0_hw73 : k0_chk73 v538), 8 ∣ (k0_mult73 v538).toNat := fun v538 k0_hw73 => k0_hw73.1
theorem k0_off146_inb : ∀ (v538 : BitVec 32) (k0_hw73 : k0_chk73 v538), ∀ a, (k0_off146 v538) a + S8x128.size a ≤ S65536x128.size a := fun v538 k0_hw73 => k0_hw73.2

def k0_off147 (k0_t1 : Fin k0_t1_loop.trips) : Fin 2 → Nat :=
  let c0_i32 : BitVec 32 := 0#32
  let c1_i32 : BitVec 32 := 1#32
  let arg13 : BitVec 32 := Scf.iv c0_i32 c1_i32 k0_t1
  let v544 : Index := Scalar.indexCast arg13
  let c73 : Index := 73#32
  ![v544.toNat, 73]
def k0_mult74 (v545 : BitVec 32) : BitVec 32 :=
  v545

def k0_off148 (v545 : BitVec 32) : Fin 2 → Nat :=
  let v546 : BitVec 32 := v545
  let v547 : Index := Scalar.indexCast v546
  let c0_93 : Index := 0#32
  ![v547.toNat, 0]

def k0_chk74 (v545 : BitVec 32) : Prop :=
  (8 ∣ (k0_mult74 v545).toNat) ∧
  (∀ a, (k0_off148 v545) a + S8x128.size a ≤ S65536x128.size a)
theorem k0_mult74_dvd : ∀ (v545 : BitVec 32) (k0_hw74 : k0_chk74 v545), 8 ∣ (k0_mult74 v545).toNat := fun v545 k0_hw74 => k0_hw74.1
theorem k0_off148_inb : ∀ (v545 : BitVec 32) (k0_hw74 : k0_chk74 v545), ∀ a, (k0_off148 v545) a + S8x128.size a ≤ S65536x128.size a := fun v545 k0_hw74 => k0_hw74.2

def k0_off149 (k0_t1 : Fin k0_t1_loop.trips) : Fin 2 → Nat :=
  let c0_i32 : BitVec 32 := 0#32
  let c1_i32 : BitVec 32 := 1#32
  let arg13 : BitVec 32 := Scf.iv c0_i32 c1_i32 k0_t1
  let v551 : Index := Scalar.indexCast arg13
  let c74 : Index := 74#32
  ![v551.toNat, 74]
def k0_mult75 (v552 : BitVec 32) : BitVec 32 :=
  v552

def k0_off150 (v552 : BitVec 32) : Fin 2 → Nat :=
  let v553 : BitVec 32 := v552
  let v554 : Index := Scalar.indexCast v553
  let c0_94 : Index := 0#32
  ![v554.toNat, 0]

def k0_chk75 (v552 : BitVec 32) : Prop :=
  (8 ∣ (k0_mult75 v552).toNat) ∧
  (∀ a, (k0_off150 v552) a + S8x128.size a ≤ S65536x128.size a)
theorem k0_mult75_dvd : ∀ (v552 : BitVec 32) (k0_hw75 : k0_chk75 v552), 8 ∣ (k0_mult75 v552).toNat := fun v552 k0_hw75 => k0_hw75.1
theorem k0_off150_inb : ∀ (v552 : BitVec 32) (k0_hw75 : k0_chk75 v552), ∀ a, (k0_off150 v552) a + S8x128.size a ≤ S65536x128.size a := fun v552 k0_hw75 => k0_hw75.2

def k0_off151 (k0_t1 : Fin k0_t1_loop.trips) : Fin 2 → Nat :=
  let c0_i32 : BitVec 32 := 0#32
  let c1_i32 : BitVec 32 := 1#32
  let arg13 : BitVec 32 := Scf.iv c0_i32 c1_i32 k0_t1
  let v558 : Index := Scalar.indexCast arg13
  let c75 : Index := 75#32
  ![v558.toNat, 75]
def k0_mult76 (v559 : BitVec 32) : BitVec 32 :=
  v559

def k0_off152 (v559 : BitVec 32) : Fin 2 → Nat :=
  let v560 : BitVec 32 := v559
  let v561 : Index := Scalar.indexCast v560
  let c0_95 : Index := 0#32
  ![v561.toNat, 0]

def k0_chk76 (v559 : BitVec 32) : Prop :=
  (8 ∣ (k0_mult76 v559).toNat) ∧
  (∀ a, (k0_off152 v559) a + S8x128.size a ≤ S65536x128.size a)
theorem k0_mult76_dvd : ∀ (v559 : BitVec 32) (k0_hw76 : k0_chk76 v559), 8 ∣ (k0_mult76 v559).toNat := fun v559 k0_hw76 => k0_hw76.1
theorem k0_off152_inb : ∀ (v559 : BitVec 32) (k0_hw76 : k0_chk76 v559), ∀ a, (k0_off152 v559) a + S8x128.size a ≤ S65536x128.size a := fun v559 k0_hw76 => k0_hw76.2

def k0_off153 (k0_t1 : Fin k0_t1_loop.trips) : Fin 2 → Nat :=
  let c0_i32 : BitVec 32 := 0#32
  let c1_i32 : BitVec 32 := 1#32
  let arg13 : BitVec 32 := Scf.iv c0_i32 c1_i32 k0_t1
  let v565 : Index := Scalar.indexCast arg13
  let c76 : Index := 76#32
  ![v565.toNat, 76]
def k0_mult77 (v566 : BitVec 32) : BitVec 32 :=
  v566

def k0_off154 (v566 : BitVec 32) : Fin 2 → Nat :=
  let v567 : BitVec 32 := v566
  let v568 : Index := Scalar.indexCast v567
  let c0_96 : Index := 0#32
  ![v568.toNat, 0]

def k0_chk77 (v566 : BitVec 32) : Prop :=
  (8 ∣ (k0_mult77 v566).toNat) ∧
  (∀ a, (k0_off154 v566) a + S8x128.size a ≤ S65536x128.size a)
theorem k0_mult77_dvd : ∀ (v566 : BitVec 32) (k0_hw77 : k0_chk77 v566), 8 ∣ (k0_mult77 v566).toNat := fun v566 k0_hw77 => k0_hw77.1
theorem k0_off154_inb : ∀ (v566 : BitVec 32) (k0_hw77 : k0_chk77 v566), ∀ a, (k0_off154 v566) a + S8x128.size a ≤ S65536x128.size a := fun v566 k0_hw77 => k0_hw77.2

def k0_off155 (k0_t1 : Fin k0_t1_loop.trips) : Fin 2 → Nat :=
  let c0_i32 : BitVec 32 := 0#32
  let c1_i32 : BitVec 32 := 1#32
  let arg13 : BitVec 32 := Scf.iv c0_i32 c1_i32 k0_t1
  let v572 : Index := Scalar.indexCast arg13
  let c77 : Index := 77#32
  ![v572.toNat, 77]
def k0_mult78 (v573 : BitVec 32) : BitVec 32 :=
  v573

def k0_off156 (v573 : BitVec 32) : Fin 2 → Nat :=
  let v574 : BitVec 32 := v573
  let v575 : Index := Scalar.indexCast v574
  let c0_97 : Index := 0#32
  ![v575.toNat, 0]

def k0_chk78 (v573 : BitVec 32) : Prop :=
  (8 ∣ (k0_mult78 v573).toNat) ∧
  (∀ a, (k0_off156 v573) a + S8x128.size a ≤ S65536x128.size a)
theorem k0_mult78_dvd : ∀ (v573 : BitVec 32) (k0_hw78 : k0_chk78 v573), 8 ∣ (k0_mult78 v573).toNat := fun v573 k0_hw78 => k0_hw78.1
theorem k0_off156_inb : ∀ (v573 : BitVec 32) (k0_hw78 : k0_chk78 v573), ∀ a, (k0_off156 v573) a + S8x128.size a ≤ S65536x128.size a := fun v573 k0_hw78 => k0_hw78.2

def k0_off157 (k0_t1 : Fin k0_t1_loop.trips) : Fin 2 → Nat :=
  let c0_i32 : BitVec 32 := 0#32
  let c1_i32 : BitVec 32 := 1#32
  let arg13 : BitVec 32 := Scf.iv c0_i32 c1_i32 k0_t1
  let v579 : Index := Scalar.indexCast arg13
  let c78 : Index := 78#32
  ![v579.toNat, 78]
def k0_mult79 (v580 : BitVec 32) : BitVec 32 :=
  v580

def k0_off158 (v580 : BitVec 32) : Fin 2 → Nat :=
  let v581 : BitVec 32 := v580
  let v582 : Index := Scalar.indexCast v581
  let c0_98 : Index := 0#32
  ![v582.toNat, 0]

def k0_chk79 (v580 : BitVec 32) : Prop :=
  (8 ∣ (k0_mult79 v580).toNat) ∧
  (∀ a, (k0_off158 v580) a + S8x128.size a ≤ S65536x128.size a)
theorem k0_mult79_dvd : ∀ (v580 : BitVec 32) (k0_hw79 : k0_chk79 v580), 8 ∣ (k0_mult79 v580).toNat := fun v580 k0_hw79 => k0_hw79.1
theorem k0_off158_inb : ∀ (v580 : BitVec 32) (k0_hw79 : k0_chk79 v580), ∀ a, (k0_off158 v580) a + S8x128.size a ≤ S65536x128.size a := fun v580 k0_hw79 => k0_hw79.2

def k0_off159 (k0_t1 : Fin k0_t1_loop.trips) : Fin 2 → Nat :=
  let c0_i32 : BitVec 32 := 0#32
  let c1_i32 : BitVec 32 := 1#32
  let arg13 : BitVec 32 := Scf.iv c0_i32 c1_i32 k0_t1
  let v586 : Index := Scalar.indexCast arg13
  let c79 : Index := 79#32
  ![v586.toNat, 79]
def k0_mult80 (v587 : BitVec 32) : BitVec 32 :=
  v587

def k0_off160 (v587 : BitVec 32) : Fin 2 → Nat :=
  let v588 : BitVec 32 := v587
  let v589 : Index := Scalar.indexCast v588
  let c0_99 : Index := 0#32
  ![v589.toNat, 0]

def k0_chk80 (v587 : BitVec 32) : Prop :=
  (8 ∣ (k0_mult80 v587).toNat) ∧
  (∀ a, (k0_off160 v587) a + S8x128.size a ≤ S65536x128.size a)
theorem k0_mult80_dvd : ∀ (v587 : BitVec 32) (k0_hw80 : k0_chk80 v587), 8 ∣ (k0_mult80 v587).toNat := fun v587 k0_hw80 => k0_hw80.1
theorem k0_off160_inb : ∀ (v587 : BitVec 32) (k0_hw80 : k0_chk80 v587), ∀ a, (k0_off160 v587) a + S8x128.size a ≤ S65536x128.size a := fun v587 k0_hw80 => k0_hw80.2

def k0_off161 (k0_t1 : Fin k0_t1_loop.trips) : Fin 2 → Nat :=
  let c0_i32 : BitVec 32 := 0#32
  let c1_i32 : BitVec 32 := 1#32
  let arg13 : BitVec 32 := Scf.iv c0_i32 c1_i32 k0_t1
  let v593 : Index := Scalar.indexCast arg13
  let c80 : Index := 80#32
  ![v593.toNat, 80]
def k0_mult81 (v594 : BitVec 32) : BitVec 32 :=
  v594

def k0_off162 (v594 : BitVec 32) : Fin 2 → Nat :=
  let v595 : BitVec 32 := v594
  let v596 : Index := Scalar.indexCast v595
  let c0_100 : Index := 0#32
  ![v596.toNat, 0]

def k0_chk81 (v594 : BitVec 32) : Prop :=
  (8 ∣ (k0_mult81 v594).toNat) ∧
  (∀ a, (k0_off162 v594) a + S8x128.size a ≤ S65536x128.size a)
theorem k0_mult81_dvd : ∀ (v594 : BitVec 32) (k0_hw81 : k0_chk81 v594), 8 ∣ (k0_mult81 v594).toNat := fun v594 k0_hw81 => k0_hw81.1
theorem k0_off162_inb : ∀ (v594 : BitVec 32) (k0_hw81 : k0_chk81 v594), ∀ a, (k0_off162 v594) a + S8x128.size a ≤ S65536x128.size a := fun v594 k0_hw81 => k0_hw81.2

def k0_off163 (k0_t1 : Fin k0_t1_loop.trips) : Fin 2 → Nat :=
  let c0_i32 : BitVec 32 := 0#32
  let c1_i32 : BitVec 32 := 1#32
  let arg13 : BitVec 32 := Scf.iv c0_i32 c1_i32 k0_t1
  let v600 : Index := Scalar.indexCast arg13
  let c81 : Index := 81#32
  ![v600.toNat, 81]
def k0_mult82 (v601 : BitVec 32) : BitVec 32 :=
  v601

def k0_off164 (v601 : BitVec 32) : Fin 2 → Nat :=
  let v602 : BitVec 32 := v601
  let v603 : Index := Scalar.indexCast v602
  let c0_101 : Index := 0#32
  ![v603.toNat, 0]

def k0_chk82 (v601 : BitVec 32) : Prop :=
  (8 ∣ (k0_mult82 v601).toNat) ∧
  (∀ a, (k0_off164 v601) a + S8x128.size a ≤ S65536x128.size a)
theorem k0_mult82_dvd : ∀ (v601 : BitVec 32) (k0_hw82 : k0_chk82 v601), 8 ∣ (k0_mult82 v601).toNat := fun v601 k0_hw82 => k0_hw82.1
theorem k0_off164_inb : ∀ (v601 : BitVec 32) (k0_hw82 : k0_chk82 v601), ∀ a, (k0_off164 v601) a + S8x128.size a ≤ S65536x128.size a := fun v601 k0_hw82 => k0_hw82.2

def k0_off165 (k0_t1 : Fin k0_t1_loop.trips) : Fin 2 → Nat :=
  let c0_i32 : BitVec 32 := 0#32
  let c1_i32 : BitVec 32 := 1#32
  let arg13 : BitVec 32 := Scf.iv c0_i32 c1_i32 k0_t1
  let v607 : Index := Scalar.indexCast arg13
  let c82 : Index := 82#32
  ![v607.toNat, 82]
def k0_mult83 (v608 : BitVec 32) : BitVec 32 :=
  v608

def k0_off166 (v608 : BitVec 32) : Fin 2 → Nat :=
  let v609 : BitVec 32 := v608
  let v610 : Index := Scalar.indexCast v609
  let c0_102 : Index := 0#32
  ![v610.toNat, 0]

def k0_chk83 (v608 : BitVec 32) : Prop :=
  (8 ∣ (k0_mult83 v608).toNat) ∧
  (∀ a, (k0_off166 v608) a + S8x128.size a ≤ S65536x128.size a)
theorem k0_mult83_dvd : ∀ (v608 : BitVec 32) (k0_hw83 : k0_chk83 v608), 8 ∣ (k0_mult83 v608).toNat := fun v608 k0_hw83 => k0_hw83.1
theorem k0_off166_inb : ∀ (v608 : BitVec 32) (k0_hw83 : k0_chk83 v608), ∀ a, (k0_off166 v608) a + S8x128.size a ≤ S65536x128.size a := fun v608 k0_hw83 => k0_hw83.2

def k0_off167 (k0_t1 : Fin k0_t1_loop.trips) : Fin 2 → Nat :=
  let c0_i32 : BitVec 32 := 0#32
  let c1_i32 : BitVec 32 := 1#32
  let arg13 : BitVec 32 := Scf.iv c0_i32 c1_i32 k0_t1
  let v614 : Index := Scalar.indexCast arg13
  let c83 : Index := 83#32
  ![v614.toNat, 83]
def k0_mult84 (v615 : BitVec 32) : BitVec 32 :=
  v615

def k0_off168 (v615 : BitVec 32) : Fin 2 → Nat :=
  let v616 : BitVec 32 := v615
  let v617 : Index := Scalar.indexCast v616
  let c0_103 : Index := 0#32
  ![v617.toNat, 0]

def k0_chk84 (v615 : BitVec 32) : Prop :=
  (8 ∣ (k0_mult84 v615).toNat) ∧
  (∀ a, (k0_off168 v615) a + S8x128.size a ≤ S65536x128.size a)
theorem k0_mult84_dvd : ∀ (v615 : BitVec 32) (k0_hw84 : k0_chk84 v615), 8 ∣ (k0_mult84 v615).toNat := fun v615 k0_hw84 => k0_hw84.1
theorem k0_off168_inb : ∀ (v615 : BitVec 32) (k0_hw84 : k0_chk84 v615), ∀ a, (k0_off168 v615) a + S8x128.size a ≤ S65536x128.size a := fun v615 k0_hw84 => k0_hw84.2

def k0_off169 (k0_t1 : Fin k0_t1_loop.trips) : Fin 2 → Nat :=
  let c0_i32 : BitVec 32 := 0#32
  let c1_i32 : BitVec 32 := 1#32
  let arg13 : BitVec 32 := Scf.iv c0_i32 c1_i32 k0_t1
  let v621 : Index := Scalar.indexCast arg13
  let c84 : Index := 84#32
  ![v621.toNat, 84]
def k0_mult85 (v622 : BitVec 32) : BitVec 32 :=
  v622

def k0_off170 (v622 : BitVec 32) : Fin 2 → Nat :=
  let v623 : BitVec 32 := v622
  let v624 : Index := Scalar.indexCast v623
  let c0_104 : Index := 0#32
  ![v624.toNat, 0]

def k0_chk85 (v622 : BitVec 32) : Prop :=
  (8 ∣ (k0_mult85 v622).toNat) ∧
  (∀ a, (k0_off170 v622) a + S8x128.size a ≤ S65536x128.size a)
theorem k0_mult85_dvd : ∀ (v622 : BitVec 32) (k0_hw85 : k0_chk85 v622), 8 ∣ (k0_mult85 v622).toNat := fun v622 k0_hw85 => k0_hw85.1
theorem k0_off170_inb : ∀ (v622 : BitVec 32) (k0_hw85 : k0_chk85 v622), ∀ a, (k0_off170 v622) a + S8x128.size a ≤ S65536x128.size a := fun v622 k0_hw85 => k0_hw85.2

def k0_off171 (k0_t1 : Fin k0_t1_loop.trips) : Fin 2 → Nat :=
  let c0_i32 : BitVec 32 := 0#32
  let c1_i32 : BitVec 32 := 1#32
  let arg13 : BitVec 32 := Scf.iv c0_i32 c1_i32 k0_t1
  let v628 : Index := Scalar.indexCast arg13
  let c85 : Index := 85#32
  ![v628.toNat, 85]
def k0_mult86 (v629 : BitVec 32) : BitVec 32 :=
  v629

def k0_off172 (v629 : BitVec 32) : Fin 2 → Nat :=
  let v630 : BitVec 32 := v629
  let v631 : Index := Scalar.indexCast v630
  let c0_105 : Index := 0#32
  ![v631.toNat, 0]

def k0_chk86 (v629 : BitVec 32) : Prop :=
  (8 ∣ (k0_mult86 v629).toNat) ∧
  (∀ a, (k0_off172 v629) a + S8x128.size a ≤ S65536x128.size a)
theorem k0_mult86_dvd : ∀ (v629 : BitVec 32) (k0_hw86 : k0_chk86 v629), 8 ∣ (k0_mult86 v629).toNat := fun v629 k0_hw86 => k0_hw86.1
theorem k0_off172_inb : ∀ (v629 : BitVec 32) (k0_hw86 : k0_chk86 v629), ∀ a, (k0_off172 v629) a + S8x128.size a ≤ S65536x128.size a := fun v629 k0_hw86 => k0_hw86.2

def k0_off173 (k0_t1 : Fin k0_t1_loop.trips) : Fin 2 → Nat :=
  let c0_i32 : BitVec 32 := 0#32
  let c1_i32 : BitVec 32 := 1#32
  let arg13 : BitVec 32 := Scf.iv c0_i32 c1_i32 k0_t1
  let v635 : Index := Scalar.indexCast arg13
  let c86 : Index := 86#32
  ![v635.toNat, 86]
def k0_mult87 (v636 : BitVec 32) : BitVec 32 :=
  v636

def k0_off174 (v636 : BitVec 32) : Fin 2 → Nat :=
  let v637 : BitVec 32 := v636
  let v638 : Index := Scalar.indexCast v637
  let c0_106 : Index := 0#32
  ![v638.toNat, 0]

def k0_chk87 (v636 : BitVec 32) : Prop :=
  (8 ∣ (k0_mult87 v636).toNat) ∧
  (∀ a, (k0_off174 v636) a + S8x128.size a ≤ S65536x128.size a)
theorem k0_mult87_dvd : ∀ (v636 : BitVec 32) (k0_hw87 : k0_chk87 v636), 8 ∣ (k0_mult87 v636).toNat := fun v636 k0_hw87 => k0_hw87.1
theorem k0_off174_inb : ∀ (v636 : BitVec 32) (k0_hw87 : k0_chk87 v636), ∀ a, (k0_off174 v636) a + S8x128.size a ≤ S65536x128.size a := fun v636 k0_hw87 => k0_hw87.2

def k0_off175 (k0_t1 : Fin k0_t1_loop.trips) : Fin 2 → Nat :=
  let c0_i32 : BitVec 32 := 0#32
  let c1_i32 : BitVec 32 := 1#32
  let arg13 : BitVec 32 := Scf.iv c0_i32 c1_i32 k0_t1
  let v642 : Index := Scalar.indexCast arg13
  let c87 : Index := 87#32
  ![v642.toNat, 87]
def k0_mult88 (v643 : BitVec 32) : BitVec 32 :=
  v643

def k0_off176 (v643 : BitVec 32) : Fin 2 → Nat :=
  let v644 : BitVec 32 := v643
  let v645 : Index := Scalar.indexCast v644
  let c0_107 : Index := 0#32
  ![v645.toNat, 0]

def k0_chk88 (v643 : BitVec 32) : Prop :=
  (8 ∣ (k0_mult88 v643).toNat) ∧
  (∀ a, (k0_off176 v643) a + S8x128.size a ≤ S65536x128.size a)
theorem k0_mult88_dvd : ∀ (v643 : BitVec 32) (k0_hw88 : k0_chk88 v643), 8 ∣ (k0_mult88 v643).toNat := fun v643 k0_hw88 => k0_hw88.1
theorem k0_off176_inb : ∀ (v643 : BitVec 32) (k0_hw88 : k0_chk88 v643), ∀ a, (k0_off176 v643) a + S8x128.size a ≤ S65536x128.size a := fun v643 k0_hw88 => k0_hw88.2

def k0_off177 (k0_t1 : Fin k0_t1_loop.trips) : Fin 2 → Nat :=
  let c0_i32 : BitVec 32 := 0#32
  let c1_i32 : BitVec 32 := 1#32
  let arg13 : BitVec 32 := Scf.iv c0_i32 c1_i32 k0_t1
  let v649 : Index := Scalar.indexCast arg13
  let c88 : Index := 88#32
  ![v649.toNat, 88]
def k0_mult89 (v650 : BitVec 32) : BitVec 32 :=
  v650

def k0_off178 (v650 : BitVec 32) : Fin 2 → Nat :=
  let v651 : BitVec 32 := v650
  let v652 : Index := Scalar.indexCast v651
  let c0_108 : Index := 0#32
  ![v652.toNat, 0]

def k0_chk89 (v650 : BitVec 32) : Prop :=
  (8 ∣ (k0_mult89 v650).toNat) ∧
  (∀ a, (k0_off178 v650) a + S8x128.size a ≤ S65536x128.size a)
theorem k0_mult89_dvd : ∀ (v650 : BitVec 32) (k0_hw89 : k0_chk89 v650), 8 ∣ (k0_mult89 v650).toNat := fun v650 k0_hw89 => k0_hw89.1
theorem k0_off178_inb : ∀ (v650 : BitVec 32) (k0_hw89 : k0_chk89 v650), ∀ a, (k0_off178 v650) a + S8x128.size a ≤ S65536x128.size a := fun v650 k0_hw89 => k0_hw89.2

def k0_off179 (k0_t1 : Fin k0_t1_loop.trips) : Fin 2 → Nat :=
  let c0_i32 : BitVec 32 := 0#32
  let c1_i32 : BitVec 32 := 1#32
  let arg13 : BitVec 32 := Scf.iv c0_i32 c1_i32 k0_t1
  let v656 : Index := Scalar.indexCast arg13
  let c89 : Index := 89#32
  ![v656.toNat, 89]
def k0_mult90 (v657 : BitVec 32) : BitVec 32 :=
  v657

def k0_off180 (v657 : BitVec 32) : Fin 2 → Nat :=
  let v658 : BitVec 32 := v657
  let v659 : Index := Scalar.indexCast v658
  let c0_109 : Index := 0#32
  ![v659.toNat, 0]

def k0_chk90 (v657 : BitVec 32) : Prop :=
  (8 ∣ (k0_mult90 v657).toNat) ∧
  (∀ a, (k0_off180 v657) a + S8x128.size a ≤ S65536x128.size a)
theorem k0_mult90_dvd : ∀ (v657 : BitVec 32) (k0_hw90 : k0_chk90 v657), 8 ∣ (k0_mult90 v657).toNat := fun v657 k0_hw90 => k0_hw90.1
theorem k0_off180_inb : ∀ (v657 : BitVec 32) (k0_hw90 : k0_chk90 v657), ∀ a, (k0_off180 v657) a + S8x128.size a ≤ S65536x128.size a := fun v657 k0_hw90 => k0_hw90.2

def k0_off181 (k0_t1 : Fin k0_t1_loop.trips) : Fin 2 → Nat :=
  let c0_i32 : BitVec 32 := 0#32
  let c1_i32 : BitVec 32 := 1#32
  let arg13 : BitVec 32 := Scf.iv c0_i32 c1_i32 k0_t1
  let v663 : Index := Scalar.indexCast arg13
  let c90 : Index := 90#32
  ![v663.toNat, 90]
def k0_mult91 (v664 : BitVec 32) : BitVec 32 :=
  v664

def k0_off182 (v664 : BitVec 32) : Fin 2 → Nat :=
  let v665 : BitVec 32 := v664
  let v666 : Index := Scalar.indexCast v665
  let c0_110 : Index := 0#32
  ![v666.toNat, 0]

def k0_chk91 (v664 : BitVec 32) : Prop :=
  (8 ∣ (k0_mult91 v664).toNat) ∧
  (∀ a, (k0_off182 v664) a + S8x128.size a ≤ S65536x128.size a)
theorem k0_mult91_dvd : ∀ (v664 : BitVec 32) (k0_hw91 : k0_chk91 v664), 8 ∣ (k0_mult91 v664).toNat := fun v664 k0_hw91 => k0_hw91.1
theorem k0_off182_inb : ∀ (v664 : BitVec 32) (k0_hw91 : k0_chk91 v664), ∀ a, (k0_off182 v664) a + S8x128.size a ≤ S65536x128.size a := fun v664 k0_hw91 => k0_hw91.2

def k0_off183 (k0_t1 : Fin k0_t1_loop.trips) : Fin 2 → Nat :=
  let c0_i32 : BitVec 32 := 0#32
  let c1_i32 : BitVec 32 := 1#32
  let arg13 : BitVec 32 := Scf.iv c0_i32 c1_i32 k0_t1
  let v670 : Index := Scalar.indexCast arg13
  let c91 : Index := 91#32
  ![v670.toNat, 91]
def k0_mult92 (v671 : BitVec 32) : BitVec 32 :=
  v671

def k0_off184 (v671 : BitVec 32) : Fin 2 → Nat :=
  let v672 : BitVec 32 := v671
  let v673 : Index := Scalar.indexCast v672
  let c0_111 : Index := 0#32
  ![v673.toNat, 0]

def k0_chk92 (v671 : BitVec 32) : Prop :=
  (8 ∣ (k0_mult92 v671).toNat) ∧
  (∀ a, (k0_off184 v671) a + S8x128.size a ≤ S65536x128.size a)
theorem k0_mult92_dvd : ∀ (v671 : BitVec 32) (k0_hw92 : k0_chk92 v671), 8 ∣ (k0_mult92 v671).toNat := fun v671 k0_hw92 => k0_hw92.1
theorem k0_off184_inb : ∀ (v671 : BitVec 32) (k0_hw92 : k0_chk92 v671), ∀ a, (k0_off184 v671) a + S8x128.size a ≤ S65536x128.size a := fun v671 k0_hw92 => k0_hw92.2

def k0_off185 (k0_t1 : Fin k0_t1_loop.trips) : Fin 2 → Nat :=
  let c0_i32 : BitVec 32 := 0#32
  let c1_i32 : BitVec 32 := 1#32
  let arg13 : BitVec 32 := Scf.iv c0_i32 c1_i32 k0_t1
  let v677 : Index := Scalar.indexCast arg13
  let c92 : Index := 92#32
  ![v677.toNat, 92]
def k0_mult93 (v678 : BitVec 32) : BitVec 32 :=
  v678

def k0_off186 (v678 : BitVec 32) : Fin 2 → Nat :=
  let v679 : BitVec 32 := v678
  let v680 : Index := Scalar.indexCast v679
  let c0_112 : Index := 0#32
  ![v680.toNat, 0]

def k0_chk93 (v678 : BitVec 32) : Prop :=
  (8 ∣ (k0_mult93 v678).toNat) ∧
  (∀ a, (k0_off186 v678) a + S8x128.size a ≤ S65536x128.size a)
theorem k0_mult93_dvd : ∀ (v678 : BitVec 32) (k0_hw93 : k0_chk93 v678), 8 ∣ (k0_mult93 v678).toNat := fun v678 k0_hw93 => k0_hw93.1
theorem k0_off186_inb : ∀ (v678 : BitVec 32) (k0_hw93 : k0_chk93 v678), ∀ a, (k0_off186 v678) a + S8x128.size a ≤ S65536x128.size a := fun v678 k0_hw93 => k0_hw93.2

def k0_off187 (k0_t1 : Fin k0_t1_loop.trips) : Fin 2 → Nat :=
  let c0_i32 : BitVec 32 := 0#32
  let c1_i32 : BitVec 32 := 1#32
  let arg13 : BitVec 32 := Scf.iv c0_i32 c1_i32 k0_t1
  let v684 : Index := Scalar.indexCast arg13
  let c93 : Index := 93#32
  ![v684.toNat, 93]
def k0_mult94 (v685 : BitVec 32) : BitVec 32 :=
  v685

def k0_off188 (v685 : BitVec 32) : Fin 2 → Nat :=
  let v686 : BitVec 32 := v685
  let v687 : Index := Scalar.indexCast v686
  let c0_113 : Index := 0#32
  ![v687.toNat, 0]

def k0_chk94 (v685 : BitVec 32) : Prop :=
  (8 ∣ (k0_mult94 v685).toNat) ∧
  (∀ a, (k0_off188 v685) a + S8x128.size a ≤ S65536x128.size a)
theorem k0_mult94_dvd : ∀ (v685 : BitVec 32) (k0_hw94 : k0_chk94 v685), 8 ∣ (k0_mult94 v685).toNat := fun v685 k0_hw94 => k0_hw94.1
theorem k0_off188_inb : ∀ (v685 : BitVec 32) (k0_hw94 : k0_chk94 v685), ∀ a, (k0_off188 v685) a + S8x128.size a ≤ S65536x128.size a := fun v685 k0_hw94 => k0_hw94.2

def k0_off189 (k0_t1 : Fin k0_t1_loop.trips) : Fin 2 → Nat :=
  let c0_i32 : BitVec 32 := 0#32
  let c1_i32 : BitVec 32 := 1#32
  let arg13 : BitVec 32 := Scf.iv c0_i32 c1_i32 k0_t1
  let v691 : Index := Scalar.indexCast arg13
  let c94 : Index := 94#32
  ![v691.toNat, 94]
def k0_mult95 (v692 : BitVec 32) : BitVec 32 :=
  v692

def k0_off190 (v692 : BitVec 32) : Fin 2 → Nat :=
  let v693 : BitVec 32 := v692
  let v694 : Index := Scalar.indexCast v693
  let c0_114 : Index := 0#32
  ![v694.toNat, 0]

def k0_chk95 (v692 : BitVec 32) : Prop :=
  (8 ∣ (k0_mult95 v692).toNat) ∧
  (∀ a, (k0_off190 v692) a + S8x128.size a ≤ S65536x128.size a)
theorem k0_mult95_dvd : ∀ (v692 : BitVec 32) (k0_hw95 : k0_chk95 v692), 8 ∣ (k0_mult95 v692).toNat := fun v692 k0_hw95 => k0_hw95.1
theorem k0_off190_inb : ∀ (v692 : BitVec 32) (k0_hw95 : k0_chk95 v692), ∀ a, (k0_off190 v692) a + S8x128.size a ≤ S65536x128.size a := fun v692 k0_hw95 => k0_hw95.2

def k0_off191 (k0_t1 : Fin k0_t1_loop.trips) : Fin 2 → Nat :=
  let c0_i32 : BitVec 32 := 0#32
  let c1_i32 : BitVec 32 := 1#32
  let arg13 : BitVec 32 := Scf.iv c0_i32 c1_i32 k0_t1
  let v698 : Index := Scalar.indexCast arg13
  let c95 : Index := 95#32
  ![v698.toNat, 95]
def k0_mult96 (v699 : BitVec 32) : BitVec 32 :=
  v699

def k0_off192 (v699 : BitVec 32) : Fin 2 → Nat :=
  let v700 : BitVec 32 := v699
  let v701 : Index := Scalar.indexCast v700
  let c0_115 : Index := 0#32
  ![v701.toNat, 0]

def k0_chk96 (v699 : BitVec 32) : Prop :=
  (8 ∣ (k0_mult96 v699).toNat) ∧
  (∀ a, (k0_off192 v699) a + S8x128.size a ≤ S65536x128.size a)
theorem k0_mult96_dvd : ∀ (v699 : BitVec 32) (k0_hw96 : k0_chk96 v699), 8 ∣ (k0_mult96 v699).toNat := fun v699 k0_hw96 => k0_hw96.1
theorem k0_off192_inb : ∀ (v699 : BitVec 32) (k0_hw96 : k0_chk96 v699), ∀ a, (k0_off192 v699) a + S8x128.size a ≤ S65536x128.size a := fun v699 k0_hw96 => k0_hw96.2

def k0_off193 (k0_t1 : Fin k0_t1_loop.trips) : Fin 2 → Nat :=
  let c0_i32 : BitVec 32 := 0#32
  let c1_i32 : BitVec 32 := 1#32
  let arg13 : BitVec 32 := Scf.iv c0_i32 c1_i32 k0_t1
  let v705 : Index := Scalar.indexCast arg13
  let c96 : Index := 96#32
  ![v705.toNat, 96]
def k0_mult97 (v706 : BitVec 32) : BitVec 32 :=
  v706

def k0_off194 (v706 : BitVec 32) : Fin 2 → Nat :=
  let v707 : BitVec 32 := v706
  let v708 : Index := Scalar.indexCast v707
  let c0_116 : Index := 0#32
  ![v708.toNat, 0]

def k0_chk97 (v706 : BitVec 32) : Prop :=
  (8 ∣ (k0_mult97 v706).toNat) ∧
  (∀ a, (k0_off194 v706) a + S8x128.size a ≤ S65536x128.size a)
theorem k0_mult97_dvd : ∀ (v706 : BitVec 32) (k0_hw97 : k0_chk97 v706), 8 ∣ (k0_mult97 v706).toNat := fun v706 k0_hw97 => k0_hw97.1
theorem k0_off194_inb : ∀ (v706 : BitVec 32) (k0_hw97 : k0_chk97 v706), ∀ a, (k0_off194 v706) a + S8x128.size a ≤ S65536x128.size a := fun v706 k0_hw97 => k0_hw97.2

def k0_off195 (k0_t1 : Fin k0_t1_loop.trips) : Fin 2 → Nat :=
  let c0_i32 : BitVec 32 := 0#32
  let c1_i32 : BitVec 32 := 1#32
  let arg13 : BitVec 32 := Scf.iv c0_i32 c1_i32 k0_t1
  let v712 : Index := Scalar.indexCast arg13
  let c97 : Index := 97#32
  ![v712.toNat, 97]
def k0_mult98 (v713 : BitVec 32) : BitVec 32 :=
  v713

def k0_off196 (v713 : BitVec 32) : Fin 2 → Nat :=
  let v714 : BitVec 32 := v713
  let v715 : Index := Scalar.indexCast v714
  let c0_117 : Index := 0#32
  ![v715.toNat, 0]

def k0_chk98 (v713 : BitVec 32) : Prop :=
  (8 ∣ (k0_mult98 v713).toNat) ∧
  (∀ a, (k0_off196 v713) a + S8x128.size a ≤ S65536x128.size a)
theorem k0_mult98_dvd : ∀ (v713 : BitVec 32) (k0_hw98 : k0_chk98 v713), 8 ∣ (k0_mult98 v713).toNat := fun v713 k0_hw98 => k0_hw98.1
theorem k0_off196_inb : ∀ (v713 : BitVec 32) (k0_hw98 : k0_chk98 v713), ∀ a, (k0_off196 v713) a + S8x128.size a ≤ S65536x128.size a := fun v713 k0_hw98 => k0_hw98.2

def k0_off197 (k0_t1 : Fin k0_t1_loop.trips) : Fin 2 → Nat :=
  let c0_i32 : BitVec 32 := 0#32
  let c1_i32 : BitVec 32 := 1#32
  let arg13 : BitVec 32 := Scf.iv c0_i32 c1_i32 k0_t1
  let v719 : Index := Scalar.indexCast arg13
  let c98 : Index := 98#32
  ![v719.toNat, 98]
def k0_mult99 (v720 : BitVec 32) : BitVec 32 :=
  v720

def k0_off198 (v720 : BitVec 32) : Fin 2 → Nat :=
  let v721 : BitVec 32 := v720
  let v722 : Index := Scalar.indexCast v721
  let c0_118 : Index := 0#32
  ![v722.toNat, 0]

def k0_chk99 (v720 : BitVec 32) : Prop :=
  (8 ∣ (k0_mult99 v720).toNat) ∧
  (∀ a, (k0_off198 v720) a + S8x128.size a ≤ S65536x128.size a)
theorem k0_mult99_dvd : ∀ (v720 : BitVec 32) (k0_hw99 : k0_chk99 v720), 8 ∣ (k0_mult99 v720).toNat := fun v720 k0_hw99 => k0_hw99.1
theorem k0_off198_inb : ∀ (v720 : BitVec 32) (k0_hw99 : k0_chk99 v720), ∀ a, (k0_off198 v720) a + S8x128.size a ≤ S65536x128.size a := fun v720 k0_hw99 => k0_hw99.2

def k0_off199 (k0_t1 : Fin k0_t1_loop.trips) : Fin 2 → Nat :=
  let c0_i32 : BitVec 32 := 0#32
  let c1_i32 : BitVec 32 := 1#32
  let arg13 : BitVec 32 := Scf.iv c0_i32 c1_i32 k0_t1
  let v726 : Index := Scalar.indexCast arg13
  let c99 : Index := 99#32
  ![v726.toNat, 99]
def k0_mult100 (v727 : BitVec 32) : BitVec 32 :=
  v727

def k0_off200 (v727 : BitVec 32) : Fin 2 → Nat :=
  let v728 : BitVec 32 := v727
  let v729 : Index := Scalar.indexCast v728
  let c0_119 : Index := 0#32
  ![v729.toNat, 0]

def k0_chk100 (v727 : BitVec 32) : Prop :=
  (8 ∣ (k0_mult100 v727).toNat) ∧
  (∀ a, (k0_off200 v727) a + S8x128.size a ≤ S65536x128.size a)
theorem k0_mult100_dvd : ∀ (v727 : BitVec 32) (k0_hw100 : k0_chk100 v727), 8 ∣ (k0_mult100 v727).toNat := fun v727 k0_hw100 => k0_hw100.1
theorem k0_off200_inb : ∀ (v727 : BitVec 32) (k0_hw100 : k0_chk100 v727), ∀ a, (k0_off200 v727) a + S8x128.size a ≤ S65536x128.size a := fun v727 k0_hw100 => k0_hw100.2

def k0_off201 (k0_t1 : Fin k0_t1_loop.trips) : Fin 2 → Nat :=
  let c0_i32 : BitVec 32 := 0#32
  let c1_i32 : BitVec 32 := 1#32
  let arg13 : BitVec 32 := Scf.iv c0_i32 c1_i32 k0_t1
  let v733 : Index := Scalar.indexCast arg13
  let c100 : Index := 100#32
  ![v733.toNat, 100]
def k0_mult101 (v734 : BitVec 32) : BitVec 32 :=
  v734

def k0_off202 (v734 : BitVec 32) : Fin 2 → Nat :=
  let v735 : BitVec 32 := v734
  let v736 : Index := Scalar.indexCast v735
  let c0_120 : Index := 0#32
  ![v736.toNat, 0]

def k0_chk101 (v734 : BitVec 32) : Prop :=
  (8 ∣ (k0_mult101 v734).toNat) ∧
  (∀ a, (k0_off202 v734) a + S8x128.size a ≤ S65536x128.size a)
theorem k0_mult101_dvd : ∀ (v734 : BitVec 32) (k0_hw101 : k0_chk101 v734), 8 ∣ (k0_mult101 v734).toNat := fun v734 k0_hw101 => k0_hw101.1
theorem k0_off202_inb : ∀ (v734 : BitVec 32) (k0_hw101 : k0_chk101 v734), ∀ a, (k0_off202 v734) a + S8x128.size a ≤ S65536x128.size a := fun v734 k0_hw101 => k0_hw101.2

def k0_off203 (k0_t1 : Fin k0_t1_loop.trips) : Fin 2 → Nat :=
  let c0_i32 : BitVec 32 := 0#32
  let c1_i32 : BitVec 32 := 1#32
  let arg13 : BitVec 32 := Scf.iv c0_i32 c1_i32 k0_t1
  let v740 : Index := Scalar.indexCast arg13
  let c101 : Index := 101#32
  ![v740.toNat, 101]
def k0_mult102 (v741 : BitVec 32) : BitVec 32 :=
  v741

def k0_off204 (v741 : BitVec 32) : Fin 2 → Nat :=
  let v742 : BitVec 32 := v741
  let v743 : Index := Scalar.indexCast v742
  let c0_121 : Index := 0#32
  ![v743.toNat, 0]

def k0_chk102 (v741 : BitVec 32) : Prop :=
  (8 ∣ (k0_mult102 v741).toNat) ∧
  (∀ a, (k0_off204 v741) a + S8x128.size a ≤ S65536x128.size a)
theorem k0_mult102_dvd : ∀ (v741 : BitVec 32) (k0_hw102 : k0_chk102 v741), 8 ∣ (k0_mult102 v741).toNat := fun v741 k0_hw102 => k0_hw102.1
theorem k0_off204_inb : ∀ (v741 : BitVec 32) (k0_hw102 : k0_chk102 v741), ∀ a, (k0_off204 v741) a + S8x128.size a ≤ S65536x128.size a := fun v741 k0_hw102 => k0_hw102.2

def k0_off205 (k0_t1 : Fin k0_t1_loop.trips) : Fin 2 → Nat :=
  let c0_i32 : BitVec 32 := 0#32
  let c1_i32 : BitVec 32 := 1#32
  let arg13 : BitVec 32 := Scf.iv c0_i32 c1_i32 k0_t1
  let v747 : Index := Scalar.indexCast arg13
  let c102 : Index := 102#32
  ![v747.toNat, 102]
def k0_mult103 (v748 : BitVec 32) : BitVec 32 :=
  v748

def k0_off206 (v748 : BitVec 32) : Fin 2 → Nat :=
  let v749 : BitVec 32 := v748
  let v750 : Index := Scalar.indexCast v749
  let c0_122 : Index := 0#32
  ![v750.toNat, 0]

def k0_chk103 (v748 : BitVec 32) : Prop :=
  (8 ∣ (k0_mult103 v748).toNat) ∧
  (∀ a, (k0_off206 v748) a + S8x128.size a ≤ S65536x128.size a)
theorem k0_mult103_dvd : ∀ (v748 : BitVec 32) (k0_hw103 : k0_chk103 v748), 8 ∣ (k0_mult103 v748).toNat := fun v748 k0_hw103 => k0_hw103.1
theorem k0_off206_inb : ∀ (v748 : BitVec 32) (k0_hw103 : k0_chk103 v748), ∀ a, (k0_off206 v748) a + S8x128.size a ≤ S65536x128.size a := fun v748 k0_hw103 => k0_hw103.2

def k0_off207 (k0_t1 : Fin k0_t1_loop.trips) : Fin 2 → Nat :=
  let c0_i32 : BitVec 32 := 0#32
  let c1_i32 : BitVec 32 := 1#32
  let arg13 : BitVec 32 := Scf.iv c0_i32 c1_i32 k0_t1
  let v754 : Index := Scalar.indexCast arg13
  let c103 : Index := 103#32
  ![v754.toNat, 103]
def k0_mult104 (v755 : BitVec 32) : BitVec 32 :=
  v755

def k0_off208 (v755 : BitVec 32) : Fin 2 → Nat :=
  let v756 : BitVec 32 := v755
  let v757 : Index := Scalar.indexCast v756
  let c0_123 : Index := 0#32
  ![v757.toNat, 0]

def k0_chk104 (v755 : BitVec 32) : Prop :=
  (8 ∣ (k0_mult104 v755).toNat) ∧
  (∀ a, (k0_off208 v755) a + S8x128.size a ≤ S65536x128.size a)
theorem k0_mult104_dvd : ∀ (v755 : BitVec 32) (k0_hw104 : k0_chk104 v755), 8 ∣ (k0_mult104 v755).toNat := fun v755 k0_hw104 => k0_hw104.1
theorem k0_off208_inb : ∀ (v755 : BitVec 32) (k0_hw104 : k0_chk104 v755), ∀ a, (k0_off208 v755) a + S8x128.size a ≤ S65536x128.size a := fun v755 k0_hw104 => k0_hw104.2

def k0_off209 (k0_t1 : Fin k0_t1_loop.trips) : Fin 2 → Nat :=
  let c0_i32 : BitVec 32 := 0#32
  let c1_i32 : BitVec 32 := 1#32
  let arg13 : BitVec 32 := Scf.iv c0_i32 c1_i32 k0_t1
  let v761 : Index := Scalar.indexCast arg13
  let c104 : Index := 104#32
  ![v761.toNat, 104]
def k0_mult105 (v762 : BitVec 32) : BitVec 32 :=
  v762

def k0_off210 (v762 : BitVec 32) : Fin 2 → Nat :=
  let v763 : BitVec 32 := v762
  let v764 : Index := Scalar.indexCast v763
  let c0_124 : Index := 0#32
  ![v764.toNat, 0]

def k0_chk105 (v762 : BitVec 32) : Prop :=
  (8 ∣ (k0_mult105 v762).toNat) ∧
  (∀ a, (k0_off210 v762) a + S8x128.size a ≤ S65536x128.size a)
theorem k0_mult105_dvd : ∀ (v762 : BitVec 32) (k0_hw105 : k0_chk105 v762), 8 ∣ (k0_mult105 v762).toNat := fun v762 k0_hw105 => k0_hw105.1
theorem k0_off210_inb : ∀ (v762 : BitVec 32) (k0_hw105 : k0_chk105 v762), ∀ a, (k0_off210 v762) a + S8x128.size a ≤ S65536x128.size a := fun v762 k0_hw105 => k0_hw105.2

def k0_off211 (k0_t1 : Fin k0_t1_loop.trips) : Fin 2 → Nat :=
  let c0_i32 : BitVec 32 := 0#32
  let c1_i32 : BitVec 32 := 1#32
  let arg13 : BitVec 32 := Scf.iv c0_i32 c1_i32 k0_t1
  let v768 : Index := Scalar.indexCast arg13
  let c105 : Index := 105#32
  ![v768.toNat, 105]
def k0_mult106 (v769 : BitVec 32) : BitVec 32 :=
  v769

def k0_off212 (v769 : BitVec 32) : Fin 2 → Nat :=
  let v770 : BitVec 32 := v769
  let v771 : Index := Scalar.indexCast v770
  let c0_125 : Index := 0#32
  ![v771.toNat, 0]

def k0_chk106 (v769 : BitVec 32) : Prop :=
  (8 ∣ (k0_mult106 v769).toNat) ∧
  (∀ a, (k0_off212 v769) a + S8x128.size a ≤ S65536x128.size a)
theorem k0_mult106_dvd : ∀ (v769 : BitVec 32) (k0_hw106 : k0_chk106 v769), 8 ∣ (k0_mult106 v769).toNat := fun v769 k0_hw106 => k0_hw106.1
theorem k0_off212_inb : ∀ (v769 : BitVec 32) (k0_hw106 : k0_chk106 v769), ∀ a, (k0_off212 v769) a + S8x128.size a ≤ S65536x128.size a := fun v769 k0_hw106 => k0_hw106.2

def k0_off213 (k0_t1 : Fin k0_t1_loop.trips) : Fin 2 → Nat :=
  let c0_i32 : BitVec 32 := 0#32
  let c1_i32 : BitVec 32 := 1#32
  let arg13 : BitVec 32 := Scf.iv c0_i32 c1_i32 k0_t1
  let v775 : Index := Scalar.indexCast arg13
  let c106 : Index := 106#32
  ![v775.toNat, 106]
def k0_mult107 (v776 : BitVec 32) : BitVec 32 :=
  v776

def k0_off214 (v776 : BitVec 32) : Fin 2 → Nat :=
  let v777 : BitVec 32 := v776
  let v778 : Index := Scalar.indexCast v777
  let c0_126 : Index := 0#32
  ![v778.toNat, 0]

def k0_chk107 (v776 : BitVec 32) : Prop :=
  (8 ∣ (k0_mult107 v776).toNat) ∧
  (∀ a, (k0_off214 v776) a + S8x128.size a ≤ S65536x128.size a)
theorem k0_mult107_dvd : ∀ (v776 : BitVec 32) (k0_hw107 : k0_chk107 v776), 8 ∣ (k0_mult107 v776).toNat := fun v776 k0_hw107 => k0_hw107.1
theorem k0_off214_inb : ∀ (v776 : BitVec 32) (k0_hw107 : k0_chk107 v776), ∀ a, (k0_off214 v776) a + S8x128.size a ≤ S65536x128.size a := fun v776 k0_hw107 => k0_hw107.2

def k0_off215 (k0_t1 : Fin k0_t1_loop.trips) : Fin 2 → Nat :=
  let c0_i32 : BitVec 32 := 0#32
  let c1_i32 : BitVec 32 := 1#32
  let arg13 : BitVec 32 := Scf.iv c0_i32 c1_i32 k0_t1
  let v782 : Index := Scalar.indexCast arg13
  let c107 : Index := 107#32
  ![v782.toNat, 107]
def k0_mult108 (v783 : BitVec 32) : BitVec 32 :=
  v783

def k0_off216 (v783 : BitVec 32) : Fin 2 → Nat :=
  let v784 : BitVec 32 := v783
  let v785 : Index := Scalar.indexCast v784
  let c0_127 : Index := 0#32
  ![v785.toNat, 0]

def k0_chk108 (v783 : BitVec 32) : Prop :=
  (8 ∣ (k0_mult108 v783).toNat) ∧
  (∀ a, (k0_off216 v783) a + S8x128.size a ≤ S65536x128.size a)
theorem k0_mult108_dvd : ∀ (v783 : BitVec 32) (k0_hw108 : k0_chk108 v783), 8 ∣ (k0_mult108 v783).toNat := fun v783 k0_hw108 => k0_hw108.1
theorem k0_off216_inb : ∀ (v783 : BitVec 32) (k0_hw108 : k0_chk108 v783), ∀ a, (k0_off216 v783) a + S8x128.size a ≤ S65536x128.size a := fun v783 k0_hw108 => k0_hw108.2

def k0_off217 (k0_t1 : Fin k0_t1_loop.trips) : Fin 2 → Nat :=
  let c0_i32 : BitVec 32 := 0#32
  let c1_i32 : BitVec 32 := 1#32
  let arg13 : BitVec 32 := Scf.iv c0_i32 c1_i32 k0_t1
  let v789 : Index := Scalar.indexCast arg13
  let c108 : Index := 108#32
  ![v789.toNat, 108]
def k0_mult109 (v790 : BitVec 32) : BitVec 32 :=
  v790

def k0_off218 (v790 : BitVec 32) : Fin 2 → Nat :=
  let v791 : BitVec 32 := v790
  let v792 : Index := Scalar.indexCast v791
  let c0_128 : Index := 0#32
  ![v792.toNat, 0]

def k0_chk109 (v790 : BitVec 32) : Prop :=
  (8 ∣ (k0_mult109 v790).toNat) ∧
  (∀ a, (k0_off218 v790) a + S8x128.size a ≤ S65536x128.size a)
theorem k0_mult109_dvd : ∀ (v790 : BitVec 32) (k0_hw109 : k0_chk109 v790), 8 ∣ (k0_mult109 v790).toNat := fun v790 k0_hw109 => k0_hw109.1
theorem k0_off218_inb : ∀ (v790 : BitVec 32) (k0_hw109 : k0_chk109 v790), ∀ a, (k0_off218 v790) a + S8x128.size a ≤ S65536x128.size a := fun v790 k0_hw109 => k0_hw109.2

def k0_off219 (k0_t1 : Fin k0_t1_loop.trips) : Fin 2 → Nat :=
  let c0_i32 : BitVec 32 := 0#32
  let c1_i32 : BitVec 32 := 1#32
  let arg13 : BitVec 32 := Scf.iv c0_i32 c1_i32 k0_t1
  let v796 : Index := Scalar.indexCast arg13
  let c109 : Index := 109#32
  ![v796.toNat, 109]
def k0_mult110 (v797 : BitVec 32) : BitVec 32 :=
  v797

def k0_off220 (v797 : BitVec 32) : Fin 2 → Nat :=
  let v798 : BitVec 32 := v797
  let v799 : Index := Scalar.indexCast v798
  let c0_129 : Index := 0#32
  ![v799.toNat, 0]

def k0_chk110 (v797 : BitVec 32) : Prop :=
  (8 ∣ (k0_mult110 v797).toNat) ∧
  (∀ a, (k0_off220 v797) a + S8x128.size a ≤ S65536x128.size a)
theorem k0_mult110_dvd : ∀ (v797 : BitVec 32) (k0_hw110 : k0_chk110 v797), 8 ∣ (k0_mult110 v797).toNat := fun v797 k0_hw110 => k0_hw110.1
theorem k0_off220_inb : ∀ (v797 : BitVec 32) (k0_hw110 : k0_chk110 v797), ∀ a, (k0_off220 v797) a + S8x128.size a ≤ S65536x128.size a := fun v797 k0_hw110 => k0_hw110.2

def k0_off221 (k0_t1 : Fin k0_t1_loop.trips) : Fin 2 → Nat :=
  let c0_i32 : BitVec 32 := 0#32
  let c1_i32 : BitVec 32 := 1#32
  let arg13 : BitVec 32 := Scf.iv c0_i32 c1_i32 k0_t1
  let v803 : Index := Scalar.indexCast arg13
  let c110 : Index := 110#32
  ![v803.toNat, 110]
def k0_mult111 (v804 : BitVec 32) : BitVec 32 :=
  v804

def k0_off222 (v804 : BitVec 32) : Fin 2 → Nat :=
  let v805 : BitVec 32 := v804
  let v806 : Index := Scalar.indexCast v805
  let c0_130 : Index := 0#32
  ![v806.toNat, 0]

def k0_chk111 (v804 : BitVec 32) : Prop :=
  (8 ∣ (k0_mult111 v804).toNat) ∧
  (∀ a, (k0_off222 v804) a + S8x128.size a ≤ S65536x128.size a)
theorem k0_mult111_dvd : ∀ (v804 : BitVec 32) (k0_hw111 : k0_chk111 v804), 8 ∣ (k0_mult111 v804).toNat := fun v804 k0_hw111 => k0_hw111.1
theorem k0_off222_inb : ∀ (v804 : BitVec 32) (k0_hw111 : k0_chk111 v804), ∀ a, (k0_off222 v804) a + S8x128.size a ≤ S65536x128.size a := fun v804 k0_hw111 => k0_hw111.2

def k0_off223 (k0_t1 : Fin k0_t1_loop.trips) : Fin 2 → Nat :=
  let c0_i32 : BitVec 32 := 0#32
  let c1_i32 : BitVec 32 := 1#32
  let arg13 : BitVec 32 := Scf.iv c0_i32 c1_i32 k0_t1
  let v810 : Index := Scalar.indexCast arg13
  let c111 : Index := 111#32
  ![v810.toNat, 111]
def k0_mult112 (v811 : BitVec 32) : BitVec 32 :=
  v811

def k0_off224 (v811 : BitVec 32) : Fin 2 → Nat :=
  let v812 : BitVec 32 := v811
  let v813 : Index := Scalar.indexCast v812
  let c0_131 : Index := 0#32
  ![v813.toNat, 0]

def k0_chk112 (v811 : BitVec 32) : Prop :=
  (8 ∣ (k0_mult112 v811).toNat) ∧
  (∀ a, (k0_off224 v811) a + S8x128.size a ≤ S65536x128.size a)
theorem k0_mult112_dvd : ∀ (v811 : BitVec 32) (k0_hw112 : k0_chk112 v811), 8 ∣ (k0_mult112 v811).toNat := fun v811 k0_hw112 => k0_hw112.1
theorem k0_off224_inb : ∀ (v811 : BitVec 32) (k0_hw112 : k0_chk112 v811), ∀ a, (k0_off224 v811) a + S8x128.size a ≤ S65536x128.size a := fun v811 k0_hw112 => k0_hw112.2

def k0_off225 (k0_t1 : Fin k0_t1_loop.trips) : Fin 2 → Nat :=
  let c0_i32 : BitVec 32 := 0#32
  let c1_i32 : BitVec 32 := 1#32
  let arg13 : BitVec 32 := Scf.iv c0_i32 c1_i32 k0_t1
  let v817 : Index := Scalar.indexCast arg13
  let c112 : Index := 112#32
  ![v817.toNat, 112]
def k0_mult113 (v818 : BitVec 32) : BitVec 32 :=
  v818

def k0_off226 (v818 : BitVec 32) : Fin 2 → Nat :=
  let v819 : BitVec 32 := v818
  let v820 : Index := Scalar.indexCast v819
  let c0_132 : Index := 0#32
  ![v820.toNat, 0]

def k0_chk113 (v818 : BitVec 32) : Prop :=
  (8 ∣ (k0_mult113 v818).toNat) ∧
  (∀ a, (k0_off226 v818) a + S8x128.size a ≤ S65536x128.size a)
theorem k0_mult113_dvd : ∀ (v818 : BitVec 32) (k0_hw113 : k0_chk113 v818), 8 ∣ (k0_mult113 v818).toNat := fun v818 k0_hw113 => k0_hw113.1
theorem k0_off226_inb : ∀ (v818 : BitVec 32) (k0_hw113 : k0_chk113 v818), ∀ a, (k0_off226 v818) a + S8x128.size a ≤ S65536x128.size a := fun v818 k0_hw113 => k0_hw113.2

def k0_off227 (k0_t1 : Fin k0_t1_loop.trips) : Fin 2 → Nat :=
  let c0_i32 : BitVec 32 := 0#32
  let c1_i32 : BitVec 32 := 1#32
  let arg13 : BitVec 32 := Scf.iv c0_i32 c1_i32 k0_t1
  let v824 : Index := Scalar.indexCast arg13
  let c113 : Index := 113#32
  ![v824.toNat, 113]
def k0_mult114 (v825 : BitVec 32) : BitVec 32 :=
  v825

def k0_off228 (v825 : BitVec 32) : Fin 2 → Nat :=
  let v826 : BitVec 32 := v825
  let v827 : Index := Scalar.indexCast v826
  let c0_133 : Index := 0#32
  ![v827.toNat, 0]

def k0_chk114 (v825 : BitVec 32) : Prop :=
  (8 ∣ (k0_mult114 v825).toNat) ∧
  (∀ a, (k0_off228 v825) a + S8x128.size a ≤ S65536x128.size a)
theorem k0_mult114_dvd : ∀ (v825 : BitVec 32) (k0_hw114 : k0_chk114 v825), 8 ∣ (k0_mult114 v825).toNat := fun v825 k0_hw114 => k0_hw114.1
theorem k0_off228_inb : ∀ (v825 : BitVec 32) (k0_hw114 : k0_chk114 v825), ∀ a, (k0_off228 v825) a + S8x128.size a ≤ S65536x128.size a := fun v825 k0_hw114 => k0_hw114.2

def k0_off229 (k0_t1 : Fin k0_t1_loop.trips) : Fin 2 → Nat :=
  let c0_i32 : BitVec 32 := 0#32
  let c1_i32 : BitVec 32 := 1#32
  let arg13 : BitVec 32 := Scf.iv c0_i32 c1_i32 k0_t1
  let v831 : Index := Scalar.indexCast arg13
  let c114 : Index := 114#32
  ![v831.toNat, 114]
def k0_mult115 (v832 : BitVec 32) : BitVec 32 :=
  v832

def k0_off230 (v832 : BitVec 32) : Fin 2 → Nat :=
  let v833 : BitVec 32 := v832
  let v834 : Index := Scalar.indexCast v833
  let c0_134 : Index := 0#32
  ![v834.toNat, 0]

def k0_chk115 (v832 : BitVec 32) : Prop :=
  (8 ∣ (k0_mult115 v832).toNat) ∧
  (∀ a, (k0_off230 v832) a + S8x128.size a ≤ S65536x128.size a)
theorem k0_mult115_dvd : ∀ (v832 : BitVec 32) (k0_hw115 : k0_chk115 v832), 8 ∣ (k0_mult115 v832).toNat := fun v832 k0_hw115 => k0_hw115.1
theorem k0_off230_inb : ∀ (v832 : BitVec 32) (k0_hw115 : k0_chk115 v832), ∀ a, (k0_off230 v832) a + S8x128.size a ≤ S65536x128.size a := fun v832 k0_hw115 => k0_hw115.2

def k0_off231 (k0_t1 : Fin k0_t1_loop.trips) : Fin 2 → Nat :=
  let c0_i32 : BitVec 32 := 0#32
  let c1_i32 : BitVec 32 := 1#32
  let arg13 : BitVec 32 := Scf.iv c0_i32 c1_i32 k0_t1
  let v838 : Index := Scalar.indexCast arg13
  let c115 : Index := 115#32
  ![v838.toNat, 115]
def k0_mult116 (v839 : BitVec 32) : BitVec 32 :=
  v839

def k0_off232 (v839 : BitVec 32) : Fin 2 → Nat :=
  let v840 : BitVec 32 := v839
  let v841 : Index := Scalar.indexCast v840
  let c0_135 : Index := 0#32
  ![v841.toNat, 0]

def k0_chk116 (v839 : BitVec 32) : Prop :=
  (8 ∣ (k0_mult116 v839).toNat) ∧
  (∀ a, (k0_off232 v839) a + S8x128.size a ≤ S65536x128.size a)
theorem k0_mult116_dvd : ∀ (v839 : BitVec 32) (k0_hw116 : k0_chk116 v839), 8 ∣ (k0_mult116 v839).toNat := fun v839 k0_hw116 => k0_hw116.1
theorem k0_off232_inb : ∀ (v839 : BitVec 32) (k0_hw116 : k0_chk116 v839), ∀ a, (k0_off232 v839) a + S8x128.size a ≤ S65536x128.size a := fun v839 k0_hw116 => k0_hw116.2

def k0_off233 (k0_t1 : Fin k0_t1_loop.trips) : Fin 2 → Nat :=
  let c0_i32 : BitVec 32 := 0#32
  let c1_i32 : BitVec 32 := 1#32
  let arg13 : BitVec 32 := Scf.iv c0_i32 c1_i32 k0_t1
  let v845 : Index := Scalar.indexCast arg13
  let c116 : Index := 116#32
  ![v845.toNat, 116]
def k0_mult117 (v846 : BitVec 32) : BitVec 32 :=
  v846

def k0_off234 (v846 : BitVec 32) : Fin 2 → Nat :=
  let v847 : BitVec 32 := v846
  let v848 : Index := Scalar.indexCast v847
  let c0_136 : Index := 0#32
  ![v848.toNat, 0]

def k0_chk117 (v846 : BitVec 32) : Prop :=
  (8 ∣ (k0_mult117 v846).toNat) ∧
  (∀ a, (k0_off234 v846) a + S8x128.size a ≤ S65536x128.size a)
theorem k0_mult117_dvd : ∀ (v846 : BitVec 32) (k0_hw117 : k0_chk117 v846), 8 ∣ (k0_mult117 v846).toNat := fun v846 k0_hw117 => k0_hw117.1
theorem k0_off234_inb : ∀ (v846 : BitVec 32) (k0_hw117 : k0_chk117 v846), ∀ a, (k0_off234 v846) a + S8x128.size a ≤ S65536x128.size a := fun v846 k0_hw117 => k0_hw117.2

def k0_off235 (k0_t1 : Fin k0_t1_loop.trips) : Fin 2 → Nat :=
  let c0_i32 : BitVec 32 := 0#32
  let c1_i32 : BitVec 32 := 1#32
  let arg13 : BitVec 32 := Scf.iv c0_i32 c1_i32 k0_t1
  let v852 : Index := Scalar.indexCast arg13
  let c117 : Index := 117#32
  ![v852.toNat, 117]
def k0_mult118 (v853 : BitVec 32) : BitVec 32 :=
  v853

def k0_off236 (v853 : BitVec 32) : Fin 2 → Nat :=
  let v854 : BitVec 32 := v853
  let v855 : Index := Scalar.indexCast v854
  let c0_137 : Index := 0#32
  ![v855.toNat, 0]

def k0_chk118 (v853 : BitVec 32) : Prop :=
  (8 ∣ (k0_mult118 v853).toNat) ∧
  (∀ a, (k0_off236 v853) a + S8x128.size a ≤ S65536x128.size a)
theorem k0_mult118_dvd : ∀ (v853 : BitVec 32) (k0_hw118 : k0_chk118 v853), 8 ∣ (k0_mult118 v853).toNat := fun v853 k0_hw118 => k0_hw118.1
theorem k0_off236_inb : ∀ (v853 : BitVec 32) (k0_hw118 : k0_chk118 v853), ∀ a, (k0_off236 v853) a + S8x128.size a ≤ S65536x128.size a := fun v853 k0_hw118 => k0_hw118.2

def k0_off237 (k0_t1 : Fin k0_t1_loop.trips) : Fin 2 → Nat :=
  let c0_i32 : BitVec 32 := 0#32
  let c1_i32 : BitVec 32 := 1#32
  let arg13 : BitVec 32 := Scf.iv c0_i32 c1_i32 k0_t1
  let v859 : Index := Scalar.indexCast arg13
  let c118 : Index := 118#32
  ![v859.toNat, 118]
def k0_mult119 (v860 : BitVec 32) : BitVec 32 :=
  v860

def k0_off238 (v860 : BitVec 32) : Fin 2 → Nat :=
  let v861 : BitVec 32 := v860
  let v862 : Index := Scalar.indexCast v861
  let c0_138 : Index := 0#32
  ![v862.toNat, 0]

def k0_chk119 (v860 : BitVec 32) : Prop :=
  (8 ∣ (k0_mult119 v860).toNat) ∧
  (∀ a, (k0_off238 v860) a + S8x128.size a ≤ S65536x128.size a)
theorem k0_mult119_dvd : ∀ (v860 : BitVec 32) (k0_hw119 : k0_chk119 v860), 8 ∣ (k0_mult119 v860).toNat := fun v860 k0_hw119 => k0_hw119.1
theorem k0_off238_inb : ∀ (v860 : BitVec 32) (k0_hw119 : k0_chk119 v860), ∀ a, (k0_off238 v860) a + S8x128.size a ≤ S65536x128.size a := fun v860 k0_hw119 => k0_hw119.2

def k0_off239 (k0_t1 : Fin k0_t1_loop.trips) : Fin 2 → Nat :=
  let c0_i32 : BitVec 32 := 0#32
  let c1_i32 : BitVec 32 := 1#32
  let arg13 : BitVec 32 := Scf.iv c0_i32 c1_i32 k0_t1
  let v866 : Index := Scalar.indexCast arg13
  let c119 : Index := 119#32
  ![v866.toNat, 119]
def k0_mult120 (v867 : BitVec 32) : BitVec 32 :=
  v867

def k0_off240 (v867 : BitVec 32) : Fin 2 → Nat :=
  let v868 : BitVec 32 := v867
  let v869 : Index := Scalar.indexCast v868
  let c0_139 : Index := 0#32
  ![v869.toNat, 0]

def k0_chk120 (v867 : BitVec 32) : Prop :=
  (8 ∣ (k0_mult120 v867).toNat) ∧
  (∀ a, (k0_off240 v867) a + S8x128.size a ≤ S65536x128.size a)
theorem k0_mult120_dvd : ∀ (v867 : BitVec 32) (k0_hw120 : k0_chk120 v867), 8 ∣ (k0_mult120 v867).toNat := fun v867 k0_hw120 => k0_hw120.1
theorem k0_off240_inb : ∀ (v867 : BitVec 32) (k0_hw120 : k0_chk120 v867), ∀ a, (k0_off240 v867) a + S8x128.size a ≤ S65536x128.size a := fun v867 k0_hw120 => k0_hw120.2

def k0_off241 (k0_t1 : Fin k0_t1_loop.trips) : Fin 2 → Nat :=
  let c0_i32 : BitVec 32 := 0#32
  let c1_i32 : BitVec 32 := 1#32
  let arg13 : BitVec 32 := Scf.iv c0_i32 c1_i32 k0_t1
  let v873 : Index := Scalar.indexCast arg13
  let c120 : Index := 120#32
  ![v873.toNat, 120]
def k0_mult121 (v874 : BitVec 32) : BitVec 32 :=
  v874

def k0_off242 (v874 : BitVec 32) : Fin 2 → Nat :=
  let v875 : BitVec 32 := v874
  let v876 : Index := Scalar.indexCast v875
  let c0_140 : Index := 0#32
  ![v876.toNat, 0]

def k0_chk121 (v874 : BitVec 32) : Prop :=
  (8 ∣ (k0_mult121 v874).toNat) ∧
  (∀ a, (k0_off242 v874) a + S8x128.size a ≤ S65536x128.size a)
theorem k0_mult121_dvd : ∀ (v874 : BitVec 32) (k0_hw121 : k0_chk121 v874), 8 ∣ (k0_mult121 v874).toNat := fun v874 k0_hw121 => k0_hw121.1
theorem k0_off242_inb : ∀ (v874 : BitVec 32) (k0_hw121 : k0_chk121 v874), ∀ a, (k0_off242 v874) a + S8x128.size a ≤ S65536x128.size a := fun v874 k0_hw121 => k0_hw121.2

def k0_off243 (k0_t1 : Fin k0_t1_loop.trips) : Fin 2 → Nat :=
  let c0_i32 : BitVec 32 := 0#32
  let c1_i32 : BitVec 32 := 1#32
  let arg13 : BitVec 32 := Scf.iv c0_i32 c1_i32 k0_t1
  let v880 : Index := Scalar.indexCast arg13
  let c121 : Index := 121#32
  ![v880.toNat, 121]
def k0_mult122 (v881 : BitVec 32) : BitVec 32 :=
  v881

def k0_off244 (v881 : BitVec 32) : Fin 2 → Nat :=
  let v882 : BitVec 32 := v881
  let v883 : Index := Scalar.indexCast v882
  let c0_141 : Index := 0#32
  ![v883.toNat, 0]

def k0_chk122 (v881 : BitVec 32) : Prop :=
  (8 ∣ (k0_mult122 v881).toNat) ∧
  (∀ a, (k0_off244 v881) a + S8x128.size a ≤ S65536x128.size a)
theorem k0_mult122_dvd : ∀ (v881 : BitVec 32) (k0_hw122 : k0_chk122 v881), 8 ∣ (k0_mult122 v881).toNat := fun v881 k0_hw122 => k0_hw122.1
theorem k0_off244_inb : ∀ (v881 : BitVec 32) (k0_hw122 : k0_chk122 v881), ∀ a, (k0_off244 v881) a + S8x128.size a ≤ S65536x128.size a := fun v881 k0_hw122 => k0_hw122.2

def k0_off245 (k0_t1 : Fin k0_t1_loop.trips) : Fin 2 → Nat :=
  let c0_i32 : BitVec 32 := 0#32
  let c1_i32 : BitVec 32 := 1#32
  let arg13 : BitVec 32 := Scf.iv c0_i32 c1_i32 k0_t1
  let v887 : Index := Scalar.indexCast arg13
  let c122 : Index := 122#32
  ![v887.toNat, 122]
def k0_mult123 (v888 : BitVec 32) : BitVec 32 :=
  v888

def k0_off246 (v888 : BitVec 32) : Fin 2 → Nat :=
  let v889 : BitVec 32 := v888
  let v890 : Index := Scalar.indexCast v889
  let c0_142 : Index := 0#32
  ![v890.toNat, 0]

def k0_chk123 (v888 : BitVec 32) : Prop :=
  (8 ∣ (k0_mult123 v888).toNat) ∧
  (∀ a, (k0_off246 v888) a + S8x128.size a ≤ S65536x128.size a)
theorem k0_mult123_dvd : ∀ (v888 : BitVec 32) (k0_hw123 : k0_chk123 v888), 8 ∣ (k0_mult123 v888).toNat := fun v888 k0_hw123 => k0_hw123.1
theorem k0_off246_inb : ∀ (v888 : BitVec 32) (k0_hw123 : k0_chk123 v888), ∀ a, (k0_off246 v888) a + S8x128.size a ≤ S65536x128.size a := fun v888 k0_hw123 => k0_hw123.2

def k0_off247 (k0_t1 : Fin k0_t1_loop.trips) : Fin 2 → Nat :=
  let c0_i32 : BitVec 32 := 0#32
  let c1_i32 : BitVec 32 := 1#32
  let arg13 : BitVec 32 := Scf.iv c0_i32 c1_i32 k0_t1
  let v894 : Index := Scalar.indexCast arg13
  let c123 : Index := 123#32
  ![v894.toNat, 123]
def k0_mult124 (v895 : BitVec 32) : BitVec 32 :=
  v895

def k0_off248 (v895 : BitVec 32) : Fin 2 → Nat :=
  let v896 : BitVec 32 := v895
  let v897 : Index := Scalar.indexCast v896
  let c0_143 : Index := 0#32
  ![v897.toNat, 0]

def k0_chk124 (v895 : BitVec 32) : Prop :=
  (8 ∣ (k0_mult124 v895).toNat) ∧
  (∀ a, (k0_off248 v895) a + S8x128.size a ≤ S65536x128.size a)
theorem k0_mult124_dvd : ∀ (v895 : BitVec 32) (k0_hw124 : k0_chk124 v895), 8 ∣ (k0_mult124 v895).toNat := fun v895 k0_hw124 => k0_hw124.1
theorem k0_off248_inb : ∀ (v895 : BitVec 32) (k0_hw124 : k0_chk124 v895), ∀ a, (k0_off248 v895) a + S8x128.size a ≤ S65536x128.size a := fun v895 k0_hw124 => k0_hw124.2

def k0_off249 (k0_t1 : Fin k0_t1_loop.trips) : Fin 2 → Nat :=
  let c0_i32 : BitVec 32 := 0#32
  let c1_i32 : BitVec 32 := 1#32
  let arg13 : BitVec 32 := Scf.iv c0_i32 c1_i32 k0_t1
  let v901 : Index := Scalar.indexCast arg13
  let c124 : Index := 124#32
  ![v901.toNat, 124]
def k0_mult125 (v902 : BitVec 32) : BitVec 32 :=
  v902

def k0_off250 (v902 : BitVec 32) : Fin 2 → Nat :=
  let v903 : BitVec 32 := v902
  let v904 : Index := Scalar.indexCast v903
  let c0_144 : Index := 0#32
  ![v904.toNat, 0]

def k0_chk125 (v902 : BitVec 32) : Prop :=
  (8 ∣ (k0_mult125 v902).toNat) ∧
  (∀ a, (k0_off250 v902) a + S8x128.size a ≤ S65536x128.size a)
theorem k0_mult125_dvd : ∀ (v902 : BitVec 32) (k0_hw125 : k0_chk125 v902), 8 ∣ (k0_mult125 v902).toNat := fun v902 k0_hw125 => k0_hw125.1
theorem k0_off250_inb : ∀ (v902 : BitVec 32) (k0_hw125 : k0_chk125 v902), ∀ a, (k0_off250 v902) a + S8x128.size a ≤ S65536x128.size a := fun v902 k0_hw125 => k0_hw125.2

def k0_off251 (k0_t1 : Fin k0_t1_loop.trips) : Fin 2 → Nat :=
  let c0_i32 : BitVec 32 := 0#32
  let c1_i32 : BitVec 32 := 1#32
  let arg13 : BitVec 32 := Scf.iv c0_i32 c1_i32 k0_t1
  let v908 : Index := Scalar.indexCast arg13
  let c125 : Index := 125#32
  ![v908.toNat, 125]
def k0_mult126 (v909 : BitVec 32) : BitVec 32 :=
  v909

def k0_off252 (v909 : BitVec 32) : Fin 2 → Nat :=
  let v910 : BitVec 32 := v909
  let v911 : Index := Scalar.indexCast v910
  let c0_145 : Index := 0#32
  ![v911.toNat, 0]

def k0_chk126 (v909 : BitVec 32) : Prop :=
  (8 ∣ (k0_mult126 v909).toNat) ∧
  (∀ a, (k0_off252 v909) a + S8x128.size a ≤ S65536x128.size a)
theorem k0_mult126_dvd : ∀ (v909 : BitVec 32) (k0_hw126 : k0_chk126 v909), 8 ∣ (k0_mult126 v909).toNat := fun v909 k0_hw126 => k0_hw126.1
theorem k0_off252_inb : ∀ (v909 : BitVec 32) (k0_hw126 : k0_chk126 v909), ∀ a, (k0_off252 v909) a + S8x128.size a ≤ S65536x128.size a := fun v909 k0_hw126 => k0_hw126.2

def k0_off253 (k0_t1 : Fin k0_t1_loop.trips) : Fin 2 → Nat :=
  let c0_i32 : BitVec 32 := 0#32
  let c1_i32 : BitVec 32 := 1#32
  let arg13 : BitVec 32 := Scf.iv c0_i32 c1_i32 k0_t1
  let v915 : Index := Scalar.indexCast arg13
  let c126 : Index := 126#32
  ![v915.toNat, 126]
def k0_mult127 (v916 : BitVec 32) : BitVec 32 :=
  v916

def k0_off254 (v916 : BitVec 32) : Fin 2 → Nat :=
  let v917 : BitVec 32 := v916
  let v918 : Index := Scalar.indexCast v917
  let c0_146 : Index := 0#32
  ![v918.toNat, 0]

def k0_chk127 (v916 : BitVec 32) : Prop :=
  (8 ∣ (k0_mult127 v916).toNat) ∧
  (∀ a, (k0_off254 v916) a + S8x128.size a ≤ S65536x128.size a)
theorem k0_mult127_dvd : ∀ (v916 : BitVec 32) (k0_hw127 : k0_chk127 v916), 8 ∣ (k0_mult127 v916).toNat := fun v916 k0_hw127 => k0_hw127.1
theorem k0_off254_inb : ∀ (v916 : BitVec 32) (k0_hw127 : k0_chk127 v916), ∀ a, (k0_off254 v916) a + S8x128.size a ≤ S65536x128.size a := fun v916 k0_hw127 => k0_hw127.2

def k0_off255 (k0_t1 : Fin k0_t1_loop.trips) : Fin 2 → Nat :=
  let c0_i32 : BitVec 32 := 0#32
  let c1_i32 : BitVec 32 := 1#32
  let arg13 : BitVec 32 := Scf.iv c0_i32 c1_i32 k0_t1
  let v922 : Index := Scalar.indexCast arg13
  let c127 : Index := 127#32
  ![v922.toNat, 127]
def k0_mult128 (v923 : BitVec 32) : BitVec 32 :=
  v923

def k0_off256 (v923 : BitVec 32) : Fin 2 → Nat :=
  let v924 : BitVec 32 := v923
  let v925 : Index := Scalar.indexCast v924
  let c0_147 : Index := 0#32
  ![v925.toNat, 0]

def k0_chk128 (v923 : BitVec 32) : Prop :=
  (8 ∣ (k0_mult128 v923).toNat) ∧
  (∀ a, (k0_off256 v923) a + S8x128.size a ≤ S65536x128.size a)
theorem k0_mult128_dvd : ∀ (v923 : BitVec 32) (k0_hw128 : k0_chk128 v923), 8 ∣ (k0_mult128 v923).toNat := fun v923 k0_hw128 => k0_hw128.1
theorem k0_off256_inb : ∀ (v923 : BitVec 32) (k0_hw128 : k0_chk128 v923), ∀ a, (k0_off256 v923) a + S8x128.size a ≤ S65536x128.size a := fun v923 k0_hw128 => k0_hw128.2

def k0_off257 (k0_t1 : Fin k0_t1_loop.trips) : Fin 2 → Nat :=
  let c0_i32 : BitVec 32 := 0#32
  let c1_i32 : BitVec 32 := 1#32
  let arg13 : BitVec 32 := Scf.iv c0_i32 c1_i32 k0_t1
  let v932 : Index := Scalar.indexCast arg13
  let c0_148 : Index := 0#32
  ![v932.toNat, 0]
def k0_off258 (k0_t1 : Fin k0_t1_loop.trips) : Fin 2 → Nat :=
  let c0_i32 : BitVec 32 := 0#32
  let c1_i32 : BitVec 32 := 1#32
  let arg13 : BitVec 32 := Scf.iv c0_i32 c1_i32 k0_t1
  let v961 : Index := Scalar.indexCast arg13
  let c0_155 : Index := 0#32
  ![v961.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S65536x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32768x128 : Shape := ⟨2, ![32768, 128]⟩
abbrev S32768x1024 : Shape := ⟨2, ![32768, 1024]⟩
abbrev S1024 : Shape := ⟨1, ![1024]⟩
abbrev S1x16384x1024 : Shape := ⟨3, ![1, 16384, 1024]⟩
abbrev S16384x1024 : Shape := ⟨2, ![16384, 1024]⟩
abbrev S_ : Shape := ⟨0, ![]⟩
abbrev S32768x128x1 : Shape := ⟨3, ![32768, 128, 1]⟩
abbrev S1 : Shape := ⟨1, ![1]⟩
abbrev S1x1x1 : Shape := ⟨3, ![1, 1, 1]⟩
abbrev S32768x128x1024 : Shape := ⟨3, ![32768, 128, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S32768x1024, .f32⟩
  | .hbm, ⟨3, _⟩ => ⟨S1024, .f32⟩
  | .hbm, ⟨4, _⟩ => ⟨S1x16384x1024, .i16⟩
  | .hbm, ⟨5, _⟩ => ⟨S16384x1024, .i16⟩
  | .hbm, ⟨6, _⟩ => ⟨S16384x1024, .bf16⟩
  | .hbm, ⟨7, _⟩ => ⟨S16384x1024, .f32⟩
  | .hbm, ⟨8, _⟩ => ⟨S_, .i32⟩
  | .hbm, ⟨9, _⟩ => ⟨S32768x128, .i32⟩
  | .hbm, ⟨10, _⟩ => ⟨S32768x128, .i1⟩
  | .hbm, ⟨11, _⟩ => ⟨S_, .i32⟩
  | .hbm, ⟨12, _⟩ => ⟨S32768x128, .i32⟩
  | .hbm, ⟨13, _⟩ => ⟨S32768x128, .i32⟩
  | .hbm, ⟨14, _⟩ => ⟨S32768x128, .i32⟩
  | .hbm, ⟨15, _⟩ => ⟨S32768x128x1, .i32⟩
  | .hbm, ⟨16, _⟩ => ⟨S1, .i32⟩
  | .hbm, ⟨17, _⟩ => ⟨S_, .i32⟩
  | .hbm, ⟨18, _⟩ => ⟨S32768x128x1, .i32⟩
  | .hbm, ⟨19, _⟩ => ⟨S32768x128x1, .i1⟩
  | .hbm, ⟨20, _⟩ => ⟨S1x1x1, .i32⟩
  | .hbm, ⟨21, _⟩ => ⟨S32768x128x1, .i32⟩
  | .hbm, ⟨22, _⟩ => ⟨S32768x128x1, .i1⟩
  | .hbm, ⟨23, _⟩ => ⟨S32768x128x1, .i1⟩
  | .hbm, ⟨24, _⟩ => ⟨S_, .i1⟩
  | .hbm, ⟨25, _⟩ => ⟨S32768x128, .i1⟩
  | .hbm, ⟨26, _⟩ => ⟨S32768x128x1024, .f32⟩
  | .hbm, ⟨27, _⟩ => ⟨S32768x128x1024, .i1⟩
  | .hbm, ⟨28, _⟩ => ⟨S_, .f32⟩
  | .hbm, ⟨29, _⟩ => ⟨S32768x128x1024, .f32⟩
  | .hbm, ⟨30, _⟩ => ⟨S32768x128x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x10240 : Shape := ⟨3, ![1, 1024, 10240]⟩
abbrev S32768x1024 : Shape := ⟨2, ![32768, 1024]⟩
abbrev S1024 : Shape := ⟨1, ![1024]⟩
abbrev S1024x10240 : Shape := ⟨2, ![1024, 10240]⟩
abbrev S32768x10240 : Shape := ⟨2, ![32768, 10240]⟩
abbrev S1024x1024 : Shape := ⟨2, ![1024, 1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x10240, .f32⟩
  | .hbm, ⟨3, _⟩ => ⟨S32768x1024, .f32⟩
  | .hbm, ⟨4, _⟩ => ⟨S1024, .f32⟩
  | .hbm, ⟨5, _⟩ => ⟨S1024x10240, .f32⟩
  | .hbm, ⟨6, _⟩ => ⟨S1024x10240, .bf16⟩
  | .hbm, ⟨7, _⟩ => ⟨S1x1024, .f32⟩
  | .hbm, ⟨8, _⟩ => ⟨S32768x10240, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x8192x1024 : Shape := ⟨3, ![4, 8192, 1024]⟩
abbrev S1x1024 : Shape := ⟨2, ![1, 1024]⟩
abbrev S1x1024x10240 : Shape := ⟨3, ![1, 1024, 10240]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x10240 : Shape := ⟨2, ![1024, 10240]⟩
abbrev S4x8192x10240 : Shape := ⟨3, ![4, 8192, 10240]⟩
abbrev S32768x10240 : Shape := ⟨2, ![32768, 10240]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x10240, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x10240, .f32⟩
  | .hbm, ⟨21, _⟩ => ⟨S4x8192x10240, .f32⟩
  | .hbm, ⟨22, _⟩ => ⟨S32768x10240, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1024x64x128 : Shape := ⟨4, ![4, 1024, 64, 128]⟩
abbrev S32768x10240 : Shape := ⟨2, ![32768, 10240]⟩
abbrev S1x1024 : Shape := ⟨2, ![1, 1024]⟩
abbrev S1x1024x1024 : Shape := ⟨3, ![1, 1024, 1024]⟩
abbrev S32768x1024 : Shape := ⟨2, ![32768, 1024]⟩
abbrev S4x1024x8192 : Shape := ⟨3, ![4, 1024, 8192]⟩
abbrev S1024 : Shape := ⟨1, ![1024]⟩
abbrev S1024x1024 : Shape := ⟨2, ![1024, 1024]⟩
abbrev S256x1024 : Shape := ⟨2, ![256, 1024]⟩
abbrev S1x1024x256 : Shape := ⟨3, ![1, 1024, 256]⟩
abbrev S1024x256 : Shape := ⟨2, ![1024, 256]⟩

abbrev nBuf : Space → Nat
  | .hbm => 24
  | .vmem => 20
  | .smem => 0
  | _ => 0

abbrev bufTy : (tb : Table) → Fin (tcTables nBuf tb) → BufTy
  | .hbm, ⟨0, _⟩ => ⟨S4x8192x1024, .bf16⟩
  | .hbm, ⟨1, _⟩ => ⟨S4x1024x64x128, .f32⟩
  | .hbm, ⟨2, _⟩ => ⟨S4x8192x1024, .f32⟩
  | .hbm, ⟨3, _⟩ => ⟨S4x8192x1024, .f32⟩
  | .hbm, ⟨4, _⟩ => ⟨S32768x10240, .f32⟩
  | .hbm, ⟨5, _⟩ => ⟨S4x8192x1024, .f32⟩
  | .hbm, ⟨6, _⟩ => ⟨S1x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S32768x1024, .bf16⟩
  | .hbm, ⟨11, _⟩ => ⟨S4x1024x8192, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S32768x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x256, .f32⟩
  | .local _ .vmem, ⟨3, _⟩ => ⟨S1x1024x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x8192x1024 : Shape := ⟨3, ![4, 8192, 1024]⟩
abbrev S4x1024x64x128 : Shape := ⟨4, ![4, 1024, 64, 128]⟩
abbrev S32768x10240 : Shape := ⟨2, ![32768, 10240]⟩
abbrev S1x1024 : Shape := ⟨2, ![1, 1024]⟩
abbrev S1x1024x1024 : Shape := ⟨3, ![1, 1024, 1024]⟩
abbrev S1024x1024 : Shape := ⟨2, ![1024, 1024]⟩
abbrev S4x1024x8192 : Shape := ⟨3, ![4, 1024, 8192]⟩
abbrev S1024 : Shape := ⟨1, ![1024]⟩
abbrev S1x1x1024 : Shape := ⟨3, ![1, 1, 1024]⟩
abbrev S32768x1024 : Shape := ⟨2, ![32768, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x1024x64x128, .f32⟩
  | .hbm, ⟨2, _⟩ => ⟨S4x8192x1024, .f32⟩
  | .hbm, ⟨3, _⟩ => ⟨S4x8192x1024, .f32⟩
  | .hbm, ⟨4, _⟩ => ⟨S32768x10240, .f32⟩
  | .hbm, ⟨5, _⟩ => ⟨S4x8192x1024, .f32⟩
  | .hbm, ⟨6, _⟩ => ⟨S1x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S4x8192x1024, .f32⟩
  | .hbm, ⟨11, _⟩ => ⟨S1024x1024, .f32⟩
  | .hbm, ⟨12, _⟩ => ⟨S4x8192x1024, .f32⟩
  | .hbm, ⟨13, _⟩ => ⟨S4x1024x8192, .f32⟩
  | .hbm, ⟨14, _⟩ => ⟨S4x8192x1024, .f32⟩
  | .hbm, ⟨15, _⟩ => ⟨S1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S1024x1024, .f32⟩
  | .hbm, ⟨22, _⟩ => ⟨S4x8192x1024, .f32⟩
  | .hbm, ⟨23, _⟩ => ⟨S32768x1024, .f32⟩
  | .hbm, ⟨24, _⟩ => ⟨S4x8192x1024, .f32⟩
  | .hbm, ⟨25, _⟩ => ⟨S32768x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S1024x1024, .f32⟩
  | .hbm, ⟨47, _⟩ => ⟨S4x8192x1024, .f32⟩
  | .hbm, ⟨48, _⟩ => ⟨S4x8192x1024, .f32⟩
  | .hbm, ⟨49, _⟩ => ⟨S32768x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel4.lean ====
abbrev S32768x1024 : Shape := ⟨2, ![32768, 1024]⟩
abbrev S1x1024 : Shape := ⟨2, ![1, 1024]⟩
abbrev S1x1024x2048 : Shape := ⟨3, ![1, 1024, 2048]⟩
abbrev S1024 : Shape := ⟨1, ![1024]⟩
abbrev S1024x2048 : Shape := ⟨2, ![1024, 2048]⟩
abbrev S32768x2048 : Shape := ⟨2, ![32768, 2048]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S1024x2048, .f32⟩
  | .hbm, ⟨5, _⟩ => ⟨S1024x2048, .bf16⟩
  | .hbm, ⟨6, _⟩ => ⟨S1x1024, .f32⟩
  | .hbm, ⟨7, _⟩ => ⟨S32768x2048, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S32768x1024 : Shape := ⟨2, ![32768, 1024]⟩
abbrev S1x1024 : Shape := ⟨2, ![1, 1024]⟩
abbrev S1x1024x2048 : Shape := ⟨3, ![1, 1024, 2048]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1024x2048 : Shape := ⟨2, ![1024, 2048]⟩
abbrev S32768x2048 : Shape := ⟨2, ![32768, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2048, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x2048, .f32⟩
  | .hbm, ⟨21, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S32768x2048 : Shape := ⟨2, ![32768, 2048]⟩
abbrev S1x8x2x128x128 : Shape := ⟨5, ![1, 8, 2, 128, 128]⟩
abbrev S8x2x128x128 : Shape := ⟨4, ![8, 2, 128, 128]⟩
abbrev S8x16x32768 : Shape := ⟨3, ![8, 16, 32768]⟩
abbrev S256x256 : Shape := ⟨2, ![256, 256]⟩
abbrev S1x2x128x128 : Shape := ⟨4, ![1, 2, 128, 128]⟩
abbrev S1x16x256 : Shape := ⟨3, ![1, 16, 256]⟩
abbrev S16x256 : Shape := ⟨2, ![16, 256]⟩
abbrev S1x1x128x128 : Shape := ⟨4, ![1, 1, 128, 128]⟩
abbrev S128x128 : Shape := ⟨2, ![128, 128]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S8x256 : Shape := ⟨2, ![8, 256]⟩
abbrev S80x256 : Shape := ⟨2, ![80, 256]⟩

abbrev nBuf : Space → Nat
  | .hbm => 7
  | .vmem => 16
  | .smem => 0
  | _ => 0

abbrev bufTy : (tb : Table) → Fin (tcTables nBuf tb) → BufTy
  | .hbm, ⟨0, _⟩ => ⟨S32768x2048, .f32⟩
  | .hbm, ⟨1, _⟩ => ⟨S1x8x2x128x128, .f32⟩
  | .hbm, ⟨2, _⟩ => ⟨S8x2x128x128, .f32⟩
  | .hbm, ⟨3, _⟩ => ⟨S8x2x128x128, .bf16⟩
  | .hbm, ⟨4, _⟩ => ⟨S8x16x32768, .i32⟩
  | .hbm, ⟨5, _⟩ => ⟨S8x16x32768, .f32⟩
  | .hbm, ⟨6, _⟩ => ⟨S8x16x32768, .f32⟩
  | .local _ .vmem, ⟨0, _⟩ => ⟨S256x256, .f32⟩
  | .local _ .vmem, ⟨1, _⟩ => ⟨S256x256, .f32⟩
  | .local _ .vmem, ⟨2, _⟩ => ⟨S1x2x128x128, .bf16⟩
  | .local _ .vmem, ⟨3, _⟩ => ⟨S1x2x128x128, .bf16⟩
  | .local _ .vmem, ⟨4, _⟩ => ⟨S1x16x256, .i32⟩
  | .local _ .vmem, ⟨5, _⟩ => ⟨S1x16x256, .i32⟩
  | .local _ .vmem, ⟨6, _⟩ => ⟨S1x16x256, .f32⟩
  | .local _ .vmem, ⟨7, _⟩ => ⟨S1x16x256, .f32⟩
  | .local _ .vmem, ⟨8, _⟩ => ⟨S1x16x256, .f32⟩
  | .local _ .vmem, ⟨9, _⟩ => ⟨S1x16x256, .f32⟩
  | .local _ .vmem, ⟨10, _⟩ => ⟨S16x256, .f32⟩
  | .local _ .vmem, ⟨11, _⟩ => ⟨S16x256, .i32⟩
  | .local _ .vmem, ⟨12, _⟩ => ⟨S16x256, .f32⟩
  | .local _ .vmem, ⟨13, _⟩ => ⟨S16x256, .i32⟩
  | .local _ .vmem, ⟨14, _⟩ => ⟨S16x256, .f32⟩
  | .local _ .vmem, ⟨15, _⟩ => ⟨S16x256, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![128, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32768x2048 : Shape := ⟨2, ![32768, 2048]⟩
abbrev S1x8x2x128x128 : Shape := ⟨5, ![1, 8, 2, 128, 128]⟩
abbrev S32768x8x2x128 : Shape := ⟨4, ![32768, 8, 2, 128]⟩
abbrev S8x2x128x128 : Shape := ⟨4, ![8, 2, 128, 128]⟩
abbrev S8x2x128x32768 : Shape := ⟨4, ![8, 2, 128, 32768]⟩
abbrev S32768x8x1x128 : Shape := ⟨4, ![32768, 8, 1, 128]⟩
abbrev S32768x8x128 : Shape := ⟨3, ![32768, 8, 128]⟩
abbrev S32768x8x16 : Shape := ⟨3, ![32768, 8, 16]⟩
abbrev S32768x8x16x1 : Shape := ⟨4, ![32768, 8, 16, 1]⟩
abbrev S32768x8x1x16 : Shape := ⟨4, ![32768, 8, 1, 16]⟩
abbrev S32768x8x16x16 : Shape := ⟨4, ![32768, 8, 16, 16]⟩
abbrev S32768x8x256 : Shape := ⟨3, ![32768, 8, 256]⟩
abbrev S_ : Shape := ⟨0, ![]⟩
abbrev S32768x8 : Shape := ⟨2, ![32768, 8]⟩
abbrev S32768x8x1 : Shape := ⟨3, ![32768, 8, 1]⟩
abbrev S8x16x32768 : Shape := ⟨3, ![8, 16, 32768]⟩

abbrev nBuf : Space → Nat
  | .hbm => 67
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x8x2x128x128, .f32⟩
  | .hbm, ⟨2, _⟩ => ⟨S32768x8x2x128, .f32⟩
  | .hbm, ⟨3, _⟩ => ⟨S8x2x128x128, .f32⟩
  | .hbm, ⟨4, _⟩ => ⟨S8x2x128x32768, .f32⟩
  | .hbm, ⟨5, _⟩ => ⟨S32768x8x2x128, .f32⟩
  | .hbm, ⟨6, _⟩ => ⟨S32768x8x1x128, .f32⟩
  | .hbm, ⟨7, _⟩ => ⟨S32768x8x128, .f32⟩
  | .hbm, ⟨8, _⟩ => ⟨S32768x8x16, .f32⟩
  | .hbm, ⟨9, _⟩ => ⟨S32768x8x16, .i32⟩
  | .hbm, ⟨10, _⟩ => ⟨S32768x8x1x128, .f32⟩
  | .hbm, ⟨11, _⟩ => ⟨S32768x8x128, .f32⟩
  | .hbm, ⟨12, _⟩ => ⟨S32768x8x16, .f32⟩
  | .hbm, ⟨13, _⟩ => ⟨S32768x8x16, .i32⟩
  | .hbm, ⟨14, _⟩ => ⟨S32768x8x16x1, .f32⟩
  | .hbm, ⟨15, _⟩ => ⟨S32768x8x1x16, .f32⟩
  | .hbm, ⟨16, _⟩ => ⟨S32768x8x16x16, .f32⟩
  | .hbm, ⟨17, _⟩ => ⟨S32768x8x16x16, .f32⟩
  | .hbm, ⟨18, _⟩ => ⟨S32768x8x16x16, .f32⟩
  | .hbm, ⟨19, _⟩ => ⟨S32768x8x256, .f32⟩
  | .hbm, ⟨20, _⟩ => ⟨S32768x8x16x1, .i32⟩
  | .hbm, ⟨21, _⟩ => ⟨S_, .i32⟩
  | .hbm, ⟨22, _⟩ => ⟨S32768x8x16x1, .i32⟩
  | .hbm, ⟨23, _⟩ => ⟨S32768x8x16x1, .i32⟩
  | .hbm, ⟨24, _⟩ => ⟨S32768x8x1x16, .i32⟩
  | .hbm, ⟨25, _⟩ => ⟨S32768x8x16x16, .i32⟩
  | .hbm, ⟨26, _⟩ => ⟨S32768x8x16x16, .i32⟩
  | .hbm, ⟨27, _⟩ => ⟨S32768x8x16x16, .i32⟩
  | .hbm, ⟨28, _⟩ => ⟨S32768x8x256, .i32⟩
  | .hbm, ⟨29, _⟩ => ⟨S32768x8x16, .f32⟩
  | .hbm, ⟨30, _⟩ => ⟨S32768x8x16, .i32⟩
  | .hbm, ⟨31, _⟩ => ⟨S_, .i32⟩
  | .hbm, ⟨32, _⟩ => ⟨S32768x8x16, .i32⟩
  | .hbm, ⟨33, _⟩ => ⟨S32768x8x16, .i1⟩
  | .hbm, ⟨34, _⟩ => ⟨S_, .i32⟩
  | .hbm, ⟨35, _⟩ => ⟨S32768x8x16, .i32⟩
  | .hbm, ⟨36, _⟩ => ⟨S32768x8x16, .i32⟩
  | .hbm, ⟨37, _⟩ => ⟨S32768x8x16, .i32⟩
  | .hbm, ⟨38, _⟩ => ⟨S32768x8x16x1, .i32⟩
  | .hbm, ⟨39, _⟩ => ⟨S32768x8x16, .i32⟩
  | .hbm, ⟨40, _⟩ => ⟨S_, .f32⟩
  | .hbm, ⟨41, _⟩ => ⟨S32768x8, .f32⟩
  | .hbm, ⟨42, _⟩ => ⟨S_, .f32⟩
  | .hbm, ⟨43, _⟩ => ⟨S32768x8, .f32⟩
  | .hbm, ⟨44, _⟩ => ⟨S32768x8, .f32⟩
  | .hbm, ⟨45, _⟩ => ⟨S32768x8x1, .f32⟩
  | .hbm, ⟨46, _⟩ => ⟨S32768x8x16, .f32⟩
  | .hbm, ⟨47, _⟩ => ⟨S32768x8x16, .f32⟩
  | .hbm, ⟨48, _⟩ => ⟨S32768x8x16, .f32⟩
  | .hbm, ⟨49, _⟩ => ⟨S_, .f32⟩
  | .hbm, ⟨50, _⟩ => ⟨S32768x8, .f32⟩
  | .hbm, ⟨51, _⟩ => ⟨S32768x8x1, .f32⟩
  | .hbm, ⟨52, _⟩ => ⟨S32768x8x16, .f32⟩
  | .hbm, ⟨53, _⟩ => ⟨S32768x8x16, .f32⟩
  | .hbm, ⟨54, _⟩ => ⟨S_, .i32⟩
  | .hbm, ⟨55, _⟩ => ⟨S32768x8x16, .i32⟩
  | .hbm, ⟨56, _⟩ => ⟨S32768x8x16, .i32⟩
  | .hbm, ⟨57, _⟩ => ⟨S_, .i32⟩
  | .hbm, ⟨58, _⟩ => ⟨S32768x8x16, .i32⟩
  | .hbm, ⟨59, _⟩ => ⟨S32768x8x16, .i32⟩
  | .hbm, ⟨60, _⟩ => ⟨S_, .i32⟩
  | .hbm, ⟨61, _⟩ => ⟨S32768x8x16, .i32⟩
  | .hbm, ⟨62, _⟩ => ⟨S32768x8x16, .i32⟩
  | .hbm, ⟨63, _⟩ => ⟨S32768x8x16, .f32⟩
  | .hbm, ⟨64, _⟩ => ⟨S8x16x32768, .i32⟩
  | .hbm, ⟨65, _⟩ => ⟨S8x16x32768, .f32⟩
  | .hbm, ⟨66, _⟩ => ⟨S8x16x32768, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_values : Ref sig .tc := ⟨.hbm, 8, rfl⟩
abbrev main_indices : Ref sig .tc := ⟨.hbm, 9, rfl⟩
abbrev main_v6 : Ref sig .tc := ⟨.hbm, 10, rfl⟩
abbrev main_v7 : Ref sig .tc := ⟨.hbm, 11, rfl⟩
abbrev main_values_0 : Ref sig .tc := ⟨.hbm, 12, rfl⟩
abbrev main_indices_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_values_2 : Ref sig .tc := ⟨.hbm, 29, rfl⟩
abbrev main_indices_3 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== Proof.InProjBlock.lean ====
/-
  Program 2, the block computation. At the first of the ten column blocks of a row block the body normalises the
  1024 rows it is given, keeps them in a scratch buffer, and multiplies them by the weight block; at the other nine
  it multiplies what the scratch holds. So at every grid point the output block is the product of the normalised
  rows of the row block with the weight block.
-/
module

public import proofs.«01_k».proof.Proof.Gen.Kernel2Ideal.Value
public import Idealize.ShloMosaic.Lib.Pipeline.Value
public import Idealize.ShloMosaic.Lib.Tactic

@[expose] public section

noncomputable section

open Idealize.ShloMosaic Idealize.ShloMosaic.TcCoe Idealize.SL.Sem

namespace Cert.Kernel2Ideal.InProj

open Cert.Kernel2Ideal Cert.Kernel2Ideal.Gen

variable {F : FTy → Type} [FloatOps F]
variable (m : (ℓ : Loc nD τ sig) → Buf (Elt F) ℓ)

theorem hz : (![0, 0] : Fin 2 → Nat) = fun _ => 0 := funext fun a => by fin_cases a <;> rfl

section
variable (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .bf16) (h6 : a6.IsWhole)
    (x : Vec F S1024x1024 .f32) (g : Vec F S1x1024 .f32) (w : Vec F S1024x1024 .bf16)

/-- At a first column block the scratch is left holding the normalised rows. -/
theorem scratch_A (hc : cond0_0 i) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero hz]
  simp only [View.readAt_eq_ld, h2.read_unread, h3.read_unread, View.ld_unit_zero (S := S1024x1024) hz,
    View.ld_unit_zero (S := S1x1024) hz]

/-- At a first column block the output is the product of the rows just normalised with the weight block. -/
theorem out_A (hc : cond0_0 i) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz,
    View.ld_unit_zero (S := S1x1024) hz]

/-- At a later column block the output is the product of what the scratch holds with the weight block. -/
theorem out_B (hc : ¬cond0_0 i) (s : Vec F S1024x1024 .bf16) :
    out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  rw [View.canon_unit_zero hz]
  simp only [View.readAt_eq_ld, h4.read_unread, h6.read_unread, View.ld_unit_zero (S := S1024x1024) hz]
end

/-- What a first column block leaves: the product, and the normalised rows. -/
theorem outs_A (c : Dev nD) (t : Fin cfg0.N) (h0 : t.val % 10 = 0) :
    outsAt0 m c t.val t.isLt
      = (k0_pay2 (k0_pay1 (iblk m c 0 t) (iblk m c 1 t)) (iblk m c 2 t), k0_pay1 (iblk m c 0 t) (iblk m c 1 t)) := by
  rw [outsAt0_A m c t h0, out_A, scratch_A]

/-- What a later column block leaves: the product with the scratch, and the scratch as it was. -/
theorem outs_B (c : Dev nD) (t : Fin cfg0.N) (h0 : ¬t.val % 10 = 0) (s : Vec F S1024x1024 .bf16)
    (hs : (outsAt0 m c (t.val - 1) (by have := t.isLt; omega)).2 = s) :
    outsAt0 m c t.val t.isLt = (k0_pay2 s (iblk m c 2 t), s) := by
  rw [outsAt0_B m c t h0, out_B, hs]; rfl

/-- The first grid point of the row block that `n` belongs to. -/
abbrev first (n : ℕ) (h : n < cfg0.N) : Fin cfg0.N := ⟨10 * (n / 10), by omega⟩

/-- The rows kept for point `n`: those normalised at the first point of its row block. -/
def kept (c : Dev nD) (n : ℕ) (h : n < cfg0.N) : Vec F S1024x1024 .bf16 :=
  k0_pay1 (iblk m c 0 (first n h)) (iblk m c 1 (first n h))

theorem kept_first (c : Dev nD) (t : Fin cfg0.N) (h0 : t.val % 10 = 0) :
    kept m c t.val t.isLt = k0_pay1 (iblk m c 0 t) (iblk m c 1 t) := by
  have e : first t.val t.isLt = t := Fin.ext (by show 10 * (t.val / 10) = t.val; omega)
  unfold kept; rw [e]

theorem kept_later (c : Dev nD) (n : ℕ) (h : n < cfg0.N) (h0 : ¬n % 10 = 0) :
    kept m c n h = kept m c (n - 1) (by omega) := by
  have e : first n h = first (n - 1) (by omega) := Fin.ext (by show 10 * (n / 10) = 10 * ((n - 1) / 10); omega)
  unfold kept; rw [e]

/-- After every grid point the scratch holds the normalised rows of the point's row block, and the output block is
    their product with the point's weight block. -/
theorem outs_eq (c : Dev nD) (n : ℕ) : ∀ h : n < cfg0.N,
    outsAt0 m c n h = (k0_pay2 (kept m c n h) (iblk m c 2 ⟨n, h⟩), kept m c n h) := by
  induction n with
  | zero =>
    intro h
    rw [kept_first m c ⟨0, h⟩ rfl]
    exact outs_A m c ⟨0, h⟩ rfl
  | succ n ih =>
    intro h
    by_cases h0 : (n + 1) % 10 = 0
    · rw [kept_first m c ⟨n + 1, h⟩ h0]
      exact outs_A m c ⟨n + 1, h⟩ h0
    · rw [kept_later m c (n + 1) h h0]
      exact outs_B m c ⟨n + 1, h⟩ h0 _ (congrArg Prod.snd (ih (Nat.lt_of_succ_lt h)))

end Cert.Kernel2Ideal.InProj

end
-- ==== Proof.InProjSpec.lean ====
/-
  Program 2, the array: every row of the activations divided by its root mean square and scaled by the gains, then
  multiplied by the input projection's weights.
-/
module

public import proofs.«01_k».proof.Kernel2Ideal
public import Idealize.ShloMosaic.Lib.Pipeline.ValueKit
public import Idealize.ShloMosaic.Lib.Pointwise

@[expose] public section

noncomputable section

open Idealize.ShloMosaic Cert.Kernel2Ideal

namespace Cert.InProj

/-- Token `r` of the flattened batch: sequence `r / 8192`, place `r % 8192`, channel `k`. -/
abbrev tok (r : Fin 32768) (k : Fin 1024) : S4x8192x1024.Idx :=
  ix3 ⟨r.val / 8192, by omega⟩ ⟨r.val % 8192, by omega⟩ k

/-- Channel `k` of token `r` over the token's root mean square (with the small constant under the root). -/
def normed (X : S4x8192x1024.Idx → EReal) (r : Fin 32768) (k : Fin 1024) : EReal :=
  X (tok r k) * Ideal.rsqrt (Ideal.div (∑ j, X (tok r j) * X (tok r j)) (Ideal.ofBits FTy.f32 1149239296#32)
    + Ideal.ofBits FTy.f32 897988541#32)

/-- The projection: `∑ₖ normed(r, k) · gain(k) · weight(k, c)`. -/
def proj (X : S4x8192x1024.Idx → EReal) (g : S1x1024.Idx → EReal) (W : S1x1024x10240.Idx → EReal)
    (i : S32768x10240.Idx) : EReal :=
  ∑ k : Fin 1024, normed X (i 0) k * g (ix2 0 k) * W (ix3 0 k (i 1))

end Cert.InProj

end
-- ==== Proof.InProjEq.lean ====
/-
  Program 2, the equation: the array the kernel leaves and the array the reference computes are both the projection
  of the normalised rows.
-/
module

public import proofs.«01_k».proof.Proof.InProjBlock
public import proofs.«01_k».proof.Proof.InProjSpec
public import proofs.«01_k».proof.Proof.Gen.Reference2Ideal.Run

@[expose] public section

set_option maxRecDepth 16384

noncomputable section

open Idealize.ShloMosaic Idealize.ShloMosaic.TcCoe Idealize.SL.Sem

namespace Cert.Kernel2Ideal.InProj

open Cert.Kernel2Ideal Cert.Kernel2Ideal.Gen Cert.InProj

variable (m : (ℓ : Loc nD τ sig) → Buf (Elt Ideal) ℓ) (ρ : Dev nD → PrngReg)

/-- Which block each input window shows at a grid point. -/
theorem idx_in : ∀ t : Fin cfg0.N, win0_0.index t = ![t.val / 10, 0] ∧ win0_1.index t = ![0, 0]
    ∧ win0_2.index t = ![0, t.val % 10] :=
  (by decide +kernel : ∀ t : Fin grid0.N, _)

/-- The block of activations at point `t` is rows `1024 · (t / 10)` and on. -/
theorem in_x (c : Dev nD) (t : Fin cfg0.N) (a b : Fin 1024) (r : Fin 32768) (hr : r.val = 1024 * (t.val / 10) + a.val) :
    iblk m c 0 t (ix2 a b) = m ((c.tc : Thread nD τ).loc main_arg0) (tok r b) := by
  obtain ⟨e0, e1, e2⟩ := idx_in t
  blk_simp [iblk]
  entry_read
  pointwise
  unfold tok
  blk_ext [e0]

/-- The gains, at every point the whole row. -/
theorem in_g (c : Dev nD) (t : Fin cfg0.N) (b : Fin 1024) :
    iblk m c 1 t (ix2 0 b) = m ((c.tc : Thread nD τ).loc main_arg1) (ix2 0 b) := by
  obtain ⟨e0, e1, e2⟩ := idx_in t
  blk_simp [iblk]
  entry_read
  pointwise
  blk_ext [e1]

/-- The block of weights at point `t` is columns `1024 · (t % 10)` and on. -/
theorem in_w (c : Dev nD) (t : Fin cfg0.N) (a b : Fin 1024) (q : Fin 10240) (hq : q.val = 1024 * (t.val % 10) + b.val) :
    iblk m c 2 t (ix2 a b) = m ((c.tc : Thread nD τ).loc main_arg2) (ix3 0 a q) := by
  obtain ⟨e0, e1, e2⟩ := idx_in t
  blk_simp [iblk]
  entry_read
  pointwise
  blk_ext [e2]

/-- A product block at an element, over the block's rows, gains and weights. -/
theorem pay_apply (x : Vec Ideal S1024x1024 .f32) (g : Vec Ideal S1x1024 .f32) (w : Vec Ideal S1024x1024 .bf16)
    (a b : Fin 1024) : k0_pay2 (k0_pay1 x g) w (ix2 a b)
      = ∑ k : Fin 1024, x (ix2 a k) * Ideal.rsqrt (Ideal.div (∑ j, x (ix2 a j) * x (ix2 a j))
          (Ideal.ofBits FTy.f32 1149239296#32) + Ideal.ofBits FTy.f32 897988541#32) * g (ix2 0 k) * w (ix2 k b) := by
  pointwise [k0_pay1, k0_pay2]

/-- The kernel's result array is the projection of its arguments. -/
theorem value (c : Dev nD) : Value.G3 m c = proj (m ((c.tc : Thread nD τ).loc main_arg0))
    (m ((c.tc : Thread nD τ).loc main_arg1)) (m ((c.tc : Thread nD τ).loc main_arg2)) := by
  funext i
  idx_vars i
  have hN : cfg0.N = 320 := N_0
  have h : Value.pt3Of (ix2 i0 i1) < cfg0.N := by
    rw [hN]; show 10 * (i0.val / 1024 - 0) + 1 * (i1.val / 1024 - 0) < 320; omega
  unfold Value.G3
  rw [dif_pos h, ← Value.outsAt0_sweep m c _ h, outs_eq m c _ h]
  have e : Value.loc3Of (ix2 i0 i1) = ix2 (⟨i0.val % 1024, by omega⟩ : Fin 1024) (⟨i1.val % 1024, by omega⟩ : Fin 1024) := by
    funext a; fin_cases a <;> rfl
  have hp : Value.pt3Of (ix2 i0 i1) = 10 * (i0.val / 1024 - 0) + 1 * (i1.val / 1024 - 0) := rfl
  dsimp only
  rw [e]
  unfold kept
  rw [pay_apply]
  unfold proj normed
  refine Finset.sum_congr (M := EReal) rfl fun k _ => ?_
  have hx : ∀ j, iblk m c 0 (first (Value.pt3Of (ix2 i0 i1)) h) (ix2 (⟨i0.val % 1024, by omega⟩ : Fin 1024) j)
      = m ((c.tc : Thread nD τ).loc main_arg0) (tok i0 j) :=
    fun j => in_x m c _ _ _ i0 (by dsimp only; rw [hp]; omega)
  have hw := in_w m c ⟨Value.pt3Of (ix2 i0 i1), h⟩ k ⟨i1.val % 1024, by omega⟩ i1 (by dsimp only; rw [hp]; omega)
  rw [hw, in_g]
  simp only [hx]
  rfl

/-- The kernel's run: its result is the projection of its arguments, which are left as they were. -/
theorem run : θ_run defs (onTc (τ := τ) (main (F := Ideal))) ⟨m, fun _ => 0, ρ⟩ fun r => ∀ c : Dev nD,
      r.2.mem ((c.tc : Thread nD τ).loc main_v5) = proj (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value m c), (h c).2⟩) (Value.run m ρ)

end Cert.Kernel2Ideal.InProj

namespace Cert.Reference2Ideal.InProj

open Cert.Reference2Ideal Cert.Reference2Ideal.Gen Cert.InProj

variable (m : (ℓ : Loc nD τ sig) → Buf (Elt Ideal) ℓ) (ρ : Dev nD → PrngReg)

/-- The reference's last reshape: token `r` is place `r % 8192` of sequence `r / 8192`. -/
theorem cast_apply (Y : FVec Ideal S4x8192x10240 .f32) (r : Fin 32768) (q : Fin 10240) :
    shapeCast S32768x10240 Y shapeCasts_S4x8192x10240_S32768x10240 (ix2 r q)
      = Y (ix3 ⟨r.val / 8192, by omega⟩ ⟨r.val % 8192, by omega⟩ q) := by
  pointwise

/-- The reference's normalised rows times its weights, at an element. -/
theorem term_apply (X : FVec Ideal S4x8192x1024 .f32) (g : FVec Ideal S1x1024 .f32) (W : FVec Ideal S1x1024x10240 .f32)
    (a : Fin 4) (b : Fin 8192) (q : Fin 10240) :
    Host.dotGeneral dot_S4x8192x1024_S1024x10240_S4x8192x10240_2_0_01_1_n_n none
      (mulf (mulf X (broadcastInDim S4x8192x1024 ![0, 1, 2] bcast_S4x8192x1_S4x8192x1024_0_1_2 (Host.rsqrt (addf
          (Host.divf (broadcastInDim S4x8192x1 ![0, 1] bcast_S4x8192_S4x8192x1_0_1 (Host.reduceAdd (mulf X X)
              (constant S_ .f32 0x00000000#32) reducesTo_S4x8192x1024_S4x8192_d2 h_S_))
            (broadcastInDim S4x8192x1 ![] bcast_S_S4x8192x1 (constant S_ .f32 0x44800000#32)))
          (broadcastInDim S4x8192x1 ![] bcast_S_S4x8192x1 (constant S_ .f32 0x358637BD#32))))))
        (broadcastInDim S4x8192x1024 ![0, 1, 2] bcast_S1x1x1024_S4x8192x1024_0_1_2
          (broadcastInDim S1x1x1024 ![2] bcast_S1024_S1x1x1024_2 (shapeCast _ g shapeCasts_S1x1024_S1024))))
      (shapeCast _ W shapeCasts_S1x1024x10240_S1024x10240) (ix3 a b q)
    = ∑ k : Fin 1024, X (ix3 a b k) * Ideal.rsqrt (Ideal.div (∑ j, X (ix3 a b j) * X (ix3 a b j))
        (Ideal.ofBits FTy.f32 1149239296#32) + Ideal.ofBits FTy.f32 897988541#32) * g (ix2 0 k) * W (ix3 0 k q) := by
  pointwise

/-- The reference's run: its result is the projection of its arguments, which are left as they were. -/
theorem run : θ_run defs (onTc (τ := τ) (main (F := Ideal))) ⟨m, fun _ => 0, ρ⟩ fun r => ∀ c : Dev nD,
      r.2.mem ((c.tc : Thread nD τ).loc main_v16) = proj (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  funext i
  idx_vars i
  exact (cast_apply _ i0 i1).trans (term_apply ..)

end Cert.Reference2Ideal.InProj

end
-- ==== Proof.MergeSpec.lean ====
/-
  Program 3, the array: the two gated branches added, projected out, and added to the residual stream.
-/
module

public import proofs.«01_k».proof.Proof.InProjEq
public import proofs.«01_k».proof.Kernel3Ideal

@[expose] public section

noncomputable section

open Idealize.ShloMosaic Cert.Kernel3Ideal

namespace Cert.Merge

/-- Token `r` of the flattened batch: sequence `r / 8192`, place `r % 8192`, channel `k`. -/
abbrev tok (r : Fin 32768) (k : Fin 1024) : S4x8192x1024.Idx :=
  ix3 ⟨r.val / 8192, by omega⟩ ⟨r.val % 8192, by omega⟩ k

/-- The long convolution's output for token `r`, channel `k`, in its channel-major layout with the place split in
    rows of 128. -/
abbrev tokT (r : Fin 32768) (k : Fin 1024) : S4x1024x64x128.Idx :=
  ix4 ⟨r.val / 8192, by omega⟩ k ⟨r.val % 8192 / 128, by omega⟩ ⟨r.val % 8192 % 128, by omega⟩

/-- A gate: the logistic function of the projection's column `o + k` for token `r`. -/
def gate (P : S32768x10240.Idx → EReal) (r : Fin 32768) (q : Fin 10240) : EReal :=
  Ideal.logistic (P (ix2 r q))

/-- Branch a of token `r`, channel `k`: the recurrence's output projected. -/
def branchA (oh : S4x8192x1024.Idx → EReal) (Wa : S1x1024x1024.Idx → EReal) (r : Fin 32768) (k : Fin 1024) : EReal :=
  ∑ j : Fin 1024, oh (tok r j) * Wa (ix3 0 j k)

/-- Branch b of token `r`, channel `k`: the convolution's output plus the bias times its input, gated and projected. -/
def branchB (y : S4x1024x64x128.Idx → EReal) (u x0 : S4x8192x1024.Idx → EReal) (b : S1x1024.Idx → EReal)
    (Wb : S1x1024x1024.Idx → EReal) (r : Fin 32768) (k : Fin 1024) : EReal :=
  ∑ j : Fin 1024, x0 (tok r j) * (y (tokT r j) + u (tok r j) * b (ix2 0 j)) * Wb (ix3 0 j k)

/-- The merged output: the residual plus the projection of the gated branches. -/
def merge (oh : S4x8192x1024.Idx → EReal) (y : S4x1024x64x128.Idx → EReal) (u x0 : S4x8192x1024.Idx → EReal)
    (P : S32768x10240.Idx → EReal) (x : S4x8192x1024.Idx → EReal) (b : S1x1024.Idx → EReal)
    (Wa Wb Wo : S1x1024x1024.Idx → EReal) (i : S32768x1024.Idx) : EReal :=
  x (tok (i 0) (i 1)) + ∑ k : Fin 1024,
    (gate P (i 0) ⟨8192 + k.val, by omega⟩ * branchA oh Wa (i 0) k
      + gate P (i 0) ⟨9216 + k.val, by omega⟩ * branchB y u x0 b Wb (i 0) k) * Wo (ix3 0 k (i 1))

end Cert.Merge

end
-- ==== Proof.MergeEq.lean ====
/-
  Program 3, the equation: the array the kernel leaves and the array the reference computes are both the merged output.
-/
module

public import proofs.«01_k».proof.Proof.MergeSpec
public import proofs.«01_k».proof.Proof.Gen.Kernel3Ideal.Value
public import proofs.«01_k».proof.Proof.Gen.Reference3Ideal.Run

@[expose] public section

set_option maxRecDepth 16384

noncomputable section

open Idealize.ShloMosaic Idealize.ShloMosaic.TcCoe Idealize.SL.Sem

namespace Cert.Kernel3Ideal.Merge

open Cert.Kernel3Ideal Cert.Kernel3Ideal.Gen Cert.Merge

variable (m : (ℓ : Loc nD τ sig) → Buf (Elt Ideal) ℓ) (ρ : Dev nD → PrngReg)

/-- Which block each window shows at a grid point. -/
theorem idx_in : ∀ t : Fin cfg0.N, win0_0.index t = ![t.val, 0] ∧ win0_1.index t = ![t.val / 32, 0, t.val % 32]
    ∧ win0_2.index t = ![t.val, 0] ∧ win0_3.index t = ![t.val, 0] ∧ win0_4.index t = ![t.val, 8]
    ∧ win0_5.index t = ![t.val, 9] ∧ win0_6.index t = ![t.val, 0] ∧ win0_7.index t = ![0, 0]
    ∧ win0_8.index t = ![0, 0] ∧ win0_9.index t = ![0, 0] ∧ win0_10.index t = ![0, 0] ∧ win0_11.index t = ![t.val, 0] :=
  (by decide +kernel : ∀ t : Fin grid0.N, _)

section
variable (c : Dev nD) (t : Fin cfg0.N) (a : Fin 256) (r : Fin 32768) (hr : r.val = 256 * t.val + a.val)
include hr

theorem in_oh (k : Fin 1024) : iblk m c 0 t (ix2 a k) = m ((c.tc : Thread nD τ).loc main_arg0) (tok r k) := by
  obtain ⟨e, -⟩ := idx_in t
  blk_simp [iblk]; entry_read; pointwise; unfold tok; blk_ext [e]

theorem in_y (k : Fin 1024) : iblk m c 1 t (ix3 0 k a) = m ((c.tc : Thread nD τ).loc main_arg1) (tokT r k) := by
  obtain ⟨-, e, -⟩ := idx_in t
  blk_simp [iblk]; entry_read; pointwise; unfold tokT; blk_ext [e]

theorem in_u (k : Fin 1024) : iblk m c 2 t (ix2 a k) = m ((c.tc : Thread nD τ).loc main_arg2) (tok r k) := by
  obtain ⟨-, -, e, -⟩ := idx_in t
  blk_simp [iblk]; entry_read; pointwise; unfold tok; blk_ext [e]

theorem in_x0 (k : Fin 1024) : iblk m c 3 t (ix2 a k) = m ((c.tc : Thread nD τ).loc main_arg3) (tok r k) := by
  obtain ⟨-, -, -, e, -⟩ := idx_in t
  blk_simp [iblk]; entry_read; pointwise; unfold tok; blk_ext [e]

theorem in_ga (k : Fin 1024) : iblk m c 4 t (ix2 a k)
    = m ((c.tc : Thread nD τ).loc main_arg4) (ix2 r (⟨8192 + k.val, by omega⟩ : Fin 10240)) := by
  obtain ⟨-, -, -, -, e, -⟩ := idx_in t
  blk_simp [iblk]; entry_read; blk_ext [e]

theorem in_gb (k : Fin 1024) : iblk m c 5 t (ix2 a k)
    = m ((c.tc : Thread nD τ).loc main_arg4) (ix2 r (⟨9216 + k.val, by omega⟩ : Fin 10240)) := by
  obtain ⟨-, -, -, -, -, e, -⟩ := idx_in t
  blk_simp [iblk]; entry_read; blk_ext [e]

theorem in_x (k : Fin 1024) : iblk m c 6 t (ix2 a k) = m ((c.tc : Thread nD τ).loc main_arg5) (tok r k) := by
  obtain ⟨-, -, -, -, -, -, e, -⟩ := idx_in t
  blk_simp [iblk]; entry_read; pointwise; unfold tok; blk_ext [e]
end

section
variable (c : Dev nD) (t : Fin cfg0.N)

theorem in_b (k : Fin 1024) : iblk m c 7 t (ix2 0 k) = m ((c.tc : Thread nD τ).loc main_arg6) (ix2 0 k) := by
  obtain ⟨-, -, -, -, -, -, -, e, -⟩ := idx_in t
  blk_simp [iblk]; entry_read; pointwise; blk_ext [e]

theorem in_wa (j k : Fin 1024) : iblk m c 8 t (ix2 j k) = m ((c.tc : Thread nD τ).loc main_arg7) (ix3 0 j k) := by
  obtain ⟨-, -, -, -, -, -, -, -, e, -⟩ := idx_in t
  blk_simp [iblk]; entry_read; pointwise; blk_ext [e]

theorem in_wb (j k : Fin 1024) : iblk m c 9 t (ix2 j k) = m ((c.tc : Thread nD τ).loc main_arg8) (ix3 0 j k) := by
  obtain ⟨-, -, -, -, -, -, -, -, -, e, -⟩ := idx_in t
  blk_simp [iblk]; entry_read; pointwise; blk_ext [e]

theorem in_wo (j k : Fin 1024) : iblk m c 10 t (ix2 j k) = m ((c.tc : Thread nD τ).loc main_arg9) (ix3 0 j k) := by
  obtain ⟨-, -, -, -, -, -, -, -, -, -, e, -⟩ := idx_in t
  blk_simp [iblk]; entry_read; pointwise; blk_ext [e]
end

/-- The body's output block at an element, over the blocks it loads. -/
theorem pay_apply (oh : Vec Ideal S256x1024 .bf16) (y : Vec Ideal S1x1024x256 .f32) (u x0 ga gb x : Vec Ideal S256x1024 .f32)
    (b : Vec Ideal S1x1024 .f32) (wa wb wo : Vec Ideal S1024x1024 .bf16) (r : Fin 256) (q : Fin 1024) :
    k0_pay1 (k0_pay2 x) (k0_pay3 oh wa x0 y u b wb ga gb) (k0_pay4 wo) (ix2 r q)
      = x (ix2 r q) + ∑ k : Fin 1024, (Ideal.logistic (ga (ix2 r k)) * (∑ j : Fin 1024, oh (ix2 r j) * wa (ix2 j k))
          + Ideal.logistic (gb (ix2 r k)) * (∑ j : Fin 1024,
              x0 (ix2 r j) * (y (ix3 0 j r) + u (ix2 r j) * b (ix2 0 j)) * wb (ix2 j k))) * wo (ix2 k q) := by
  pointwise [k0_pay1, k0_pay2, k0_pay3, k0_pay4]

/-- The kernel's result array is the merged output of its arguments. -/
theorem value (c : Dev nD) : (dats m 0 c).arrAt 11 cfg0.N = merge (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) := by
  refine (dats m 0 c).arrAt_eq_of_covers 11 _ (by decide +kernel) fun t hf y => ?_
  blk_simp
  rw [after0_11]
  frame_out
  idx_vars y
  have hN : cfg0.N = 128 := N_0
  have ht : t.val < 128 := hN ▸ t.isLt
  have e : ((View.whole main_v13).slice (win0_11.rect t)).emb (ix2 y0 y1)
      = ix2 (⟨256 * t.val + y0.val, by omega⟩ : Fin 32768) y1 := by
    obtain ⟨-, -, -, -, -, -, -, -, -, -, -, e⟩ := idx_in t
    blk_ext [e]
  rw [e, pay_apply]
  generalize hr : (⟨256 * t.val + y0.val, _⟩ : Fin 32768) = r
  have hr : r.val = 256 * t.val + y0.val := by rw [← hr]
  unfold merge gate branchA branchB
  simp only [in_oh m c t y0 r hr, in_y m c t y0 r hr, in_u m c t y0 r hr, in_x0 m c t y0 r hr, in_ga m c t y0 r hr,
    in_gb m c t y0 r hr, in_x m c t y0 r hr, in_b, in_wa, in_wb, in_wo]
  rfl

/-- The kernel's run: its result is the merged output of its arguments, which are left as they were. -/
theorem run : θ_run defs (onTc (τ := τ) (main (F := Ideal))) ⟨m, fun _ => 0, ρ⟩ fun r => ∀ c : Dev nD,
      r.2.mem ((c.tc : Thread nD τ).loc main_v13) = merge (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (value m c), (h c).2⟩) (Value.run_blocks m ρ)

end Cert.Kernel3Ideal.Merge

namespace Cert.Reference3Ideal.Merge

open Cert.Reference3Ideal Cert.Reference3Ideal.Gen Cert.Merge

variable (m : (ℓ : Loc nD τ sig) → Buf (Elt Ideal) ℓ) (ρ : Dev nD → PrngReg)

/-- The reference's last reshape: token `r` is place `r % 8192` of sequence `r / 8192`. -/
theorem cast_apply (Y : FVec Ideal S4x8192x1024 .f32) (r : Fin 32768) (q : Fin 1024) :
    shapeCast S32768x1024 Y shapeCasts_S4x8192x1024_S32768x1024 (ix2 r q) = Y (tok r q) := by
  unfold tok
  pointwise

/-- The reference's gate of branch a, at an element: the logistic function of the projection's column. -/
theorem gateA_apply (P : FVec Ideal S32768x10240 .f32) (r : Fin 32768) (k : Fin 1024) :
    Host.divf (broadcastInDim S4x8192x1024 ![] bcast_S_S4x8192x1024 (constant S_ .f32 0x3F800000#32))
      (addf (broadcastInDim S4x8192x1024 ![] bcast_S_S4x8192x1024 (constant S_ .f32 0x3F800000#32))
        (Host.exp (Host.negf (shapeCast S4x8192x1024 (extractStridedSlice S32768x1024 ![0, 8192] P
          slices_S32768x10240_S32768x1024_0_8192) shapeCasts_S32768x1024_S4x8192x1024)))) (tok r k)
      = gate P r ⟨8192 + k.val, by omega⟩ := by
  unfold tok gate Ideal.logistic
  pointwise

/-- The reference's gate of branch b, at an element: the logistic function of the projection's column. -/
theorem gateB_apply (P : FVec Ideal S32768x10240 .f32) (r : Fin 32768) (k : Fin 1024) :
    Host.divf (broadcastInDim S4x8192x1024 ![] bcast_S_S4x8192x1024 (constant S_ .f32 0x3F800000#32))
      (addf (broadcastInDim S4x8192x1024 ![] bcast_S_S4x8192x1024 (constant S_ .f32 0x3F800000#32))
        (Host.exp (Host.negf (shapeCast S4x8192x1024 (extractStridedSlice S32768x1024 ![0, 9216] P
          slices_S32768x10240_S32768x1024_0_9216) shapeCasts_S32768x1024_S4x8192x1024)))) (tok r k)
      = gate P r ⟨9216 + k.val, by omega⟩ := by
  unfold tok gate Ideal.logistic
  pointwise

/-- The reference's branch a at an element. -/
theorem branchA_apply (oh : FVec Ideal S4x8192x1024 .bf16) (Wa : FVec Ideal S1x1024x1024 .bf16) (r : Fin 32768) (k : Fin 1024) :
    Host.dotGeneral dot_S4x8192x1024_S1024x1024_S4x8192x1024_2_0_01_1_n_n none (extf .f32 oh bitsLt_bf16_f32)
      (shapeCast S1024x1024 Wa shapeCasts_S1x1024x1024_S1024x1024) (tok r k) = branchA oh Wa r k := by
  unfold tok branchA
  pointwise

/-- The reference's branch b at an element. -/
theorem branchB_apply (y : FVec Ideal S4x1024x64x128 .f32) (u x0 : FVec Ideal S4x8192x1024 .f32) (b : FVec Ideal S1x1024 .f32)
    (Wb : FVec Ideal S1x1024x1024 .bf16) (r : Fin 32768) (k : Fin 1024) :
    Host.dotGeneral dot_S4x8192x1024_S1024x1024_S4x8192x1024_2_0_01_1_n_n none
      (mulf x0 (addf (transpose S4x8192x1024 [0, 2, 1] (shapeCast S4x1024x8192 y shapeCasts_S4x1024x64x128_S4x1024x8192)
          transposes_S4x1024x8192_S4x8192x1024_0_2_1)
        (mulf u (broadcastInDim S4x8192x1024 ![0, 1, 2] bcast_S1x1x1024_S4x8192x1024_0_1_2
          (broadcastInDim S1x1x1024 ![2] bcast_S1024_S1x1x1024_2 (shapeCast S1024 b shapeCasts_S1x1024_S1024))))))
      (shapeCast S1024x1024 Wb shapeCasts_S1x1024x1024_S1024x1024) (tok r k) = branchB y u x0 b Wb r k := by
  unfold tok branchB
  pointwise

/-- The gated branches added, projected out and added to the residual, at an element, for any gates and branches. -/
theorem out_apply (x ga ba gb bb : FVec Ideal S4x8192x1024 .f32) (Wo : FVec Ideal S1x1024x1024 .bf16) (r : Fin 32768) (q : Fin 1024) :
    addf x (Host.dotGeneral dot_S4x8192x1024_S1024x1024_S4x8192x1024_2_0_01_1_n_n none (addf (mulf ga ba) (mulf gb bb))
      (shapeCast S1024x1024 Wo shapeCasts_S1x1024x1024_S1024x1024)) (tok r q)
      = x (tok r q) + ∑ k : Fin 1024, (ga (tok r k) * ba (tok r k) + gb (tok r k) * bb (tok r k)) * Wo (ix3 0 k q) := by
  unfold tok
  pointwise

/-- The reference's run: its result is the merged output of its arguments, which are left as they were. -/
theorem run : θ_run defs (onTc (τ := τ) (main (F := Ideal))) ⟨m, fun _ => 0, ρ⟩ fun r => ∀ c : Dev nD,
      r.2.mem ((c.tc : Thread nD τ).loc main_v35) = merge (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c).1.trans ?_, (h c).2⟩) (Value.run m ρ)
  funext i
  idx_vars i
  refine (cast_apply _ i0 i1).trans ((out_apply ..).trans ?_)
  exact congrArg₂ (· + ·) rfl (Finset.sum_congr (M := EReal) rfl fun k _ => congrArg (· * _)
    (congrArg₂ (· + ·) (congrArg₂ (· * ·) (gateA_apply ..) (branchA_apply ..))
      (congrArg₂ (· * ·) (gateB_apply ..) (branchB_apply ..))))

end Cert.Reference3Ideal.Merge

end
-- ==== Proof.PeerSpec.lean ====
/-
  Program 1, the array: the retrieved experts' output added to the tokens and normalised.
-/
module

public import proofs.«01_k».proof.Proof.MergeEq
public import proofs.«01_k».proof.KernelIdeal
public import Idealize.ShloMosaic.Lib.Pointwise

@[expose] public section

noncomputable section

open Idealize.ShloMosaic Cert.KernelIdeal

namespace Cert.Peer

/-- The first of the eight rows of the packed table that hold the pair of experts `e` is in. -/
def rowOf (e : BitVec 32) : BitVec 32 := IntOp.muli (IntOp.shrsi ArithUnit.host e 1#32) 8#32

/-- Eight times half the expert number. -/
theorem toNat_rowOf (e : BitVec 32) (h : e.toNat < 16384) : (rowOf e).toNat = e.toNat / 2 * 8 := by
  have hm : e.msb = false := by rw [BitVec.msb_eq_decide]; simp; omega
  have hs : IntOp.shrsi ArithUnit.host e 1#32 = e >>> 1 := by
    simp [IntOp.shrsi, BitVec.sshiftRight_eq_of_msb_false hm]
  unfold rowOf
  rw [hs]
  simp only [IntOp.muli, BitVec.toNat_mul, BitVec.toNat_ushiftRight, BitVec.toNat_ofNat, Nat.shiftRight_eq_div_pow]
  omega

/-- A number of the expert table: the value its sixteen bits stand for. -/
def entry (bits : IVec S1x16384x1024 16) (e : BitVec 32) (d : Fin 1024) : EReal :=
  Ideal.ofBits .bf16 (bits (ix3 0 ⟨e.toNat % 16384, Nat.mod_lt _ (by norm_num)⟩ d))

/-- A row divided by its root mean square, times a gain. -/
def normed (x g : Fin 1024 → EReal) (d : Fin 1024) : EReal :=
  x d * Ideal.rsqrt (Ideal.div (∑ k, x k * x k) (Ideal.ofBits .f32 0x44800000#32) + Ideal.ofBits .f32 0x358637BD#32) * g d

/-- A token's row with its experts' rows, weighted, added. -/
def added (experts : IVec S32768x128 32) (act : FVec Ideal S32768x128 .f32) (h : FVec Ideal S32768x1024 .f32)
    (bits : IVec S1x16384x1024 16) (r : Fin 32768) (d : Fin 1024) : EReal :=
  h (ix2 r d) + ∑ j : Fin 128, act (ix2 r j) * entry bits (experts (ix2 r j)) d

/-- The result: every token's row with its experts' rows added, normalised. -/
def out (experts : IVec S32768x128 32) (act : FVec Ideal S32768x128 .f32) (h : FVec Ideal S32768x1024 .f32)
    (g : FVec Ideal S1024 .f32) (bits : IVec S1x16384x1024 16) : FVec Ideal S32768x1024 .f32 := fun i =>
  normed (added experts act h bits (i 0)) (fun d => g (ix1 d)) (i 1)

end Cert.Peer

end
-- ==== Proof.PeerHyps.lean ====
/-
  Program 1 over the extended reals: an expert number below 16384 names a tile inside the packed table, so the side
  conditions the body assumes of the words it reads hold.
-/
module

public import proofs.«01_k».proof.Proof.PeerSpec
public import proofs.«01_k».proof.Proof.Gen.KernelIdeal.Frame
public import Idealize.ShloMosaic.Lib.StableHlo.ReadAt

@[expose] public section

set_option maxRecDepth 16384

noncomputable section

open Idealize.ShloMosaic Idealize.ShloMosaic.TcCoe Idealize.SL.Sem

namespace Cert.KernelIdeal.Peer

open Cert.KernelIdeal Cert.KernelIdeal.Gen Cert.Peer

variable {F : FTy → Type} [FloatOps F] (m : (ℓ : Loc nD τ sig) → Buf (Elt F) ℓ)

/-- The array of row numbers the kernel reads: eight times half the expert number. -/
theorem entry_row (c : Dev nD) (r : Fin 32768) (j : Fin 128) :
    V m c main_v3 (ix2 r j) = rowOf (m ((c.tc : Thread nD τ).loc main_arg0) (ix2 r j)) := by
  unfold V
  simp only [List.flatten_cons, List.flatten_nil, List.append_nil, List.cons_append, List.nil_append]
  after_reads_at
  rfl

/-- A word that is a multiple of eight and at most 65528 names eight rows of the packed table. -/
theorem chk_of (w : BitVec 32) (h8 : 8 ∣ w.toNat) (h : w.toNat ≤ 65528) : k0_chk1 w := by
  refine ⟨h8, fun a => ?_⟩
  match a with
  | 0 => show w.toNat + 8 ≤ 65536; omega
  | 1 => show 0 + 128 ≤ 128; omega

set_option maxHeartbeats 4000000 in
/-- The side conditions, from expert numbers below 16384. -/
theorem hyps_of (W : ∀ (c : Dev nD) r j, (m ((c.tc : Thread nD τ).loc main_arg0) (ix2 r j)).toNat < 16384) : Hyps m := by
  have rd (c t i) : 8 ∣ (iblk m c 0 t i).toNat ∧ (iblk m c 0 t i).toNat ≤ 65528 := by
    have key : ∀ y : S32768x128.Idx, 8 ∣ (V m c main_v3 y).toNat ∧ (V m c main_v3 y).toNat ≤ 65528 := fun y => by
      idx_vars y
      rw [entry_row, toNat_rowOf _ (W c y0 y1)]
      have := W c y0 y1
      omega
    unfold iblk
    rw [View.read_apply, cast_eq]
    exact key _
  have ok (c t) (R : LoadRect S128x128) (i) :
      k0_chk1 ((ms0_0 t).view.readAt (Elt F) R ((hs0_0 t).unread (iblk m c 0 t)) i) := by
    simp only [View.readAt_apply, Memref.IsWhole.read_unread]
    exact chk_of _ (rd ..).1 (rd ..).2
  apply Hyps.of <;> exact fun c t _ _ => ok c t _ _

end Cert.KernelIdeal.Peer

end
-- ==== Proof.PeerPay.lean ====
/-
  Program 1, the computation of one token's row. A trip of the body's loop loads 128 tiles of packed words, one for
  each expert of the token, splits the words into rows, weighs the rows, and adds and normalises what results.
-/
module

public import proofs.«01_k».proof.Proof.PeerHyps
public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Peer

open Cert.KernelIdeal Cert.KernelIdeal.Gen

variable {F : FTy → Type} [FloatOps F]

/-- Sixty-four tiles fit below one another. -/
theorem stack_fits (T : Fin 64 → FVec F S16x128 .bf16) :
    Shape.Concatenates ((List.ofFn fun n : Fin 64 => (⟨S16x128, T n⟩ : (s : Shape) × (s.Idx → F .bf16))).map (·.1)) S1024x128 0 := by
  rw [List.map_ofFn]
  exact (by decide : Shape.Concatenates (List.ofFn fun _ : Fin 64 => S16x128) S1024x128 0)

/-- Sixty-four tiles below one another. -/
def stack (T : Fin 64 → FVec F S16x128 .bf16) : FVec F S1024x128 .bf16 :=
  concatenate S1024x128 0 (List.ofFn fun n : Fin 64 => ⟨S16x128, T n⟩) (stack_fits T)

/-- The weights of the rows of the tiles, for the two halves of the experts one below the other. -/
def weights (elo : Vec F S1x2048 .f32) (plo : Vec F S8x2048 .f32) (ehi : Vec F S1x2048 .f32) (phi : Vec F S8x2048 .f32) :
    FVec F S16x1024 .f32 :=
  let w : FVec F S8x2048 .f32 := addf
    (mulf (broadcastTo S8x2048 elo broadcasts_S1x2048_S8x2048) (shapeCast S8x2048 plo shapeCasts_S8x2048_S8x2048))
    (mulf (broadcastTo S8x2048 ehi broadcasts_S1x2048_S8x2048) (shapeCast S8x2048 phi shapeCasts_S8x2048_S8x2048))
  concatenate S16x1024 0 [⟨S8x1024, extractStridedSlice S8x1024 ![0, 0] w slices_S8x2048_o0_0_S8x1024⟩,
    ⟨S8x1024, extractStridedSlice S8x1024 ![0, 1024] w slices_S8x2048_o0_1024_S8x1024⟩] concatenates_S8x1024_S8x1024_S16x1024_d0

/-- The product of the weights, each split into a leading part and a rest, with the two stacks of tiles side by side. -/
def product (w : FVec F S16x1024 .f32) (lo hi : FVec F S1024x128 .bf16) : FVec F S32x256 .f32 :=
  matmul dot_S32x1024_S1024x256_S32x256_1_0_0_1_n_n none
    (concatenate S32x1024 0 [⟨S16x1024, truncf .bf16 w bitsLt_bf16_f32⟩,
      ⟨S16x1024, truncf .bf16 (subf w (extf .f32 (truncf .bf16 w bitsLt_bf16_f32) bitsLt_bf16_f32)) bitsLt_bf16_f32⟩]
      concatenates_S16x1024_S16x1024_S32x1024_d0)
    (concatenate S1024x256 1 [⟨S1024x128, lo⟩, ⟨S1024x128, hi⟩] concatenates_S1024x128_S1024x128_S1024x256_d1)
    (constant S32x256 .f32 0x00000000#32)

/-- The four blocks of the product which belong to the weighted sum, added. -/
def blocks (p : FVec F S32x256 .f32) : FVec F S8x128 .f32 :=
  addf
    (addf (extractStridedSlice S8x128 ![0, 0] p slices_S32x256_o0_0_S8x128)
      (extractStridedSlice S8x128 ![8, 128] p slices_S32x256_o8_128_S8x128))
    (addf (extractStridedSlice S8x128 ![16, 0] p slices_S32x256_o16_0_S8x128)
      (extractStridedSlice S8x128 ![24, 128] p slices_S32x256_o24_128_S8x128))

/-- The weighted sum of the rows of a token's 128 tiles, as a tile of eight rows of 128 columns. -/
def mixed (raw : Fin 128 → Vec F S8x128 .i32) (elo : Vec F S1x2048 .f32) (plo : Vec F S8x2048 .f32) (ehi : Vec F S1x2048 .f32)
    (phi : Vec F S8x2048 .f32) : FVec F S8x128 .f32 :=
  blocks (product (weights elo plo ehi phi) (stack fun n => k0_pay1 (raw ⟨n.val, by omega⟩)) (stack fun n => k0_pay1 (raw ⟨64 + n.val, by omega⟩)))

/-- The row of a token: the residual plus the weighted sum, normalised. -/
def rowPay (raw : Fin 128 → Vec F S8x128 .i32) (elo : Vec F S1x2048 .f32) (plo : Vec F S8x2048 .f32) (ehi : Vec F S1x2048 .f32)
    (phi : Vec F S8x2048 .f32) (h : Vec F S1x1024 .f32) (g : Vec F S8x128 .f32) : FVec F S1x1024 .f32 :=
  k0_pay155 (k0_pay148 (mixed raw elo plo ehi phi) h g) (k0_pay149 (mixed raw elo plo ehi phi) h g)
    (k0_pay150 (mixed raw elo plo ehi phi) h g) (k0_pay151 (mixed raw elo plo ehi phi) h g) (k0_pay152 (mixed raw elo plo ehi phi) h g)

/-- A row of a stack is a row of one of its tiles. -/
theorem stack_apply (T : Fin 64 → FVec F S16x128 .bf16) (r : Fin 1024) (l : Fin 128) :
    stack T (ix2 r l) = T ⟨r.val / 16, by omega⟩ (ix2 ⟨r.val % 16, by omega⟩ l) := by
  refine concatenate_ofFn_apply (t := S1024x128) (s₁ := S16x128) 0 T (stack_fits T) rfl 16 rfl (ix2 r l) _ rfl _ rfl fun b hb => ?_
  match b with
  | 0 => exact absurd rfl hb
  | 1 => rfl

end Cert.KernelIdeal.Peer

end
-- ==== Proof.PeerTrips.lean ====
/-
  Program 1, the loop over the 128 tokens of a block. Every trip stores one row of the output block, so after the body
  each row of the block is the payload of its trip.
-/
module

public import proofs.«01_k».proof.Proof.PeerPay
public import proofs.«01_k».proof.Proof.Gen.KernelIdeal.Value
public import Idealize.ShloMosaic.Lib.Pipeline.Value
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem

namespace Cert.KernelIdeal.Peer

open Cert.KernelIdeal Cert.KernelIdeal.Gen

variable {F : FTy → Type} [FloatOps F]

/-- Stores that are blocks of one array leave it wherever they cover. -/
theorem canon_of_cover {s : Shape} {e : EltTy} (G : s.Idx → Elt F e) (L : List (View.Piece (Elt F) s e)) (y : s.Idx)
    (hc : ∃ p ∈ L, y ∈ p.1.set) (h : View.PiecesOf G L) : View.canon L y = G y := by
  have := View.canon_append_of_piecesOf G [] L h y hc
  rwa [List.append_nil] at this

/-- If every trip stores blocks of one array, so do all the trips together. -/
theorem pieces_of_trips {s : Shape} {e : EltTy} (G : s.Idx → Elt F e) {n : ℕ} (L : ℕ → List (View.Piece (Elt F) s e))
    (T : Fin n → List (View.Piece (Elt F) s e)) (h0 : L 0 = []) (hs : ∀ k : Fin n, L (k.val + 1) = T k ++ L k.val)
    (hT : ∀ k, View.PiecesOf G (T k)) : View.PiecesOf G (L n) := by
  have app : ∀ A B : List (View.Piece (Elt F) s e), View.PiecesOf G A → View.PiecesOf G B → View.PiecesOf G (A ++ B) := by
    intro A B hA hB
    induction A with
    | nil => exact hB
    | cons p A ih => exact ⟨hA.1, ih hA.2⟩
  have all : ∀ k, k ≤ n → View.PiecesOf G (L k) := by
    intro k
    induction k with
    | zero => intro _; rw [h0]; trivial
    | succ k ih =>
      intro hk
      have := hs ⟨k, hk⟩
      simp only at this
      rw [this]
      exact app _ _ (hT _) (ih (Nat.le_of_succ_le hk))
  exact all n le_rfl

variable (m : (ℓ : Loc nD τ sig) → Buf (Elt F) ℓ)

/-- Eight rows of the packed table, from a row on. -/
def tbl (x : Vec F S65536x128 .i32) (w : BitVec 32) : Vec F S8x128 .i32 :=
  fun i => x (ix2 ⟨(w.toNat + (i 0).val) % 65536, Nat.mod_lt _ (by norm_num)⟩ (i 1))

/-- The contents of the output block after the body at a grid point: row by row the payload of that row. -/
def rows (x0 : Vec F S128x128 .i32) (x1 x2 : Vec F S128x128 .f32) (x3 : Vec F S128x1024 .f32) (x4 : Vec F S8x128 .f32)
    (x5 : Vec F S128x2048 .bf16) (x6 x7 : Vec F S8x2048 .f32) (x8 : Vec F S65536x128 .i32) : Vec F S128x1024 .f32 := fun y =>
  rowPay (fun j => tbl x8 (x0 (ix2 (y 0) j))) (fun i => k0_pay153 x1 x5 x5 (ix2 (y 0) (i 1))) x6
    (fun i => k0_pay154 x2 x5 x5 (ix2 (y 0) (i 1))) x7 (fun i => x3 (ix2 (y 0) (i 1))) x4 (ix2 0 (y 1))

/-- Equal loads give equal payloads. -/
theorem rowPay_congr {raw raw' : Fin 128 → Vec F S8x128 .i32} {elo elo' : Vec F S1x2048 .f32} {plo plo' : Vec F S8x2048 .f32}
    {ehi ehi' : Vec F S1x2048 .f32} {phi phi' : Vec F S8x2048 .f32} {h h' : Vec F S1x1024 .f32} {g g' : Vec F S8x128 .f32} {x x' : S1x1024.Idx}
    (e1 : raw = raw') (e2 : elo = elo') (e3 : plo = plo') (e4 : ehi = ehi') (e5 : phi = phi') (e6 : h = h') (e7 : g = g') (e8 : x = x') :
    rowPay raw elo plo ehi phi h g x = rowPay raw' elo' plo' ehi' phi' h' g' x' := by
  subst e1 e2 e3 e4 e5 e6 e7 e8; rfl

/-- The zero offsets. -/
theorem hz : (![0, 0] : Fin 2 → Nat) = fun _ => 0 := funext fun a => by fin_cases a <;> rfl

/-- The counter of the loop at a trip is the number of the trip. -/
theorem iv_val (k : Fin k0_t1_loop.trips) : (Scf.iv 0#32 1#32 k.val).toNat = k.val := by
  have h : k.val < 128 := Nat.lt_of_lt_of_le k.isLt k0_t1_abs.2.1
  simp [Scf.iv, BitVec.toNat_ofNat]
  omega

/-- A load of one word of an index block. -/
theorem word_at (a : Memref sig .tc .smem S128x128 .i32) (ha : a.IsWhole) (x : Vec F S128x128 .i32) (p q : Fin 128) (o : ℕ)
    (inb : ∀ a, (![o, q.val] : Fin 2 → ℕ) a + S1x1.size a ≤ S128x128.size a) (ho : o = p.val) (i : S1x1.Idx) :
    a.view.readAt (Elt F) (Rect.unit (s := S128x128) ![o, q.val] S1x1.size inb).toLoadRect (ha.unread x) i = x (ix2 p q) := by
  rw [View.readAt_eq_ld, Memref.IsWhole.read_unread]
  refine View.ld_unit_apply_of x ![o, q.val] S1x1.size inb i _ fun b => ?_
  match b with
  | 0 => have : (i 0).val < 1 := (i 0).isLt; show p.val = o + (i 0).val; omega
  | 1 => have : (i 1).val < 1 := (i 1).isLt; show q.val = q.val + (i 1).val; omega

/-- A load of one row of a block. -/
theorem row_at {n : ℕ} {e : EltTy} (X : (⟨2, ![128, n]⟩ : Shape).Idx → Elt F e) (p : Fin 128) (o : ℕ) (ho : o = p.val)
    (inb : ∀ a, (![o, 0] : Fin 2 → ℕ) a + (![1, n] : Fin 2 → ℕ) a ≤ (![128, n] : Fin 2 → ℕ) a) :
    View.ld X (Rect.unit (s := ⟨2, ![128, n]⟩) ![o, 0] ![1, n] inb) = fun i => X (ix2 p (i 1)) := by
  funext i
  refine View.ld_unit_apply_of X ![o, 0] ![1, n] inb i _ fun a => ?_
  match a with
  | 0 => have : (i 0).val < 1 := (i 0).isLt; show p.val = o + (i 0).val; omega
  | 1 => exact (Nat.zero_add _).symm

/-- A load of eight rows of the packed table, from the row that a word names. -/
theorem tile_at (a : Memref sig .tc .vmem S65536x128 .i32) (ha : a.IsWhole) (x : Vec F S65536x128 .i32) (w w' : BitVec 32)
    (hw : w = w') (hW : w'.toNat ≤ 65528) (inb : ∀ a, k0_off2 w a + S8x128.size a ≤ S65536x128.size a) :
    a.view.readAt (Elt F) (Rect.unit (s := S65536x128) (k0_off2 w) S8x128.size inb).toLoadRect (ha.unread x) = tbl x w' := by
  subst hw
  rw [View.readAt_eq_ld, Memref.IsWhole.read_unread]
  funext i
  refine View.ld_unit_apply_of x (k0_off2 w) S8x128.size inb i _ fun a => ?_
  match a with
  | 0 =>
    have : (i 0).val < 8 := (i 0).isLt
    show (w.toNat + (i 0).val) % 65536 = w.toNat + (i 0).val
    exact Nat.mod_eq_of_lt (by omega)
  | 1 => exact (Nat.zero_add _).symm

set_option maxHeartbeats 2000000 in
/-- What the body leaves in the output block at a grid point. -/
theorem outs_eq (hH : Hyps m) (c : Dev nD) (t : Fin cfg0.N) (W : ∀ i, (iblk m c 0 t i).toNat ≤ 65528) :
    outsAt0 m hH c t = rows (iblk m c 0 t) (iblk m c 1 t) (iblk m c 2 t) (iblk m c 3 t) (iblk m c 4 t) (iblk m c 5 t) (iblk m c 6 t)
      (iblk m c 7 t) (iblk m c 8 t) := by
  unfold outsAt0 out0_A_9
  rw [View.read_writes_eq_canon _ _ _ fun _ => cover0_A_9 ..]
  funext y
  refine canon_of_cover _ _ y (cover0_A_9 ..) ?_
  unfold kernelRun0_A
  dsimp only
  refine pieces_of_trips _ (n := k0_t1_loop.trips) _ _ rfl (fun k => pb_k0_t1_succ ..) (fun k => ?_)
  have hk : k.val < 128 := Nat.lt_of_lt_of_le k.isLt k0_t1_abs.2.1
  have i1 : ∀ j : Fin 128, ∀ a, (![(Scf.iv 0#32 1#32 k.val).toNat, j.val] : Fin 2 → ℕ) a + S1x1.size a ≤ S128x128.size a := by
    intro j a
    match a with
    | 0 => show (Scf.iv 0#32 1#32 k.val).toNat + 1 ≤ 128; rw [iv_val]; omega
    | 1 => show j.val + 1 ≤ 128; omega
  have i2 : ∀ j : Fin 128, ∀ a, k0_off2 ((ms0_0 t).view.readAt (Elt F) (Rect.unit (s := S128x128) _ S1x1.size (i1 j)).toLoadRect ((hs0_0 t).unread (iblk m c 0 t)) (Shape.Idx.first (numel1_S1x1.symm ▸ Nat.one_pos))) a + S8x128.size a ≤ S65536x128.size a := by
    intro j a
    simp only [View.readAt_apply, Memref.IsWhole.read_unread]
    match a with
    | 0 => exact Nat.add_le_add_right (W _) 8
    | 1 => show 0 + 128 ≤ 128; omega
  unfold tripL_k0_t1 trip_k0_t1
  dsimp only
  refine ⟨fun x => ?_, trivial⟩
  refine (congrFun (show _ = rowPay (fun j => (ms0_8 t).view.readAt (Elt F) (Rect.unit (s := S65536x128) _ S8x128.size (i2 j)).toLoadRect ((hs0_8 t).unread (iblk m c 8 t))) _ _ _ _ _ _ from rfl) x).trans ?_
  refine Eq.trans ?_ (congrArg (rows _ _ _ _ _ _ _ _ _) (?_ : ix2 (⟨k.val, hk⟩ : Fin 128) (x 1) = _))
  · have h8 : x = ix2 0 (x 1) := funext fun a => match a with
      | 0 => Fin.ext (by have : (x 0).val < 1 := (x 0).isLt; show (x 0).val = 0; omega)
      | 1 => rfl
    refine rowPay_congr ?_ ?_ ?_ ?_ ?_ ?_ ?_ h8
    · funext j i
      have hw := word_at (ms0_0 t) (hs0_0 t) (iblk m c 0 t) ⟨k.val, hk⟩ j _ (i1 j) (by rw [iv_val]) (Shape.Idx.first (numel1_S1x1.symm ▸ Nat.one_pos))
      exact congrFun (tile_at (ms0_8 t) (hs0_8 t) (iblk m c 8 t) _ _ hw (W _) (i2 j)) i
    · sl_unfold_words
      rw [View.readAt_eq_ld]
      refine (congrArg (fun X => View.ld X _) (View.read_writes_junk_eq_canon (View.whole cc0_scratch0) _)).trans ?_
      rw [View.canon_unit_zero (S := S128x2048) hz]
      simp only [View.readAt_eq_ld, Memref.IsWhole.read_unread, View.ld_unit_zero (S := S128x128) hz, View.ld_unit_zero (S := S128x2048) hz]
      exact row_at (n := 2048) _ ⟨k.val, hk⟩ _ (iv_val k) _
    · rw [View.readAt_eq_ld, Memref.IsWhole.read_unread]
      exact View.ld_unit_zero (S := S8x2048) hz _ _
    · sl_unfold_words
      rw [View.readAt_eq_ld]
      refine (congrArg (fun X => View.ld X _) (View.read_writes_junk_eq_canon (View.whole cc0_scratch1) _)).trans ?_
      rw [View.canon_unit_zero (S := S128x2048) hz]
      simp only [View.readAt_eq_ld, Memref.IsWhole.read_unread, View.ld_unit_zero (S := S128x128) hz, View.ld_unit_zero (S := S128x2048) hz]
      exact row_at (n := 2048) _ ⟨k.val, hk⟩ _ (iv_val k) _
    · rw [View.readAt_eq_ld, Memref.IsWhole.read_unread]
      exact View.ld_unit_zero (S := S8x2048) hz _ _
    · rw [View.readAt_eq_ld, Memref.IsWhole.read_unread]
      exact row_at (n := 1024) _ ⟨k.val, hk⟩ _ (iv_val k) _
    · rw [View.readAt_eq_ld, Memref.IsWhole.read_unread]
      exact View.ld_unit_zero (S := S8x128) hz _ _
  · funext a
    match a with
    | 0 =>
      refine Fin.ext ?_
      have : (x 0).val < 1 := (x 0).isLt
      show k.val = (Scf.iv 0#32 1#32 k.val).toNat + 1 * (x 0).val
      rw [iv_val]; omega
    | 1 =>
      refine Fin.ext ?_
      show (x 1).val = 0 + 1 * (x 1).val
      omega
end Cert.KernelIdeal.Peer
end
-- ==== Proof.PeerRow.lean ====
/-
  Program 1, one token's row over the extended reals: the two-part products collapse, the stacked tiles come apart, and
  what is left is the weighted sum of the experts' rows.
-/
module

public import proofs.«01_k».proof.Proof.PeerTrips
public import Idealize.ShloMosaic.Lib.BitcastPair

@[expose] public section

set_option maxRecDepth 16384

noncomputable section

open Idealize.ShloMosaic Idealize.ShloMosaic.TcCoe Idealize.SL.Sem

namespace Cert.KernelIdeal.Peer

open Cert.KernelIdeal Cert.KernelIdeal.Gen Cert.Peer

/-- A real number less itself is zero. -/
theorem sub_self_real (x : EReal) (h : ∃ u : ℝ, x = u) : x - x = 0 := by
  obtain ⟨u, rfl⟩ := h
  rw [← EReal.coe_sub, sub_self, EReal.coe_zero]

/-- A sum over `n · k` places, as `n` sums over `k` places. -/
theorem sum_split (N n k : ℕ) (h : N = n * k) (f : Fin N → EReal) :
    ∑ q, f q = ∑ a : Fin n, ∑ b : Fin k, f ⟨k * a.val + b.val, by
      subst h; exact (finProdFinEquiv (a, b)).isLt.trans_le' (by simp [finProdFinEquiv]; omega)⟩ := by
  subst h
  rw [← Fintype.sum_prod_type']
  refine (Fintype.sum_equiv finProdFinEquiv _ _ fun x => congrArg f (Fin.ext ?_)).symm
  simp [finProdFinEquiv]; omega

/-- Row `r` of a tile is half of the words of row `r / 2`: the low half for an even row, the high half for an odd one. -/
theorem tile_apply (w : Vec Ideal S8x128 .i32) (r : Fin 16) (l : Fin 128) :
    k0_pay1 (F := Ideal) w (ix2 r l)
      = Ideal.ofBits .bf16 ((w (ix2 ⟨r.val / 2, by omega⟩ l)).extractLsb' (16 * (r.val % 2)) 16) := by
  pointwise [k0_pay1]
  rw [bitcast_32_16]
  refine congrArg (fun v => Ideal.ofBits .bf16 (BitVec.extractLsb' (16 * (r.val % 2)) 16 (w v))) (funext fun a => ?_)
  match a with
  | 0 => exact Fin.ext (Shape.Bitcasts.srcIdx_row _ _ _ _ 0 rfl)
  | 1 => exact Fin.ext (Shape.Bitcasts.srcIdx_other _ _ _ _ 1 (by decide))

/-- The coefficient of row `s` in column `q`. -/
def coef (elo : Vec Ideal S1x2048 .f32) (plo : Vec Ideal S8x2048 .f32) (ehi : Vec Ideal S1x2048 .f32) (phi : Vec Ideal S8x2048 .f32)
    (s : Fin 8) (q : Fin 2048) : EReal :=
  elo (ix2 0 q) * plo (ix2 s q) + ehi (ix2 0 q) * phi (ix2 s q)

/-- The weights of the first half. -/
theorem weights_lo (elo : Vec Ideal S1x2048 .f32) (plo : Vec Ideal S8x2048 .f32) (ehi : Vec Ideal S1x2048 .f32)
    (phi : Vec Ideal S8x2048 .f32) (s : Fin 8) (q : Fin 1024) :
    weights elo plo ehi phi (ix2 ⟨s.val, by omega⟩ q) = coef elo plo ehi phi s ⟨q.val, by omega⟩ := by
  pointwise [weights, coef]

/-- The weights of the second half. -/
theorem weights_hi (elo : Vec Ideal S1x2048 .f32) (plo : Vec Ideal S8x2048 .f32) (ehi : Vec Ideal S1x2048 .f32)
    (phi : Vec Ideal S8x2048 .f32) (s : Fin 8) (q : Fin 1024) :
    weights elo plo ehi phi (ix2 ⟨8 + s.val, by omega⟩ q) = coef elo plo ehi phi s ⟨1024 + q.val, by omega⟩ := by
  pointwise [weights, coef]

/-- The product at an element. -/
theorem product_apply (w : FVec Ideal S16x1024 .f32) (lo hi : FVec Ideal S1024x128 .bf16) (r : Fin 32) (l : Fin 256) :
    product w lo hi (ix2 r l) = ∑ x : Fin 1024,
      (if h : r.val < 16 then w (ix2 ⟨r.val, h⟩ x) else w (ix2 ⟨r.val - 16, by omega⟩ x) - w (ix2 ⟨r.val - 16, by omega⟩ x))
        * if h : l.val < 128 then lo (ix2 x ⟨l.val, h⟩) else hi (ix2 x ⟨l.val - 128, by omega⟩) := by
  pointwise [product]

/-- The four blocks added, at an element. -/
theorem blocks_apply (p : FVec Ideal S32x256 .f32) (s : Fin 8) (l : Fin 128) :
    blocks p (ix2 s l) = p (ix2 ⟨s.val, by omega⟩ ⟨l.val, by omega⟩) + p (ix2 ⟨8 + s.val, by omega⟩ ⟨128 + l.val, by omega⟩)
      + (p (ix2 ⟨16 + s.val, by omega⟩ ⟨l.val, by omega⟩) + p (ix2 ⟨24 + s.val, by omega⟩ ⟨128 + l.val, by omega⟩)) := by
  pointwise [blocks]

/-- The four blocks of the product of real weights: the rest of each weight is zero, so two sums are left. -/
theorem blocks_product (w : FVec Ideal S16x1024 .f32) (hw : ∀ i, ∃ u : ℝ, w i = u) (lo hi : FVec Ideal S1024x128 .bf16)
    (s : Fin 8) (l : Fin 128) :
    blocks (product w lo hi) (ix2 s l) = (∑ x : Fin 1024, w (ix2 ⟨s.val, by omega⟩ x) * lo (ix2 x l))
      + ∑ x : Fin 1024, w (ix2 ⟨8 + s.val, by omega⟩ x) * hi (ix2 x l) := by
  have z (i) : w i - w i = 0 := sub_self_real _ (hw i)
  have s1 : s.val < 16 := by omega
  have s2 : 8 + s.val < 16 := by omega
  have s3 : ¬ 16 + s.val < 16 := by omega
  have s4 : ¬ 24 + s.val < 16 := by omega
  have l1 : l.val < 128 := l.isLt
  have l2 : ¬ 128 + l.val < 128 := by omega
  rw [blocks_apply, product_apply, product_apply, product_apply, product_apply]
  simp only [s1, s2, s3, s4, l1, l2, dif_pos, dif_neg, not_false_eq_true, z, zero_mul, Finset.sum_const_zero, add_zero,
    Nat.add_sub_cancel_left, Fin.eta]

/-- Sixteen places of which two carry a weight. -/
theorem two_of_sixteen (u v : EReal) (s : Fin 8) (T : Fin 16 → EReal) :
    ∑ k : Fin 16, (u * (if k.val = 2 * s.val + 1 then 1 else 0) + v * (if k.val = 2 * s.val then 1 else 0)) * T k
      = u * T ⟨2 * s.val + 1, by omega⟩ + v * T ⟨2 * s.val, by omega⟩ := by
  have e (k : Fin 16) : (u * (if k.val = 2 * s.val + 1 then 1 else 0) + v * (if k.val = 2 * s.val then 1 else 0)) * T k
      = (if k = ⟨2 * s.val + 1, by omega⟩ then u * T k else 0) + (if k = ⟨2 * s.val, by omega⟩ then v * T k else 0) := by
    simp only [Fin.ext_iff]
    by_cases h1 : k.val = 2 * s.val + 1
    · have h2 : ¬ k.val = 2 * s.val := by omega
      simp [h1]
    · by_cases h2 : k.val = 2 * s.val <;> simp [h1, h2]
  simp only [e, Finset.sum_add_distrib, Finset.sum_ite_eq', Finset.mem_univ, if_true]

/-- The weighted sum of the tiles of a token, when the columns' weights are spread as the kernel spreads them. -/
theorem mixed_apply (raw : Fin 128 → Vec Ideal S8x128 .i32) (elo : Vec Ideal S1x2048 .f32) (plo : Vec Ideal S8x2048 .f32)
    (ehi : Vec Ideal S1x2048 .f32) (phi : Vec Ideal S8x2048 .f32) (lo hi : Fin 128 → ℝ)
    (hlo : ∀ q : Fin 2048, elo (ix2 0 q) = lo ⟨q.val / 16, by omega⟩) (hhi : ∀ q : Fin 2048, ehi (ix2 0 q) = hi ⟨q.val / 16, by omega⟩)
    (hpl : ∀ (s : Fin 8) (q : Fin 2048), plo (ix2 s q) = if q.val % 16 = 2 * s.val + 1 then (1 : EReal) else 0)
    (hph : ∀ (s : Fin 8) (q : Fin 2048), phi (ix2 s q) = if q.val % 16 = 2 * s.val then (1 : EReal) else 0)
    (s : Fin 8) (l : Fin 128) :
    mixed raw elo plo ehi phi (ix2 s l) = ∑ j : Fin 128,
      ((lo j : EReal) * k0_pay1 (F := Ideal) (raw j) (ix2 ⟨2 * s.val + 1, by omega⟩ l)
        + (hi j : EReal) * k0_pay1 (F := Ideal) (raw j) (ix2 ⟨2 * s.val, by omega⟩ l)) := by
  have hc (s : Fin 8) (q : Fin 2048) : coef elo plo ehi phi s q
      = (lo ⟨q.val / 16, by omega⟩ : EReal) * (if q.val % 16 = 2 * s.val + 1 then 1 else 0)
        + (hi ⟨q.val / 16, by omega⟩ : EReal) * (if q.val % 16 = 2 * s.val then 1 else 0) := by
    unfold coef; rw [hlo, hhi, hpl, hph]
  have fin (s : Fin 8) (q : Fin 2048) : ∃ u : ℝ, coef elo plo ehi phi s q = u := by
    refine ⟨lo ⟨q.val / 16, by omega⟩ * (if q.val % 16 = 2 * s.val + 1 then 1 else 0)
      + hi ⟨q.val / 16, by omega⟩ * (if q.val % 16 = 2 * s.val then 1 else 0), ?_⟩
    rw [hc]
    split_ifs <;> simp
  have hw (i) : ∃ u : ℝ, weights elo plo ehi phi i = u := by
    idx_vars i
    by_cases h : i0.val < 8
    · exact (weights_lo elo plo ehi phi ⟨i0.val, h⟩ i1) ▸ fin _ _
    · have e := weights_hi elo plo ehi phi ⟨i0.val - 8, by omega⟩ i1
      rw [show (⟨8 + (i0.val - 8), by omega⟩ : Fin 16) = i0 from Fin.ext (by dsimp only; omega)] at e
      exact e ▸ fin _ _
  unfold mixed
  rw [blocks_product _ hw]
  simp only [weights_lo, weights_hi, stack_apply, hc]
  rw [sum_split 1024 64 16 rfl, sum_split 1024 64 16 rfl]
  refine Eq.trans ?_ (Fin.sum_univ_add (a := 64) (b := 64) _).symm
  have d0 (a : Fin 64) (b : Fin 16) : (16 * a.val + b.val) / 16 = a.val := by omega
  have d1 (a : Fin 64) (b : Fin 16) : (16 * a.val + b.val) % 16 = b.val := by omega
  have d2 (a : Fin 64) (b : Fin 16) : (1024 + (16 * a.val + b.val)) / 16 = 64 + a.val := by omega
  have d3 (a : Fin 64) (b : Fin 16) : (1024 + (16 * a.val + b.val)) % 16 = b.val := by omega
  simp only [d0, d1, d2, d3, Fin.eta]
  refine congrArg₂ (· + ·) (Finset.sum_congr (M := EReal) rfl fun a _ => ?_) (Finset.sum_congr (M := EReal) rfl fun a _ => ?_)
  · exact two_of_sixteen _ _ s fun k => k0_pay1 (F := Ideal) (raw ⟨a.val, by omega⟩) (ix2 k l)
  · exact two_of_sixteen _ _ s fun k => k0_pay1 (F := Ideal) (raw ⟨64 + a.val, by omega⟩) (ix2 k l)

/-- A spread coefficient: the matrix of ones puts a token's weight of place `q / 16` in column `q`. -/
theorem spread_lo (x : Vec Ideal S128x128 .f32) (e : Vec Ideal S128x2048 .bf16)
    (he : ∀ (r : Fin 128) (q : Fin 2048), e (ix2 r q) = if q.val / 16 = r.val then (1 : EReal) else 0)
    (p : Fin 128) (hx : ∀ j : Fin 128, ∃ u : ℝ, x (ix2 p j) = u) (q : Fin 2048) :
    k0_pay153 (F := Ideal) x e e (ix2 p q) = x (ix2 p ⟨q.val / 16, by omega⟩) := by
  pointwise [k0_pay153]
  simp only [sub_self_real _ (hx _), zero_mul, Finset.sum_const_zero, add_zero, he]
  rw [Finset.sum_eq_single (⟨q.val / 16, by omega⟩ : Fin 128) (fun b _ hb => by
    rw [if_neg fun h => hb (Fin.ext h.symm), mul_zero]) (fun h => absurd (Finset.mem_univ _) h), if_pos rfl, mul_one]

/-- The same of the second array of weights. -/
theorem spread_hi (x : Vec Ideal S128x128 .f32) (e : Vec Ideal S128x2048 .bf16)
    (he : ∀ (r : Fin 128) (q : Fin 2048), e (ix2 r q) = if q.val / 16 = r.val then (1 : EReal) else 0)
    (p : Fin 128) (hx : ∀ j : Fin 128, ∃ u : ℝ, x (ix2 p j) = u) (q : Fin 2048) :
    k0_pay154 (F := Ideal) x e e (ix2 p q) = x (ix2 p ⟨q.val / 16, by omega⟩) :=
  spread_lo x e he p hx q

/-- A row laid out as a tile: eight runs of 128 columns, one below the other. -/
def rowTile (h : Vec Ideal S1x1024 .f32) : FVec Ideal S8x128 .f32 :=
  concatenate S8x128 0 [⟨S1x128, extractStridedSlice S1x128 ![0, 0] h slices_S1x1024_o0_0_S1x128⟩,
    ⟨S1x128, extractStridedSlice S1x128 ![0, 128] h slices_S1x1024_o0_128_S1x128⟩,
    ⟨S1x128, extractStridedSlice S1x128 ![0, 256] h slices_S1x1024_o0_256_S1x128⟩,
    ⟨S1x128, extractStridedSlice S1x128 ![0, 384] h slices_S1x1024_o0_384_S1x128⟩,
    ⟨S1x128, extractStridedSlice S1x128 ![0, 512] h slices_S1x1024_o0_512_S1x128⟩,
    ⟨S1x128, extractStridedSlice S1x128 ![0, 640] h slices_S1x1024_o0_640_S1x128⟩,
    ⟨S1x128, extractStridedSlice S1x128 ![0, 768] h slices_S1x1024_o0_768_S1x128⟩,
    ⟨S1x128, extractStridedSlice S1x128 ![0, 896] h slices_S1x1024_o0_896_S1x128⟩]
    concatenates_S1x128_S1x128_S1x128_S1x128_S1x128_S1x128_S1x128_S1x128_S8x128_d0

/-- The tile of a row, at an element. -/
theorem rowTile_apply (h : Vec Ideal S1x1024 .f32) (s : Fin 8) (l : Fin 128) :
    rowTile h (ix2 s l) = h (ix2 0 ⟨128 * s.val + l.val, by omega⟩) := by
  pointwise [rowTile]
  split_ifs <;> refine congrArg h (congrArg₂ ix2 (Fin.ext ?_) (Fin.ext ?_)) <;>
    first | (dsimp only; omega) | (show _ = 0; dsimp only; omega)

/-- A tile divided by its root mean square, times a gain. -/
def normTile (x : FVec Ideal S8x128 .f32) (g : Vec Ideal S8x128 .f32) : FVec Ideal S8x128 .f32 :=
  mulf (mulf x (broadcastTo S8x128 (rsqrt (addf (mulf (shapeCast S1x1 (multiReduction .add [0] S1 (shapeCast S8x1
      (multiReduction .add [1] S8 (mulf x x) 0x00000000#32 reduces_S8x128_S8 (.inl rfl) rfl) shapeCasts_S8_S8x1) 0x00000000#32
      reduces_S8x1_S1 (.inl rfl) rfl) shapeCasts_S1_S1x1) (broadcast S1x1 (Scalar.ofBits .f32 0x3A800000#32)))
    (broadcast S1x1 (Scalar.ofBits .f32 0x358637BD#32)))) broadcasts_S1x1_S8x128)) (shapeCast S8x128 g shapeCasts_S8x128_S8x128)

/-- The constant 2⁻¹⁰ is the reciprocal of the constant 1024. -/
theorem mul_recip (x : EReal) :
    x * Ideal.ofBits .f32 0x3A800000#32 = Ideal.div x (Ideal.ofBits .f32 0x44800000#32) := by
  have e : Ideal.ofBits .f32 0x44800000#32 = ((1024 : ℝ) : EReal) := by
    simp [Ideal.ofBits, Ideal.ieee, -EReal.coe_mul]; norm_num
  have e' : Ideal.ofBits .f32 0x3A800000#32 = ((1 / 1024 : ℝ) : EReal) := by
    simp [Ideal.ofBits, Ideal.ieee, -EReal.coe_mul]; norm_num
  rw [e, e', Ideal.div_coe (by norm_num)]

/-- The normalised tile, at an element. -/
theorem normTile_apply (x : FVec Ideal S8x128 .f32) (g : Vec Ideal S8x128 .f32) (s : Fin 8) (l : Fin 128) :
    normTile x g (ix2 s l) = x (ix2 s l) * Ideal.rsqrt (Ideal.div (∑ a : Fin 8, ∑ b : Fin 128, x (ix2 a b) * x (ix2 a b))
      (Ideal.ofBits .f32 0x44800000#32) + Ideal.ofBits .f32 0x358637BD#32) * g (ix2 s l) := by
  rw [← mul_recip]
  pointwise [normTile]

/-- The normalised tile of a token, at an element. -/
theorem norm_apply (a : FVec Ideal S8x128 .f32) (h : Vec Ideal S1x1024 .f32) (g : Vec Ideal S8x128 .f32)
    (x y : Fin 1024 → EReal) (hx : ∀ (s : Fin 8) (l : Fin 128), h (ix2 0 ⟨128 * s.val + l.val, by omega⟩) + a (ix2 s l)
      = x ⟨128 * s.val + l.val, by omega⟩) (hg : ∀ (s : Fin 8) (l : Fin 128), g (ix2 s l) = y ⟨128 * s.val + l.val, by omega⟩)
    (s : Fin 8) (l : Fin 128) : k0_pay148 a h g (ix2 s l) = normed x y ⟨128 * s.val + l.val, by omega⟩ := by
  have e (s : Fin 8) (l : Fin 128) : addf (rowTile h) a (ix2 s l) = x ⟨128 * s.val + l.val, by omega⟩ :=
    (congrArg (· + a (ix2 s l)) (rowTile_apply h s l)).trans (hx s l)
  refine (show k0_pay148 a h g (ix2 s l) = normTile (addf (rowTile h) a) g (ix2 s l) from rfl).trans ?_
  rw [normTile_apply]
  simp only [e, hg]
  unfold normed
  rw [sum_split 1024 8 128 rfl fun k => x k * x k]

set_option maxHeartbeats 2000000 in
/-- The eight rows of the normalised tile laid out in one row. -/
theorem lane_apply (a : FVec Ideal S8x128 .f32) (h : Vec Ideal S1x1024 .f32) (g : Vec Ideal S8x128 .f32) (q : Fin 1024) :
    k0_pay155 (k0_pay148 a h g) (k0_pay149 a h g) (k0_pay150 a h g) (k0_pay151 a h g) (k0_pay152 a h g) (ix2 0 q)
      = k0_pay148 a h g (ix2 ⟨q.val / 128, by omega⟩ ⟨q.val % 128, by omega⟩) := by
  pointwise [k0_pay155, k0_pay149, k0_pay150, k0_pay151, k0_pay152]
  obtain ⟨T, hT⟩ : ∃ T, T = k0_pay148 a h g := ⟨_, rfl⟩
  rw [← hT]
  split_ifs <;> refine congrArg T (congrArg₂ ix2 (Fin.ext ?_) (Fin.ext ?_)) <;> simp <;> omega

end Cert.KernelIdeal.Peer

end
-- ==== Proof.PeerEntry.lean ====
/-
  Program 1 over the extended reals, the arrays the host prepares: the split weights, the matrices of ones and the packed
  table, each at an element.
-/
module

public import proofs.«01_k».proof.Proof.PeerRow
public import Idealize.ShloMosaic.Lib.StableHlo.ReadAt

@[expose] public section

set_option maxRecDepth 16384

noncomputable section

open Idealize.ShloMosaic Idealize.ShloMosaic.TcCoe Idealize.SL.Sem

namespace Cert.KernelIdeal.Peer

open Cert.KernelIdeal Cert.KernelIdeal.Gen Cert.Peer

/-- The remainder by sixteen, rounded towards minus infinity, as the host computes it. -/
def modWord (x : BitVec 32) : BitVec 32 :=
  let k := Scalar.select (IntOp.cmpi .eq 16#32 0#32) 1#32 16#32
  Scalar.select (IntOp.andi (IntOp.cmpi .ne (IntOp.cmpi .slt (IntOp.remsi ArithUnit.host x k) 0#32) (IntOp.cmpi .slt k 0#32))
    (IntOp.cmpi .ne (IntOp.remsi ArithUnit.host x k) 0#32)) (IntOp.addi (IntOp.remsi ArithUnit.host x k) k)
    (IntOp.remsi ArithUnit.host x k)

/-- Of a column number it is the remainder. -/
theorem modWord_ofNat : ∀ q : Fin 2048, modWord (BitVec.ofNat 32 q.val) = BitVec.ofNat 32 (q.val % 16) := by decide +kernel

/-- The quotient by sixteen, rounded towards minus infinity, as the host computes it. -/
def divWord (x : BitVec 32) : BitVec 32 :=
  Scalar.select (IntOp.andi
      (IntOp.cmpi .ne (if x = 0 then 0 else if x.msb = true then -1 else 1 : BitVec 32)
        (if (16#32 : BitVec 32) = 0 then 0 else if BitVec.msb 16#32 = true then -1 else 1))
      (IntOp.cmpi .ne (IntOp.remsi ArithUnit.host x 16#32) 0#32))
    (IntOp.subi (IntOp.divsi ArithUnit.host x 16#32) 1#32) (IntOp.divsi ArithUnit.host x 16#32)

/-- Of a column number it is the quotient. -/
theorem divWord_ofNat : ∀ q : Fin 2048, divWord (BitVec.ofNat 32 q.val) = BitVec.ofNat 32 (q.val / 16) := by decide +kernel

/-- The share of a weight for an expert of odd number: the weight times the lowest bit of the number. -/
def oddWeight (a : EReal) (e : BitVec 32) : EReal := a * FloatOps.sitofp (F := Ideal) .f32 (IntOp.andi e 1#32)

/-- The share for an expert of even number: what is left of the weight. -/
def evenWeight (a : EReal) (e : BitVec 32) : EReal := a - oddWeight a e

/-- The lowest bit of a word, as a float. -/
theorem float_low (e : BitVec 32) : FloatOps.sitofp (F := Ideal) .f32 (IntOp.andi e 1#32) = if e.toNat % 2 = 1 then (1 : EReal) else 0 := by
  have h : IntOp.andi e 1#32 = if e.toNat % 2 = 1 then 1#32 else 0#32 := by
    refine BitVec.eq_of_toNat_eq ?_
    simp only [IntOp.andi, BitVec.toNat_and, BitVec.toNat_ofNat]
    norm_num
    split_ifs <;> simp <;> omega
  rw [h]
  split_ifs <;> simp [FloatOps.sitofp]

/-- Of a real weight. -/
theorem oddWeight_real (u : ℝ) (e : BitVec 32) : oddWeight u e = ((if e.toNat % 2 = 1 then u else 0 : ℝ) : EReal) := by
  unfold oddWeight
  rw [float_low]
  split_ifs <;> simp

/-- Of a real weight. -/
theorem evenWeight_real (u : ℝ) (e : BitVec 32) : evenWeight u e = ((if e.toNat % 2 = 1 then 0 else u : ℝ) : EReal) := by
  unfold evenWeight
  rw [oddWeight_real, ← EReal.coe_sub]
  split_ifs <;> simp

/-- A word of the packed table: the bits of the expert of even number above those of the expert of odd number. -/
def pairWord (a b : BitVec 16) : BitVec 32 :=
  IntOp.ori (IntOp.shli ArithUnit.host (BitVec.setWidth 32 a) 16#32) (BitVec.setWidth 32 b)

/-- The upper half of the word. -/
theorem pairWord_high (a b : BitVec 16) : (pairWord a b).extractLsb' 16 16 = a := by
  refine BitVec.eq_of_getLsbD_eq fun i hi => ?_
  simp [pairWord, IntOp.ori, IntOp.shli, BitVec.getLsbD_extractLsb', BitVec.getLsbD_or, BitVec.getLsbD_shiftLeft, hi,
    BitVec.getLsbD_of_ge b (16 + i) (by omega), show 16 + i < 32 by omega, show i < 32 by omega]

/-- The lower half of the word. -/
theorem pairWord_low (a b : BitVec 16) : (pairWord a b).extractLsb' 0 16 = b := by
  refine BitVec.eq_of_getLsbD_eq fun i hi => ?_
  simp [pairWord, IntOp.ori, IntOp.shli, BitVec.getLsbD_extractLsb', BitVec.getLsbD_or, BitVec.getLsbD_shiftLeft, hi]
  omega

/-- The value of a comparison for equality, as a float. -/
theorem float_of_eq (a b : BitVec 32) :
    FloatOps.uitofp (F := Ideal) .f32 (IntOp.cmpi .eq a b) = if a = b then (1 : EReal) else 0 := by
  by_cases h : a = b
  · simp [IntOp.cmpi, h, FloatOps.uitofp]
  · simp [IntOp.cmpi, h, FloatOps.uitofp]

variable (m : (ℓ : Loc nD τ sig) → Buf (Elt Ideal) ℓ) (c : Dev nD)

/-- The weights of the experts of odd number. -/
theorem entry_hi (r : Fin 32768) (j : Fin 128) : V m c main_v7 (ix2 r j)
    = oddWeight (m ((c.tc : Thread nD τ).loc main_arg1) (ix2 r j)) (m ((c.tc : Thread nD τ).loc main_arg0) (ix2 r j)) := by
  unfold V
  simp only [List.flatten_cons, List.flatten_nil, List.append_nil, List.cons_append, List.nil_append]
  after_reads_at
  rfl

/-- The weights of the experts of even number. -/
theorem entry_lo (r : Fin 32768) (j : Fin 128) : V m c main_v8 (ix2 r j)
    = evenWeight (m ((c.tc : Thread nD τ).loc main_arg1) (ix2 r j)) (m ((c.tc : Thread nD τ).loc main_arg0) (ix2 r j)) := by
  unfold V
  simp only [List.flatten_cons, List.flatten_nil, List.append_nil, List.cons_append, List.nil_append]
  after_reads_at
  rfl

/-- The gain, laid out as a tile. -/
theorem entry_gain (s : Fin 8) (l : Fin 128) : V m c main_v21 (ix2 s l)
    = m ((c.tc : Thread nD τ).loc main_arg3) (ix1 ⟨s.val * 128 + l.val, by omega⟩) := by
  unfold V
  simp only [List.flatten_cons, List.flatten_nil, List.append_nil, List.cons_append, List.nil_append]
  after_reads_at

/-- A row of the packed table: the words of one run of 128 columns of a pair of experts. -/
theorem entry_table (r : Fin 65536) (l : Fin 128) : V m c main_v20 (ix2 r l)
    = pairWord (m ((c.tc : Thread nD τ).loc main_arg4)
        (ix3 0 ⟨r.val / 8 * 2, by omega⟩ ⟨r.val % 8 * 128 + l.val, by omega⟩))
      (m ((c.tc : Thread nD τ).loc main_arg4)
        (ix3 0 ⟨r.val / 8 * 2 + 1, by omega⟩ ⟨r.val % 8 * 128 + l.val, by omega⟩)) := by
  unfold V
  simp only [List.flatten_cons, List.flatten_nil, List.append_nil, List.cons_append, List.nil_append]
  after_reads_at
  pointwise
  rfl

/-- The matrix of ones that spreads a token's weights over the rows of its tiles. -/
theorem entry_spread (r : Fin 128) (q : Fin 2048) : V m c main_v39 (ix2 r q)
    = if q.val / 16 = r.val then (1 : EReal) else 0 := by
  unfold V
  simp only [List.flatten_cons, List.flatten_nil, List.append_nil, List.cons_append, List.nil_append]
  after_reads_at
  refine (float_of_eq (divWord (BitVec.ofNat 32 q.val)) _).trans ?_
  simp only [divWord_ofNat]
  refine if_congr ⟨fun h => ?_, fun h => by rw [h]⟩ rfl rfl
  have e := congrArg BitVec.toNat h
  simp only [BitVec.toNat_ofNat] at e
  omega

/-- The odd rows of a tile. -/
theorem odd_row (r : Fin 8) (n : ℕ) (h : n < 16) :
    BitVec.ofNat 32 n = IntOp.addi (IntOp.muli 2#32 (BitVec.ofNat 32 r.val)) 1#32 ↔ n = 2 * r.val + 1 :=
  (by decide : ∀ (r : Fin 8) (x : Fin 16), BitVec.ofNat 32 x.val = IntOp.addi (IntOp.muli 2#32 (BitVec.ofNat 32 r.val)) 1#32
    ↔ x.val = 2 * r.val + 1) r ⟨n, h⟩

/-- The even rows of a tile. -/
theorem even_row (r : Fin 8) (n : ℕ) (h : n < 16) :
    BitVec.ofNat 32 n = IntOp.muli 2#32 (BitVec.ofNat 32 r.val) ↔ n = 2 * r.val :=
  (by decide : ∀ (r : Fin 8) (x : Fin 16), BitVec.ofNat 32 x.val = IntOp.muli 2#32 (BitVec.ofNat 32 r.val)
    ↔ x.val = 2 * r.val) r ⟨n, h⟩

/-- The mask of the rows that hold the experts of even number. -/
theorem entry_plo (r : Fin 8) (q : Fin 2048) : V m c main_v40 (ix2 r q)
    = if q.val % 16 = 2 * r.val + 1 then (1 : EReal) else 0 := by
  unfold V
  simp only [List.flatten_cons, List.flatten_nil, List.append_nil, List.cons_append, List.nil_append]
  after_reads_at
  refine (float_of_eq (modWord (BitVec.ofNat 32 q.val)) _).trans ?_
  simp only [modWord_ofNat, odd_row r _ (Nat.mod_lt _ (by norm_num))]

/-- The mask of the rows that hold the experts of odd number. -/
theorem entry_phi (r : Fin 8) (q : Fin 2048) : V m c main_v41 (ix2 r q)
    = if q.val % 16 = 2 * r.val then (1 : EReal) else 0 := by
  unfold V
  simp only [List.flatten_cons, List.flatten_nil, List.append_nil, List.cons_append, List.nil_append]
  after_reads_at
  refine (float_of_eq (modWord (BitVec.ofNat 32 q.val)) _).trans ?_
  simp only [modWord_ofNat, even_row r _ (Nat.mod_lt _ (by norm_num))]

end Cert.KernelIdeal.Peer

end
-- ==== Proof.PeerBlock.lean ====
/-
  Program 1 over the extended reals, a block of the result over the blocks it is computed from: each token's row with its
  experts' rows, weighted, added, and the sum normalised.
-/
module

public import proofs.«01_k».proof.Proof.PeerEntry

@[expose] public section

set_option maxRecDepth 16384

noncomputable section

open Idealize.ShloMosaic Idealize.ShloMosaic.TcCoe Idealize.SL.Sem

namespace Cert.KernelIdeal.Peer

open Cert.KernelIdeal Cert.KernelIdeal.Gen Cert.Peer

/-- The table holds every pair of experts: in row `r` the words of one run of 128 columns of pair `r / 8`. -/
def Packed (x8 : Vec Ideal S65536x128 .i32) (bits : IVec S1x16384x1024 16) : Prop :=
  ∀ (r : Fin 65536) (l : Fin 128), x8 (ix2 r l)
    = pairWord (bits (ix3 0 ⟨r.val / 8 * 2, by omega⟩ ⟨r.val % 8 * 128 + l.val, by omega⟩))
      (bits (ix3 0 ⟨r.val / 8 * 2 + 1, by omega⟩ ⟨r.val % 8 * 128 + l.val, by omega⟩))

variable (x8 : Vec Ideal S65536x128 .i32) (bits : IVec S1x16384x1024 16) (h8 : Packed x8 bits)

include h8

/-- The words of an expert's eight rows: one run of 128 columns of its pair in each row. -/
theorem tbl_apply (e : BitVec 32) (he : e.toNat < 16384) (s : Fin 8) (l : Fin 128) :
    tbl x8 (rowOf e) (ix2 s l) = pairWord (bits (ix3 0 ⟨e.toNat / 2 * 2, by omega⟩ ⟨128 * s.val + l.val, by omega⟩))
      (bits (ix3 0 ⟨e.toNat / 2 * 2 + 1, by omega⟩ ⟨128 * s.val + l.val, by omega⟩)) := by
  have hw := toNat_rowOf e he
  have hv : ((rowOf e).toNat + s.val) % 65536 = e.toNat / 2 * 8 + s.val := by omega
  have key (n : Fin 65536) (hn : n.val = e.toNat / 2 * 8 + s.val) : x8 (ix2 n l)
      = pairWord (bits (ix3 0 ⟨e.toNat / 2 * 2, by omega⟩ ⟨128 * s.val + l.val, by omega⟩))
        (bits (ix3 0 ⟨e.toNat / 2 * 2 + 1, by omega⟩ ⟨128 * s.val + l.val, by omega⟩)) := by
    refine (h8 n l).trans (congrArg₂ pairWord (congrArg bits (congrArg₂ (ix3 0) (Fin.ext ?_) (Fin.ext ?_)))
      (congrArg bits (congrArg₂ (ix3 0) (Fin.ext ?_) (Fin.ext ?_)))) <;> dsimp only <;> omega
  exact key ⟨((rowOf e).toNat + s.val) % 65536, Nat.mod_lt _ (by norm_num)⟩ hv

/-- An odd row of an expert's tile: the expert of even number of the pair. -/
theorem tile_odd (e : BitVec 32) (he : e.toNat < 16384) (s : Fin 8) (l : Fin 128) :
    k0_pay1 (F := Ideal) (tbl x8 (rowOf e)) (ix2 ⟨2 * s.val + 1, by omega⟩ l)
      = Ideal.ofBits .bf16 (bits (ix3 0 ⟨e.toNat / 2 * 2, by omega⟩ ⟨128 * s.val + l.val, by omega⟩)) := by
  rw [tile_apply]
  have e1 : (2 * s.val + 1) / 2 = s.val := by omega
  have e2 : 16 * ((2 * s.val + 1) % 2) = 16 := by omega
  simp only [e1, e2, Fin.eta, tbl_apply x8 bits h8 e he, pairWord_high]

/-- An even row of an expert's tile: the expert of odd number of the pair. -/
theorem tile_even (e : BitVec 32) (he : e.toNat < 16384) (s : Fin 8) (l : Fin 128) :
    k0_pay1 (F := Ideal) (tbl x8 (rowOf e)) (ix2 ⟨2 * s.val, by omega⟩ l)
      = Ideal.ofBits .bf16 (bits (ix3 0 ⟨e.toNat / 2 * 2 + 1, by omega⟩ ⟨128 * s.val + l.val, by omega⟩)) := by
  rw [tile_apply]
  have e1 : (2 * s.val) / 2 = s.val := by omega
  have e2 : 16 * ((2 * s.val) % 2) = 0 := by omega
  simp only [e1, e2, Fin.eta, tbl_apply x8 bits h8 e he, pairWord_low]

/-- The two halves of a pair under the split weight: the expert itself under the whole weight. -/
theorem pair_sum (e : BitVec 32) (he : e.toNat < 16384) (u : ℝ) (s : Fin 8) (l : Fin 128) :
    ((if e.toNat % 2 = 1 then 0 else u : ℝ) : EReal) * k0_pay1 (F := Ideal) (tbl x8 (rowOf e)) (ix2 ⟨2 * s.val + 1, by omega⟩ l)
      + ((if e.toNat % 2 = 1 then u else 0 : ℝ) : EReal) * k0_pay1 (F := Ideal) (tbl x8 (rowOf e)) (ix2 ⟨2 * s.val, by omega⟩ l)
      = (u : EReal) * entry bits e ⟨128 * s.val + l.val, by omega⟩ := by
  rw [tile_odd x8 bits h8 e he, tile_even x8 bits h8 e he]
  unfold entry
  by_cases h : e.toNat % 2 = 1
  · simp only [h, if_true, EReal.coe_zero, zero_mul, zero_add]
    refine congrArg (fun n => (u : EReal) * Ideal.ofBits .bf16 (bits (ix3 0 n _))) (Fin.ext ?_)
    dsimp only; omega
  · simp only [h, if_false, EReal.coe_zero, zero_mul, add_zero]
    refine congrArg (fun n => (u : EReal) * Ideal.ofBits .bf16 (bits (ix3 0 n _))) (Fin.ext ?_)
    dsimp only; omega

/-- A block of the result at an element. -/
theorem rows_apply (x0 : Vec Ideal S128x128 .i32) (x1 x2 : Vec Ideal S128x128 .f32) (x3 : Vec Ideal S128x1024 .f32)
    (x4 : Vec Ideal S8x128 .f32) (x5 : Vec Ideal S128x2048 .bf16) (x6 x7 : Vec Ideal S8x2048 .f32) (p : Fin 128) (q : Fin 1024)
    (e : Fin 128 → BitVec 32) (u : Fin 128 → ℝ) (h g : Fin 1024 → EReal) (he : ∀ j, (e j).toNat < 16384)
    (h0 : ∀ j, x0 (ix2 p j) = rowOf (e j)) (h1 : ∀ j, x1 (ix2 p j) = evenWeight (u j) (e j))
    (h2 : ∀ j, x2 (ix2 p j) = oddWeight (u j) (e j)) (h3 : ∀ d, x3 (ix2 p d) = h d)
    (h4 : ∀ (s : Fin 8) (l : Fin 128), x4 (ix2 s l) = g ⟨s.val * 128 + l.val, by omega⟩)
    (h5 : ∀ (r : Fin 128) (q : Fin 2048), x5 (ix2 r q) = if q.val / 16 = r.val then (1 : EReal) else 0)
    (h6 : ∀ (s : Fin 8) (q : Fin 2048), x6 (ix2 s q) = if q.val % 16 = 2 * s.val + 1 then (1 : EReal) else 0)
    (h7 : ∀ (s : Fin 8) (q : Fin 2048), x7 (ix2 s q) = if q.val % 16 = 2 * s.val then (1 : EReal) else 0) :
    rows x0 x1 x2 x3 x4 x5 x6 x7 x8 (ix2 p q) = normed (fun d => h d + ∑ j : Fin 128, (u j : EReal) * entry bits (e j) d) g q := by
  have hlo (q : Fin 2048) : k0_pay153 (F := Ideal) x1 x5 x5 (ix2 p q)
      = ((if (e ⟨q.val / 16, by omega⟩).toNat % 2 = 1 then 0 else u ⟨q.val / 16, by omega⟩ : ℝ) : EReal) := by
    rw [spread_lo x1 x5 h5 p (fun j => ⟨_, (h1 j).trans (evenWeight_real _ _)⟩), h1, evenWeight_real]
  have hhi (q : Fin 2048) : k0_pay154 (F := Ideal) x2 x5 x5 (ix2 p q)
      = ((if (e ⟨q.val / 16, by omega⟩).toNat % 2 = 1 then u ⟨q.val / 16, by omega⟩ else 0 : ℝ) : EReal) := by
    rw [spread_hi x2 x5 h5 p (fun j => ⟨_, (h2 j).trans (oddWeight_real _ _)⟩), h2, oddWeight_real]
  have hm (s : Fin 8) (l : Fin 128) : mixed (fun j => tbl x8 (x0 (ix2 p j))) (fun i => k0_pay153 (F := Ideal) x1 x5 x5 (ix2 p (i 1))) x6
      (fun i => k0_pay154 (F := Ideal) x2 x5 x5 (ix2 p (i 1))) x7 (ix2 s l)
      = ∑ j : Fin 128, (u j : EReal) * entry bits (e j) ⟨128 * s.val + l.val, by omega⟩ := by
    rw [mixed_apply _ _ _ _ _ (fun j => if (e j).toNat % 2 = 1 then 0 else u j) (fun j => if (e j).toNat % 2 = 1 then u j else 0)
      hlo hhi h6 h7]
    refine Finset.sum_congr (M := EReal) rfl fun j _ => ?_
    rw [h0]
    exact pair_sum x8 bits h8 (e j) (he j) (u j) s l
  show rowPay (fun j => tbl x8 (x0 (ix2 p j))) (fun i => k0_pay153 (F := Ideal) x1 x5 x5 (ix2 p (i 1))) x6
    (fun i => k0_pay154 (F := Ideal) x2 x5 x5 (ix2 p (i 1))) x7 (fun i => x3 (ix2 p (i 1))) x4 (ix2 0 q) = _
  unfold rowPay
  rw [lane_apply, norm_apply _ _ _ (fun d => h d + ∑ j : Fin 128, (u j : EReal) * entry bits (e j) d) g
    (fun s l => congrArg₂ (· + ·) (h3 _) (hm s l)) (fun s l => (h4 s l).trans (congrArg g (Fin.ext (by dsimp only; omega))))]
  refine congrArg _ (Fin.ext ?_)
  dsimp only; omega

end Cert.KernelIdeal.Peer

end
-- ==== Proof.PeerValue.lean ====
/-
  Program 1 over the extended reals, the array: what the kernel leaves is every token's row with its experts' rows added,
  normalised.
-/
module

public import proofs.«01_k».proof.Proof.PeerBlock
public import proofs.«01_k».proof.Proof.PeerHyps
public import proofs.«01_k».proof.Proof.Gen.KernelIdeal.Value

@[expose] public section

set_option maxRecDepth 16384

noncomputable section

open Idealize.ShloMosaic Idealize.ShloMosaic.TcCoe Idealize.SL.Sem

namespace Cert.KernelIdeal.Peer

open Cert.KernelIdeal Cert.KernelIdeal.Gen Cert.Peer

variable (m : (ℓ : Loc nD τ sig) → Buf (Elt Ideal) ℓ) (ρ : Dev nD → PrngReg)

/-- Which block each window shows at a grid point: the token's windows follow the point, the others stay. -/
theorem idx_in : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

section
variable (c : Dev nD) (t : Fin cfg0.N) (a : Fin 128) (r : Fin 32768) (hr : r.val = 128 * t.val + a.val)
include hr

theorem in_row (j : Fin 128) : iblk m c 0 t (ix2 a j) = rowOf (m ((c.tc : Thread nD τ).loc main_arg0) (ix2 r j)) := by
  obtain ⟨e, -⟩ := idx_in t
  unfold iblk; rw [View.read_apply, cast_eq]
  refine (congrArg (V m c main_v3) (?_ : _ = ix2 r j)).trans (entry_row m c r j)
  blk_ext [e]

theorem in_lo (j : Fin 128) : iblk m c 1 t (ix2 a j) = evenWeight (m ((c.tc : Thread nD τ).loc main_arg1) (ix2 r j))
    (m ((c.tc : Thread nD τ).loc main_arg0) (ix2 r j)) := by
  obtain ⟨-, e, -⟩ := idx_in t
  unfold iblk; rw [View.read_apply, cast_eq]
  refine (congrArg (V m c main_v8) (?_ : _ = ix2 r j)).trans (entry_lo m c r j)
  blk_ext [e]

theorem in_hi (j : Fin 128) : iblk m c 2 t (ix2 a j) = oddWeight (m ((c.tc : Thread nD τ).loc main_arg1) (ix2 r j))
    (m ((c.tc : Thread nD τ).loc main_arg0) (ix2 r j)) := by
  obtain ⟨-, -, e, -⟩ := idx_in t
  unfold iblk; rw [View.read_apply, cast_eq]
  refine (congrArg (V m c main_v7) (?_ : _ = ix2 r j)).trans (entry_hi m c r j)
  blk_ext [e]

theorem in_h (d : Fin 1024) : iblk m c 3 t (ix2 a d) = m ((c.tc : Thread nD τ).loc main_arg2) (ix2 r d) := by
  obtain ⟨-, -, -, e, -⟩ := idx_in t
  unfold iblk; rw [View.read_apply, cast_eq]
  refine (congrArg (V m c main_arg2) (?_ : _ = ix2 r d)).trans (congrFun (V_main_arg2 m c) _)
  blk_ext [e]
end

section
variable (c : Dev nD) (t : Fin cfg0.N)

theorem in_gain (s : Fin 8) (l : Fin 128) : iblk m c 4 t (ix2 s l)
    = m ((c.tc : Thread nD τ).loc main_arg3) (ix1 ⟨s.val * 128 + l.val, by omega⟩) := by
  obtain ⟨-, -, -, -, e, -⟩ := idx_in t
  unfold iblk; rw [View.read_apply, cast_eq]
  refine (congrArg (V m c main_v21) (?_ : _ = ix2 s l)).trans (entry_gain m c s l)
  blk_ext [e]

theorem in_spread (r : Fin 128) (q : Fin 2048) : iblk m c 5 t (ix2 r q) = if q.val / 16 = r.val then (1 : EReal) else 0 := by
  obtain ⟨-, -, -, -, -, e, -⟩ := idx_in t
  unfold iblk; rw [View.read_apply, cast_eq]
  refine (congrArg (V m c main_v39) (?_ : _ = ix2 r q)).trans (entry_spread m c r q)
  blk_ext [e]

theorem in_plo (s : Fin 8) (q : Fin 2048) : iblk m c 6 t (ix2 s q) = if q.val % 16 = 2 * s.val + 1 then (1 : EReal) else 0 := by
  obtain ⟨-, -, -, -, -, -, e, -⟩ := idx_in t
  unfold iblk; rw [View.read_apply, cast_eq]
  refine (congrArg (V m c main_v40) (?_ : _ = ix2 s q)).trans (entry_plo m c s q)
  blk_ext [e]

theorem in_phi (s : Fin 8) (q : Fin 2048) : iblk m c 7 t (ix2 s q) = if q.val % 16 = 2 * s.val then (1 : EReal) else 0 := by
  obtain ⟨-, -, -, -, -, -, -, e, -⟩ := idx_in t
  unfold iblk; rw [View.read_apply, cast_eq]
  refine (congrArg (V m c main_v41) (?_ : _ = ix2 s q)).trans (entry_phi m c s q)
  blk_ext [e]

theorem in_table (r : Fin 65536) (l : Fin 128) : iblk m c 8 t (ix2 r l)
    = pairWord (m ((c.tc : Thread nD τ).loc main_arg4) (ix3 0 ⟨r.val / 8 * 2, by omega⟩ ⟨r.val % 8 * 128 + l.val, by omega⟩))
      (m ((c.tc : Thread nD τ).loc main_arg4) (ix3 0 ⟨r.val / 8 * 2 + 1, by omega⟩ ⟨r.val % 8 * 128 + l.val, by omega⟩)) := by
  obtain ⟨-, -, -, -, -, -, -, -, e, -⟩ := idx_in t
  unfold iblk; rw [View.read_apply, cast_eq]
  refine (congrArg (V m c main_v20) (?_ : _ = ix2 r l)).trans (entry_table m c r l)
  blk_ext [e]
end

variable (W : ∀ (c : Dev nD) r j, (m ((c.tc : Thread nD τ).loc main_arg0) (ix2 r j)).toNat < 16384)
  (A : ∀ (c : Dev nD) (r : Fin 32768) (j : Fin 128), ∃ u : ℝ, m ((c.tc : Thread nD τ).loc main_arg1) (ix2 r j) = (u : EReal))
include W

/-- The row numbers a block holds name rows inside the packed table. -/
theorem rows_le (c : Dev nD) (t : Fin cfg0.N) (i) : (iblk m c 0 t i).toNat ≤ 65528 := by
  have key : ∀ y : S32768x128.Idx, (V m c main_v3 y).toNat ≤ 65528 := fun y => by
    idx_vars y
    rw [entry_row, toNat_rowOf _ (W c y0 y1)]
    have := W c y0 y1
    omega
  unfold iblk
  rw [View.read_apply, cast_eq]
  exact key _

include A

set_option maxHeartbeats 1000000 in
/-- The kernel's result array is every token's row with its experts' rows added, normalised. -/
theorem value (hH : Hyps m) (c : Dev nD) : (dats m hH 0 c).arrAt 9 cfg0.N = out (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  refine (dats m hH 0 c).arrAt_eq_of_covers 9 _ (by decide +kernel) fun t hf y => ?_
  blk_simp
  rw [after0_9, outs_eq m hH c t (rows_le m W c t)]
  idx_vars y
  have hN : cfg0.N = 256 := N_0
  have ht : t.val < 256 := hN ▸ t.isLt
  have e : ((View.whole main_v42).slice (win0_9.rect t)).emb (ix2 y0 y1)
      = ix2 (⟨128 * t.val + y0.val, by omega⟩ : Fin 32768) y1 := by
    obtain ⟨-, -, -, -, -, -, -, -, -, e⟩ := idx_in t
    blk_ext [e]
  rw [e]
  generalize hr : (⟨128 * t.val + y0.val, _⟩ : Fin 32768) = r
  have hr : r.val = 128 * t.val + y0.val := by rw [← hr]
  choose u hu using A c r
  refine (rows_apply _ _ (in_table m c t) _ _ _ _ _ _ _ _ y0 y1
    (fun j => m ((c.tc : Thread nD τ).loc main_arg0) (ix2 r j)) u (fun d => m ((c.tc : Thread nD τ).loc main_arg2) (ix2 r d))
    (fun d => m ((c.tc : Thread nD τ).loc main_arg3) (ix1 d)) (W c r) (in_row m c t y0 r hr)
    (fun j => (in_lo m c t y0 r hr j).trans (by rw [hu])) (fun j => (in_hi m c t y0 r hr j).trans (by rw [hu]))
    (in_h m c t y0 r hr) (in_gain m c t) (in_spread m c t) (in_plo m c t) (in_phi m c t)).trans ?_
  show _ = normed (added _ _ _ _ r) _ y1
  unfold added
  simp only [hu]

/-- The kernel's run: its result is that array of its arguments, which are left as they were. -/
theorem run : θ_run defs (onTc (τ := τ) (main (F := Ideal))) ⟨m, fun _ => 0, ρ⟩ fun r => ∀ c : Dev nD,
      r.2.mem ((c.tc : Thread nD τ).loc main_v42) = out (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (value m W A (hyps_of m W) c), (h c).2⟩)
    (Value.run_blocks m ρ (hyps_of m W))

end Cert.KernelIdeal.Peer

end
-- ==== Proof.PeerRef.lean ====
/-
  Program 1, the reference over the extended reals: with every expert number inside the table its look-up reads the
  expert's row, and its result is every token's row with its experts' rows added, normalised.
-/
module

public import proofs.«01_k».proof.Proof.PeerValue
public import proofs.«01_k».proof.Proof.Gen.ReferenceIdeal.Run
public import Idealize.ShloMosaic.Lib.ReduceAll

@[expose] public section

set_option maxRecDepth 16384

noncomputable section

open Idealize.ShloMosaic Idealize.ShloMosaic.TcCoe Idealize.SL.Sem

namespace Cert.ReferenceIdeal.Peer

open Cert.ReferenceIdeal Cert.ReferenceIdeal.Gen Cert.Peer

/-- The look-up at an element: the table's row the start index names, held inside the table. -/
theorem gather_apply (x : FVec Ideal S16384x1024 .f32) (idx : IVec S32768x128x1 32) (r : Fin 32768) (j : Fin 128) (d : Fin 1024) :
    Host.gather gather_S16384x1024_S32768x128x1_S32768x128x1024_2_0_n_n_0_2_11024 x idx (ix3 r j d)
      = x (ix2 ⟨min (idx (ix3 r j 0)).toInt.toNat 16383, by omega⟩ d) := by
  unfold Host.gather
  refine congrArg x (funext fun a => Fin.ext ?_)
  have hi : gather_S16384x1024_S32768x128x1_S32768x128x1024_2_0_n_n_0_2_11024.siIdx (ix3 r j d)
      ⟨0, by decide⟩ = ix3 r j 0 := by
    funext b
    match b with
    | 0 => rfl
    | 1 => rfl
    | 2 => rfl
  match a with
  | 0 =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S16384x1024_S32768x128x1_S32768x128x1024_2_0_n_n_0_2_11024.startIndexMap from
      List.mem_singleton.mpr rfl)]
    exact congrArg (fun v => min (idx v).toInt.toNat 16383) hi
  | 1 =>
    show GatherDims.start _ _ idx 1 + GatherDims.batchCoord _ _ 1 + GatherDims.offCoord _ _ 1 = d.val
    rw [GatherDims.batchCoord_eq_zero _ _ _ List.not_mem_nil]
    unfold GatherDims.start
    rw [dif_neg (show ¬ (1 : Fin 2) ∈ gather_S16384x1024_S32768x128x1_S32768x128x1024_2_0_n_n_0_2_11024.startIndexMap from
      fun h => absurd (List.mem_singleton.mp h) (by decide))]
    rw [Nat.zero_add]
    rfl

/-- The expert numbers, a negative one counted from the end of the table. -/
def wrapped (e : IVec S32768x128 32) : IVec S32768x128 32 :=
  select (cmpi .slt e (broadcastInDim S32768x128 ![] bcast_S_S32768x128 (constantI S_ 32 0#32)))
    (addi e (broadcastInDim S32768x128 ![] bcast_S_S32768x128 (constantI S_ 32 16384#32))) e

/-- The start indices of the look-up. -/
def starts (e : IVec S32768x128 32) : IVec S32768x128x1 32 :=
  broadcastInDim S32768x128x1 ![0, 1] bcast_S32768x128_S32768x128x1_0_1 (wrapped e)

/-- Whether each start index lies inside the table. -/
def inside (e : IVec S32768x128 32) : IVec S32768x128 1 :=
  Host.reduce IntOp.andi (andi
      (cmpi .sge (starts e) (broadcastInDim S32768x128x1 ![] bcast_S_S32768x128x1 (constantI S_ 32 0#32)))
      (cmpi .sle (starts e) (broadcastInDim S32768x128x1 ![0, 1, 2] bcast_S1x1x1_S32768x128x1_0_1_2
        (broadcastInDim S1x1x1 ![2] bcast_S1_S1x1x1_2 (constantI S1 32 16383#32)))))
    (constantI S_ 1 1#1) reducesTo_S32768x128x1_S32768x128_d2 h_S_

/-- The rows looked up. -/
def taken (e : IVec S32768x128 32) (x : FVec Ideal S16384x1024 .f32) : FVec Ideal S32768x128x1024 .f32 :=
  select (broadcastInDim S32768x128x1024 ![0, 1] bcast_S32768x128_S32768x128x1024_0_1 (inside e))
    (Host.gather gather_S16384x1024_S32768x128x1_S32768x128x1024_2_0_n_n_0_2_11024 x (starts e))
    (broadcastInDim S32768x128x1024 ![] bcast_S_S32768x128x1024 (constant S_ .f32 0x7FC00000#32))

/-- The experts' table as floats. -/
def table (bits : IVec S1x16384x1024 16) : FVec Ideal S16384x1024 .f32 :=
  extf .f32 (bitcastToFloat (F := Ideal) .bf16 (shapeCast S16384x1024 bits shapeCasts_S1x16384x1024_S16384x1024)) bitsLt_bf16_f32

/-- A chosen element of an array masked row by row. -/
theorem guarded_apply (b : IVec S32768x128 1) (x : FVec Ideal S32768x128x1024 .f32) (r : Fin 32768) (j : Fin 128) (d : Fin 1024) :
    select (broadcastInDim S32768x128x1024 ![0, 1] bcast_S32768x128_S32768x128x1024_0_1 b) x
        (broadcastInDim S32768x128x1024 ![] bcast_S_S32768x128x1024 (constant S_ .f32 0x7FC00000#32)) (ix3 r j d)
      = Scalar.select (b (ix2 r j)) (x (ix3 r j d)) (Ideal.ofBits .f32 0x7FC00000#32) := by
  pointwise

/-- A choice whose condition holds. -/
theorem pick_one {α : Type} (x y : α) : Scalar.select 1#1 x y = x := rfl

/-- The table at an element. -/
theorem table_apply (bits : IVec S1x16384x1024 16) (n : Fin 16384) (d : Fin 1024) :
    table bits (ix2 n d) = Ideal.ofBits .bf16 (bits (ix3 0 n d)) := by
  pointwise [table]

/-- A word below 16384 is not negative and is at most 16383. -/
theorem word_facts (e : BitVec 32) (h : e.toNat < 16384) : IntOp.cmpi .slt e 0#32 = 0#1 ∧ IntOp.cmpi .sge e 0#32 = 1#1
    ∧ IntOp.cmpi .sle e 16383#32 = 1#1 ∧ e.toInt.toNat = e.toNat := by
  have i : e.toInt = e.toNat := by rw [BitVec.toInt_eq_toNat_of_lt (by omega)]
  have a : (0#32 : BitVec 32).toInt = 0 := rfl
  have b : (16383#32 : BitVec 32).toInt = 16383 := rfl
  refine ⟨?_, ?_, ?_, by omega⟩
  · exact congrArg BitVec.ofBool (decide_eq_false (by rw [a]; omega))
  · exact congrArg BitVec.ofBool (decide_eq_true (by rw [a]; omega))
  · exact congrArg BitVec.ofBool (decide_eq_true (by rw [b]; omega))

/-- The row a word below 16384 names is not moved by holding it inside the table. -/
theorem row_eq (v e : BitVec 32) (h : e.toNat < 16384) (hv : v = e) :
    (⟨min v.toInt.toNat 16383, by omega⟩ : Fin 16384) = ⟨e.toNat % 16384, Nat.mod_lt _ (by decide)⟩ := by
  subst hv
  refine Fin.ext ?_
  have := (word_facts v h).2.2.2
  show min v.toInt.toNat 16383 = v.toNat % 16384
  omega

section
variable (e : IVec S32768x128 32) (he : ∀ r j, (e (ix2 r j)).toNat < 16384)
include he

/-- The start index of an expert number inside the table is the number. -/
theorem starts_apply (r : Fin 32768) (j : Fin 128) (z : Fin 1) : starts e (ix3 r j z) = e (ix2 r j) := by
  have h : starts e (ix3 r j z) = Scalar.select (IntOp.cmpi .slt (e (ix2 r j)) 0#32) (IntOp.addi (e (ix2 r j)) 16384#32) (e (ix2 r j)) := by
    pointwise [starts, wrapped]
  rw [h, (word_facts _ (he r j)).1]
  rfl

/-- Every start index lies inside the table. -/
theorem inside_apply (i : S32768x128.Idx) : inside e i = 1#1 := by
  refine Host.reduce_andi_one _ _ _ _ i rfl fun v => ?_
  idx_vars v
  show IntOp.andi (IntOp.cmpi .sge (starts e (ix3 v0 v1 v2)) 0#32) (IntOp.cmpi .sle (starts e (ix3 v0 v1 v2)) 16383#32) = 1#1
  rw [starts_apply e he, (word_facts _ (he v0 v1)).2.1, (word_facts _ (he v0 v1)).2.2.1]
  rfl

/-- The row looked up is the expert's. -/
theorem taken_apply (bits : IVec S1x16384x1024 16) (r : Fin 32768) (j : Fin 128) (d : Fin 1024) :
    taken e (table bits) (ix3 r j d) = entry bits (e (ix2 r j)) d := by
  have h := guarded_apply (inside e)
    (Host.gather gather_S16384x1024_S32768x128x1_S32768x128x1024_2_0_n_n_0_2_11024 (table bits) (starts e)) r j d
  rw [inside_apply e he, gather_apply, row_eq _ _ (he r j) (starts_apply e he r j 0), table_apply] at h
  exact h.trans (pick_one _ _)
end

/-- Rows normalised as the reference does it, at an element. -/
theorem norm_apply (X : FVec Ideal S32768x1024 .f32) (g : FVec Ideal S1024 .f32) (r : Fin 32768) (q : Fin 1024) :
    mulf (mulf X (broadcastInDim S32768x1024 ![0, 1] bcast_S32768x1_S32768x1024_0_1 (Host.rsqrt (addf
        (Host.divf (broadcastInDim S32768x1 ![0] bcast_S32768_S32768x1_0 (Host.reduceAdd (mulf X X)
            (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
      (broadcastInDim S32768x1024 ![0, 1] bcast_S1x1024_S32768x1024_0_1 (broadcastInDim S1x1024 ![1] bcast_S1024_S1x1024_1 g))
      (ix2 r q) = normed (fun d => X (ix2 r d)) (fun d => g (ix1 d)) q := by
  pointwise [normed]

/-- Rows with a weighted sum added, at an element. -/
theorem added_apply (h : FVec Ideal S32768x1024 .f32) (a : FVec Ideal S32768x128 .f32) (v : FVec Ideal S32768x128x1024 .f32)
    (r : Fin 32768) (d : Fin 1024) :
    addf h (Host.dotGeneral dot_S32768x128_S32768x128x1024_S32768x1024_1_1_n_2_0_0 none a v) (ix2 r d)
      = h (ix2 r d) + ∑ j : Fin 128, a (ix2 r j) * v (ix3 r j d) := by
  pointwise

variable (m : (ℓ : Loc nD τ sig) → Buf (Elt Ideal) ℓ) (ρ : Dev nD → PrngReg)
  (W : ∀ (c : Dev nD) r j, (m ((c.tc : Thread nD τ).loc main_arg0) (ix2 r j)).toNat < 16384)
include W

set_option maxHeartbeats 1000000 in
/-- The reference's term is that array. -/
theorem value (c : Dev nD) : Value.res_main_v18 m c = out (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  funext i
  idx_vars i
  unfold Value.res_main_v18
  refine (norm_apply (addf (m ((c.tc : Thread nD τ).loc main_arg2))
    (Host.dotGeneral (F := Ideal) dot_S32768x128_S32768x128x1024_S32768x1024_1_1_n_2_0_0 none (m ((c.tc : Thread nD τ).loc main_arg1))
      (taken (m ((c.tc : Thread nD τ).loc main_arg0)) (table (m ((c.tc : Thread nD τ).loc main_arg4))))))
    (m ((c.tc : Thread nD τ).loc main_arg3)) i0 i1).trans ?_
  show _ = normed (added _ _ _ _ i0) _ i1
  refine congrArg (fun x => normed x (fun d => m ((c.tc : Thread nD τ).loc main_arg3) (ix1 d)) i1) (funext fun d => ?_)
  rw [added_apply]
  simp only [taken_apply _ (W c)]
  rfl

/-- The reference's run: its result is that array of its arguments, which are left as they were. -/
theorem run : θ_run defs (onTc (τ := τ) (main (F := Ideal))) ⟨m, fun _ => 0, ρ⟩ fun r => ∀ c : Dev nD,
      r.2.mem ((c.tc : Thread nD τ).loc main_v18) = out (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (value m W c), (h c).2⟩) (Value.run m ρ)

end Cert.ReferenceIdeal.Peer

end
-- ==== Proof.PeerPre.lean ====
/-
  Program 1, the preconditions in plain terms: every expert number is a row of the table, and every activation a real
  number.
-/
module

public import proofs.«01_k».proof.Proof.PeerRef
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Peer.Pre

/-- The conjunction of two truth bits is the truth bit of the conjunction. -/
theorem andi_ofBool (p q : Bool) : IntOp.andi (BitVec.ofBool p) (BitVec.ofBool q) = BitVec.ofBool (p && q) := by
  cases p <;> cases q <;> decide

/-- A truth bit is one exactly when it holds. -/
theorem ofBool_eq_one (p : Bool) : BitVec.ofBool p = 1#1 ↔ p = true := by cases p <;> decide

/-- A word between 0 and 16384 as signed numbers go is below 16384. -/
theorem word_lt (e : BitVec 32) (h : IntOp.andi (IntOp.cmpi .sge e 0#32) (IntOp.cmpi .slt e 16384#32) = 1#1) :
    e.toNat < 16384 := by
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

/-- An extended real between the two infinities is a real number. -/
theorem real_of (a : EReal) (h : IntOp.andi (Ideal.cmp .ogt a (Ideal.ofBits .f32 0xFF800000#32))
    (Ideal.cmp .olt a (Ideal.ofBits .f32 0x7F800000#32)) = 1#1) : ∃ u : ℝ, a = (u : EReal) := by
  have b : Ideal.ofBits .f32 0xFF800000#32 = ⊥ := by simp [Ideal.ofBits, Ideal.ieee]
  have t : Ideal.ofBits .f32 0x7F800000#32 = ⊤ := by simp [Ideal.ofBits, Ideal.ieee]
  rw [b, t] at h
  simp only [Ideal.cmp, andi_ofBool, ofBool_eq_one, Bool.and_eq_true, decide_eq_true_eq] at h
  exact ⟨a.toReal, (EReal.coe_toReal h.2.ne h.1.ne').symm⟩

instance : Subsingleton Cert.Pre_experts_in_table.S_.Idx := ⟨fun a b => funext fun k => k.elim0⟩

instance : Subsingleton Cert.Pre_experts_and_finite.S_.Idx := ⟨fun a b => funext fun k => k.elim0⟩

/-- What the first precondition says of the expert numbers. -/
theorem in_table {F : FTy → Type} [FloatOps F] [Cert.Pre_experts_in_table.Facts]
    (e : IVec Cert.Pre_experts_in_table.S32768x128 32) (a : FVec F Cert.Pre_experts_in_table.S32768x128 .f32)
    (h : FVec F Cert.Pre_experts_in_table.S32768x1024 .f32) (g : FVec F Cert.Pre_experts_in_table.S1024 .f32)
    (b : IVec Cert.Pre_experts_in_table.S1x16384x1024 16)
    (H : Cert.Pre_experts_in_table.fn e a h g b = fun _ => 1#1) (r : Fin 32768) (j : Fin 128) : (e (ix2 r j)).toNat < 16384 :=
  word_lt _ (Host.reduce_andi_all _ _ _ _ (fun k => k.elim0) (congrFun H fun k => k.elim0) (ix2 r j))

/-- What the second precondition says of the expert numbers and of the activations. -/
theorem and_finite [Cert.Pre_experts_and_finite.Facts]
    (e : IVec Cert.Pre_experts_and_finite.S32768x128 32) (a : FVec Ideal Cert.Pre_experts_and_finite.S32768x128 .f32)
    (h : FVec Ideal Cert.Pre_experts_and_finite.S32768x1024 .f32) (g : FVec Ideal Cert.Pre_experts_and_finite.S1024 .f32)
    (b : IVec Cert.Pre_experts_and_finite.S1x16384x1024 16)
    (H : Cert.Pre_experts_and_finite.fn e a h g b = fun _ => 1#1) (r : Fin 32768) (j : Fin 128) :
    (e (ix2 r j)).toNat < 16384 ∧ ∃ u : ℝ, a (ix2 r j) = (u : EReal) := by
  have both (x y : BitVec 1) (h : IntOp.andi x y = 1#1) : x = 1#1 ∧ y = 1#1 := by revert x y; decide
  have k := both _ _ (congrFun H fun k => k.elim0)
  exact ⟨word_lt _ (Host.reduce_andi_all _ _ _ _ (fun k => k.elim0) k.1 (ix2 r j)),
    real_of _ (Host.reduce_andi_all _ _ _ _ (fun k => k.elim0) k.2 (ix2 r j))⟩

end Cert.Peer.Pre

end
-- ==== Proof.PeerClaims.lean ====
/-
  Program 1, the claims: the frames of the retrieval through the expert table and its equality with the reference.
-/
module

public import proofs.«01_k».proof.Proof.PeerPre
public import proofs.«01_k».proof.Proof.PeerHypsBits
public import proofs.«01_k».proof.Proof.Gen.Kernel.Frame
public import proofs.«01_k».proof.Proof.Gen.KernelIdeal.Frame
public import proofs.«01_k».proof.Proof.Gen.Pre_experts_in_table
public import proofs.«01_k».proof.Proof.Gen.Pre_experts_and_finite
public import Idealize.ShloMosaic.Lib.Quiescent

@[expose] public section

noncomputable section

open Idealize.ShloMosaic Idealize.ShloMosaic.TcCoe Idealize.SL.Sem

namespace Cert.Proof.Peer

/-- The kernel as compiled, its expert numbers inside the table, runs to its end, leaves its arguments as they were and
    every counter at zero. -/
theorem frame : Cert.quiescent_Kernel := fun m ρ h =>
  Cert.Kernel.Gen.frame m ρ (Cert.Kernel.Peer.hyps_of m fun c => Cert.Peer.Pre.in_table _ _ _ _ _ (h c))

/-- The same of the kernel over the extended reals. -/
theorem frame_ideal : Cert.quiescent_KernelIdeal := fun m ρ h =>
  Cert.KernelIdeal.Gen.frame m ρ (Cert.KernelIdeal.Peer.hyps_of m fun c => Cert.Peer.Pre.in_table _ _ _ _ _ (h c))

/-- The same under the precondition of the equality below. -/
theorem frame_ideal_finite : Cert.quiescent_KernelIdeal_pre_experts_and_finite := fun m ρ h =>
  Cert.KernelIdeal.Gen.frame m ρ (Cert.KernelIdeal.Peer.hyps_of m fun c r j => (Cert.Peer.Pre.and_finite _ _ _ _ _ (h c) r j).1)

/-- The same of the reference, a host program, which declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same under the precondition of the equality below. -/
theorem frame_reference_finite : Cert.quiescent_ReferenceIdeal_pre_experts_and_finite := fun m ρ _ =>
  frame_reference m ρ trivial

/-- Over the extended reals, from arguments that agree, expert numbers inside the table and activations real, the
    kernel's result and the reference's are the same array: every token's row with its experts' rows added, normalised. -/
theorem algebraic : Cert.algebraic_KernelIdeal_ReferenceIdeal_pre_experts_and_finite := by
  intro m ρ m' ρ' hpre hag
  refine ⟨fun c => Cert.Peer.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Peer.run m ρ (fun c r j => (Cert.Peer.Pre.and_finite _ _ _ _ _ (hpre c) r j).1)
      (fun c r j => (Cert.Peer.Pre.and_finite _ _ _ _ _ (hpre c) r j).2), ?_⟩
  refine (θ_run Cert.ReferenceIdeal.defs _ _).mono (fun _ h c => ⟨(h c).1.trans ?_, (h c).2⟩)
    (Cert.ReferenceIdeal.Peer.run m' ρ' fun c r j => ?_)
  · rw [(hag c).1]
    exact (Cert.Peer.Pre.and_finite _ _ _ _ _ (hpre c) r j).1
  · obtain ⟨e0, e1, e2, e3, e4⟩ := hag c
    rw [e0, e1, e2, e3, e4]

end Cert.Proof.Peer

end
-- ==== Proof.InProjClaims.lean ====
/-
  Program 2, the claims: the frames of the normalised input projection and its equality with the reference.
-/
module

public import proofs.«01_k».proof.Defs
public import proofs.«01_k».proof.Proof.InProjEq
public import proofs.«01_k».proof.Proof.Gen.Kernel2.Frame
public import proofs.«01_k».proof.Proof.Gen.Kernel2Ideal.Frame
public import Idealize.ShloMosaic.Lib.Quiescent

@[expose] public section

noncomputable section

open Idealize.ShloMosaic Idealize.ShloMosaic.TcCoe Idealize.SL.Sem

namespace Cert.Proof.InProj

/-- The kernel as compiled runs to its end, leaves its arguments as they were and every counter at zero. -/
theorem frame : Cert.quiescent_Kernel2 := fun m ρ _ => Cert.Kernel2.Gen.frame m ρ

/-- The same of the kernel over the extended reals. -/
theorem frame_ideal : Cert.quiescent_Kernel2Ideal := fun m ρ _ => Cert.Kernel2Ideal.Gen.frame m ρ

/-- The same of the reference, a host program, which declares no counter. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.InProj.run m ρ)

/-- Over the extended reals, from arguments that agree, the kernel's result and the reference's are the same array:
    the normalised tokens times the weights. -/
theorem algebraic : Cert.algebraic_Kernel2Ideal_Reference2Ideal := by
  intro m ρ m' ρ' _ hag
  refine ⟨fun c => Cert.InProj.proj (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)), Cert.Kernel2Ideal.InProj.run m ρ, ?_⟩
  refine (θ_run Cert.Reference2Ideal.defs _ _).mono (fun _ h c => ⟨(h c).1.trans ?_, (h c).2⟩) (Cert.Reference2Ideal.InProj.run m' ρ')
  obtain ⟨e0, e1, e2⟩ := hag c
  rw [e0, e1, e2]

end Cert.Proof.InProj

end
-- ==== Proof.MergeClaims.lean ====
/-
  Program 3, the claims: the frames of the branch merge and its equality with the reference.
-/
module

public import proofs.«01_k».proof.Defs
public import proofs.«01_k».proof.Proof.MergeEq
public import proofs.«01_k».proof.Proof.Gen.Kernel3.Frame
public import proofs.«01_k».proof.Proof.Gen.Kernel3Ideal.Frame
public import Idealize.ShloMosaic.Lib.Quiescent

@[expose] public section

noncomputable section

open Idealize.ShloMosaic Idealize.ShloMosaic.TcCoe Idealize.SL.Sem

namespace Cert.Proof.Merge

/-- The kernel as compiled runs to its end, leaves its arguments as they were and every counter at zero. -/
theorem frame : Cert.quiescent_Kernel3 := fun m ρ _ => Cert.Kernel3.Gen.frame m ρ

/-- The same of the kernel over the extended reals. -/
theorem frame_ideal : Cert.quiescent_Kernel3Ideal := fun m ρ _ => Cert.Kernel3Ideal.Gen.frame m ρ

/-- The same of the reference, a host program, which declares no counter. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Merge.run m ρ)

/-- Over the extended reals, from arguments that agree, the kernel's result and the reference's are the same array:
    the residual plus the projection of the gated branches. -/
theorem algebraic : Cert.algebraic_Kernel3Ideal_Reference3Ideal := by
  intro m ρ m' ρ' _ hag
  refine ⟨fun c => Cert.Merge.merge (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)), Cert.Kernel3Ideal.Merge.run m ρ, ?_⟩
  refine (θ_run Cert.Reference3Ideal.defs _ _).mono (fun _ h c => ⟨(h c).1.trans ?_, (h c).2⟩) (Cert.Reference3Ideal.Merge.run m' ρ')
  obtain ⟨e0, e1, e2, e3, e4, e5, e6, e7, e8, e9⟩ := hag c
  rw [e0, e1, e2, e3, e4, e5, e6, e7, e8, e9]

end Cert.Proof.Merge

end
-- ==== Proof.QueryBody.lean ====
/-
  Program 4, one call of the body. At the first of the two column blocks of a row block the body normalises the
  1024 rows it is given, stores them as they are and, in the narrow format, in a scratch buffer, and multiplies the
  latter by the weight block; at the second it multiplies what the scratch holds.
-/
module

public import proofs.«01_k».proof.Proof.Gen.Kernel4Ideal.Skeleton
public import proofs.«01_k».proof.Proof.Gen.Kernel4Ideal.Frame
public import Idealize.ShloMosaic.Lib.Pipeline.Value
public import Idealize.ShloMosaic.Lib.Claim

@[expose] public section

set_option maxRecDepth 16384

noncomputable section

namespace Cert.Kernel4Ideal.Query

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions the body's triples are stated in. -/
abbrev Asrt (F : FTy → Type) [FloatOps F] := sProp (MT nD τ sig Unit (Elt F) ℕ (UR sig nD τ) ℕ)

theorem hz : (![0, 0] : Fin 2 → Nat) = fun _ => 0 := funext fun a => by fin_cases a <;> rfl

/-- Reading a buffer that one whole store wrote gives what was stored. -/
theorem read_whole {e : EltTy} (v : View sig .tc .vmem S1024x1024 e) (f : v.ty.Contents (Elt F))
    (inb : ∀ a, (![0, 0] : Fin 2 → Nat) a + S1024x1024.size a ≤ S1024x1024.size a) (w : S1024x1024.Idx → Elt F e) :
    v.read (Elt F) (v.writes (Elt F) f [(⟨Rect.unit ![0, 0] S1024x1024.size inb, w⟩ : View.Piece (Elt F) S1024x1024 e)]) = w := by
  rw [View.read_writes_eq_canon _ _ _ (View.cover_of_tiledL _ S1024x1024.size (by sl_kernel_rfl)), View.canon_unit_zero hz]

variable (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .bf16) (h7 : a7.IsWhole)
    (x : Vec F S1024x1024 .f32) (g : Vec F S1x1024 .f32) (w : Vec F S1024x1024 .bf16)

/-- The body at a first column block: the product of the rows it normalises, the rows, and the scratch holding them. -/
theorem body_first (hc : k0_cond1 i = 1#1) (E : Set ℕ) (K : PUnit → Asrt F) :
    iprop(owns (c : Thread nD τ) a2 fullShare x ∗ owns (c : Thread nD τ) a3 fullShare g ∗ owns (c : Thread nD τ) a4 fullShare w
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a2 fullShare x ∗ owns (c : Thread nD τ) a3 fullShare g ∗ owns (c : Thread nD τ) a4 fullShare w
          ∗ owns (c : Thread nD τ) a5 fullShare (k0_pay3 (k0_pay2 x g) w) ∗ owns (c : Thread nD τ) a6 fullShare (k0_pay1 x g)
          ∗ owns (c : Thread nD τ) a7 fullShare (k0_pay2 x g)) -∗ K ⟨⟩))
      ⊢ wp frame (wpE (defs₀ (F := F)) Variants.none c none) E (cc0_norm_matmul i a2 h2 a3 h3 a4 h4 a5 h5 a6 h6 a7 h7) K := by
  simp only [cc0_norm_matmul_eq_skeleton]; unfold cc0_norm_matmul_skel
  unfold owns
  iintro ⟨⟨%f2, %e2, H2⟩, ⟨%f3, %e3, H3⟩, ⟨%f4, %e4, H4⟩, ⟨%d5, %f5, -, H5⟩, ⟨%d6, %f6, -, H6⟩, ⟨%d7, %f7, -, H7⟩, Hk⟩
  obtain rfl := h2.eq_unread e2; obtain rfl := h3.eq_unread e3; obtain rfl := h4.eq_unread e4
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    sl_unfold_words
    refine (read_whole _ _ _ _).trans ?_
    rw [View.readCov_unit_zero (S := S1024x1024) _ hz]
    simp only [View.readAt_eq_ld, h2.read_unread, h3.read_unread, h4.read_unread, View.ld_unit_zero (S := S1024x1024) hz,
      View.ld_unit_zero (S := S1x1024) hz]
  isplitl [H6]
  · iexists _; isplitr
    swap; · iexact H6
    ipureintro
    sl_unfold_words
    refine (read_whole _ _ _ _).trans ?_
    simp only [View.readAt_eq_ld, h2.read_unread, h3.read_unread, View.ld_unit_zero (S := S1024x1024) hz,
      View.ld_unit_zero (S := S1x1024) hz]
  · iexists _; isplitr
    swap; · iexact H7
    ipureintro
    sl_unfold_words
    refine (read_whole _ _ _ _).trans ?_
    simp only [View.readAt_eq_ld, h2.read_unread, h3.read_unread, View.ld_unit_zero (S := S1024x1024) hz,
      View.ld_unit_zero (S := S1x1024) hz]

/-- The body at a second column block: the product of what the scratch holds; the rows' buffer is not touched. -/
theorem body_second (hc : ¬k0_cond1 i = 1#1) (r : Vec F S1024x1024 .f32) (s : Vec F S1024x1024 .bf16) (E : Set ℕ) (K : PUnit → Asrt F) :
    iprop(owns (c : Thread nD τ) a2 fullShare x ∗ owns (c : Thread nD τ) a3 fullShare g ∗ owns (c : Thread nD τ) a4 fullShare w
        ∗ (∃ d, owns (c : Thread nD τ) a5 fullShare d) ∗ owns (c : Thread nD τ) a6 fullShare r
        ∗ owns (c : Thread nD τ) a7 fullShare s
        ∗ (iprop(owns (c : Thread nD τ) a2 fullShare x ∗ owns (c : Thread nD τ) a3 fullShare g ∗ owns (c : Thread nD τ) a4 fullShare w
          ∗ owns (c : Thread nD τ) a5 fullShare (k0_pay3 s w) ∗ owns (c : Thread nD τ) a6 fullShare r
          ∗ owns (c : Thread nD τ) a7 fullShare s) -∗ K ⟨⟩))
      ⊢ wp frame (wpE (defs₀ (F := F)) Variants.none c none) E (cc0_norm_matmul i a2 h2 a3 h3 a4 h4 a5 h5 a6 h6 a7 h7) K := by
  simp only [cc0_norm_matmul_eq_skeleton]; unfold cc0_norm_matmul_skel
  unfold owns
  iintro ⟨⟨%f2, %e2, H2⟩, ⟨%f3, %e3, H3⟩, ⟨%f4, %e4, H4⟩, ⟨%d5, %f5, -, H5⟩, ⟨%f6, %e6, H6⟩, ⟨%f7, %e7, H7⟩, Hk⟩
  obtain rfl := h2.eq_unread e2; obtain rfl := h3.eq_unread e3; obtain rfl := h4.eq_unread e4
  obtain rfl := h6.eq_unread e6; obtain rfl := h7.eq_unread e7
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    refine (read_whole _ _ _ _).trans ?_
    simp only [View.readAt_eq_ld, h4.read_unread, h7.read_unread, View.ld_unit_zero (S := S1024x1024) hz]
  isplitl [H6]
  · iexists _; isplitr; · ipureintro; exact h6.read_unread _
    iexact H6
  · iexists _; isplitr; · ipureintro; exact h7.read_unread _
    iexact H7

end Cert.Kernel4Ideal.Query

end
-- ==== Proof.QueryRun.lean ====
/-
  Program 4, the run. The grid has two points per row block, and the scratch is carried from the first to the second.
  At every point the product block is that of the normalised rows of the point's row block; the block of rows itself
  is stored at the first point, left alone at the second and written back there.
-/
module

public import proofs.«01_k».proof.Proof.QueryBody

@[expose] public section

set_option maxRecDepth 16384

noncomputable section

namespace Cert.Kernel4Ideal.Query

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-- The body normalises at the even points, and only there. -/
theorem cond_even (t : Fin cfg0.N) : k0_cond1 (grid0.coords t) = 1#1 ↔ t.val % 2 = 0 := by
  have ht : t.val < 64 := Nat.lt_of_lt_of_eq t.isLt N_0
  have e1 : (grid0.coords t 1).val = t.val / 1 % 2 := Pipeline.Grid.coords_val t 1 (by decide) rfl
  simp only [k0_cond1, e1]
  word_cmp

/-- So the rows' window is idle at the odd points, and only there. -/
theorem idle_iff (t : Fin cfg0.N) : cfg0.idle 4 (cfg0.grid.coords t) = decide (t.val % 2 = 1) := by
  show (!(k0_cond1 (grid0.coords t) == 1#1)) = _
  rw [Bool.eq_iff_iff, decide_eq_true_iff]
  have := cond_even t
  by_cases h : k0_cond1 (grid0.coords t) = 1#1 <;> simp [h] at this ⊢ <;> omega

/-- The first of the two grid points of the row block that `n` belongs to. -/
abbrev first (n : ℕ) (h : n < cfg0.N) : Fin cfg0.N := ⟨2 * (n / 2), by omega⟩

theorem first_even (n : ℕ) (h : n < cfg0.N) (h0 : n % 2 = 0) : first n h = ⟨n, h⟩ :=
  Fin.ext (by show 2 * (n / 2) = n; omega)

theorem first_odd (n : ℕ) (h : n < cfg0.N) (h0 : ¬n % 2 = 0) : first n h = first (n - 1) (by omega) :=
  Fin.ext (by show 2 * (n / 2) = 2 * ((n - 1) / 2); omega)

/-- The normalised rows of point `n`'s row block, as they are written out. -/
def rows (c : Dev nD) (n : ℕ) (h : n < cfg0.N) : Vec F S1024x1024 .f32 :=
  k0_pay1 (iblk m c 0 (first n h)) (iblk m c 1 (first n h))

/-- The same rows as the scratch keeps them. -/
def kept (c : Dev nD) (n : ℕ) (h : n < cfg0.N) : Vec F S1024x1024 .bf16 :=
  k0_pay2 (iblk m c 0 (first n h)) (iblk m c 1 (first n h))

/-- The scratch buffer. -/
abbrev scr : Memref sig .tc .vmem S1024x1024 .bf16 := Memref.whole cc0_scratch0

theorem rest_eq (c : Dev nD) : (Pipeline.ΦA spec0 c : Asrt F)
    = iprop((∃ d, owns (c : Thread nD τ) scr fullShare d) ∗ (∃ r, prngReg c r)) := by
  unfold Pipeline.ΦA; rw [scopedRest0_eq]; simp only [scr, owns_whole]; try rfl

/-- Between the points: the scratch at the rows the point before kept, at anything before the first. -/
def inv (c : Dev nD) : (n : ℕ) → n ≤ cfg0.N → Asrt F
  | 0, _ => Pipeline.ΦA spec0 c
  | n + 1, hn => iprop(owns (c : Thread nD τ) scr fullShare (kept m c n hn) ∗ (∃ r, prngReg c r))

theorem inv_pos (c : Dev nD) (n : ℕ) (h : n ≤ cfg0.N) (h0 : n ≠ 0) :
    inv m c n h = iprop(owns (c : Thread nD τ) scr fullShare (kept m c (n - 1) (by omega)) ∗ (∃ r, prngReg c r)) := by
  cases n with
  | zero => exact absurd rfl h0
  | succ n => rfl

/-- Whatever the point, the scratch holds something. -/
theorem inv_any (c : Dev nD) (n : ℕ) (h : n ≤ cfg0.N) : inv m c n h
    ⊢ (iprop((∃ d, owns (c : Thread nD τ) scr fullShare d) ∗ (∃ r, prngReg c r)) : Asrt F) := by
  cases n with
  | zero => show Pipeline.ΦA spec0 c ⊢ _; rw [rest_eq]
  | succ n =>
    show iprop(owns (c : Thread nD τ) scr fullShare (kept m c n h) ∗ (∃ r, prngReg c r)) ⊢ _
    iintro ⟨H, Hg⟩
    isplitl [H]; · iexists _; iexact H
    iexact Hg

/-- The proof data: the arrays as the region finds them; after each point the inputs' buffers at their blocks, the
    product's at the rows times the weights, the rows' at the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t.val t.isLt) (iblk m c 2 t)
    | ⟨4, _⟩ => rows m c t.val t.isLt
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_start (c : Dev nD) (t : Fin cfg0.N) : (dats m 0 c).Φ t.castSucc = inv m c t.val (Nat.le_of_lt t.isLt) := by
  dsimp only [dats]; exact Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (kept m c t.val t.isLt) (iblk m c 2 t) := by
  dsimp only [dats]
theorem after_4 (c : Dev nD) (t : Fin cfg0.N) : (dats m 0 c).after 4 t = rows m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At an odd point the rows' buffer still holds what the even point before stored. -/
theorem before_4 (c : Dev nD) (t : Fin cfg0.N) (h0 : ¬t.val % 2 = 0) (d) :
    (dats m 0 c).before 4 t d = rows m c (t.val - 1) (Nat.lt_of_le_of_lt (Nat.sub_le _ _) t.isLt) := by
  have hp : (t.val - 1) % 2 = 0 := by omega
  have hi := idle_iff ⟨t.val - 1, Nat.lt_of_le_of_lt (Nat.sub_le _ _) t.isLt⟩
  have hf : (cfg0.win 4).flush ⟨t.val - 1, Nat.lt_of_le_of_lt (Nat.sub_le _ _) t.isLt⟩ = false :=
    Bool.eq_false_iff.mpr fun h => by have := (flush0_4 _).mp h; dsimp only at this; omega
  rw [(dats m 0 c).before_of_pos 4 t (by omega) ((cfg0.win 4).fetch_out rfl t), hf, if_neg Bool.false_ne_true]
  unfold Dat.left
  rw [hi, decide_eq_false (by dsimp only; omega)]
  exact after_4 m c _

/-- What the body is handed at a point, window by window, -/
def pre (c : Dev nD) (t : Fin cfg0.N) : Asrt F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def post (c : Dev nD) (t : Fin cfg0.N) : Asrt F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem rows_even (c : Dev nD) (t : Fin cfg0.N) (h0 : t.val % 2 = 0) :
    rows m c t.val t.isLt = k0_pay1 (iblk m c 0 t) (iblk m c 1 t) := by unfold rows; rw [first_even _ _ h0]
theorem kept_even (c : Dev nD) (t : Fin cfg0.N) (h0 : t.val % 2 = 0) :
    kept m c t.val t.isLt = k0_pay2 (iblk m c 0 t) (iblk m c 1 t) := by unfold kept; rw [first_even _ _ h0]
theorem rows_odd (c : Dev nD) (t : Fin cfg0.N) (h0 : ¬t.val % 2 = 0) :
    rows m c t.val t.isLt = rows m c (t.val - 1) (Nat.lt_of_le_of_lt (Nat.sub_le _ _) t.isLt) := by
  unfold rows; rw [first_odd _ _ h0]
theorem kept_odd (c : Dev nD) (t : Fin cfg0.N) (h0 : ¬t.val % 2 = 0) :
    kept m c t.val t.isLt = kept m c (t.val - 1) (Nat.lt_of_le_of_lt (Nat.sub_le _ _) t.isLt) := by
  unfold kept; rw [first_odd _ _ h0]

set_option maxHeartbeats 1600000 in
/-- The body at any point takes the one to the other. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).owesAt () t.succ = (dats m 0 c).owesAt () t.castSucc from rfl,
    after_0, after_1, after_2, after_3, after_4, inv_start,
    show (dats m 0 c).Φ t.succ = iprop(owns (c : Thread nD τ) scr fullShare (kept m c t.val t.isLt) ∗ (∃ r, prngReg c r)) from rfl]
  by_cases h0 : t.val % 2 = 0
  · refine (sep_mono (inv_any m c _ _) .rfl).trans ?_
    rw [rows_even m c t h0, kept_even m c t h0]
    iintro ⟨⟨HS, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ (iblk m c 0 t) (iblk m c 1 t) (iblk m c 2 t)
      ((cond_even t).mpr h0) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [inv_pos m c _ _ (by omega), rows_odd m c t h0, kept_odd m c t h0]
    simp only [before_4 m c t h0]
    iintro ⟨⟨HS, Hg⟩, Ho, ⟨%d0, H0⟩, ⟨%d1, H1⟩, ⟨%d2, H2⟩, ⟨%d3, H3⟩, ⟨%d4, H4⟩⟩
    iapply (body_second c (grid0.coords t) _ _ _ _ _ _ _ _ _ _ _ _ (iblk m c 0 t) (iblk m c 1 t) (iblk m c 2 t)
      (fun h => h0 ((cond_even t).mp h)) _ _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

/-- At every point, also where it is idle, the rows' buffer is handed back at the rows. -/
theorem leaves_4 (c : Dev nD) (t : Fin cfg0.N) :
    owns (c : Thread nD τ) (st0_4 t) fullShare ((dats m 0 c).after 4 t) ⊢ (dats m 0 c).leavesExact 4 t := by
  unfold Dat.leavesExact
  rw [idle_iff]
  by_cases h : t.val % 2 = 1
  · rw [decide_eq_true h, (flush0_4 t).mpr h]
  · rw [decide_eq_false h]

/-- The library's obligation of the body, at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ =>
    sep_mono .rfl (sep_mono .rfl (sep_mono .rfl (sep_mono .rfl (sep_mono .rfl (sep_mono .rfl (leaves_4 m c t))))))

theorem inv_in (c : Dev nD) : Pipeline.ΦA spec0 c ⊢ (dats m 0 c).Φ 0 := by
  rw [show (dats m 0 c).Φ 0 = Pipeline.ΦA spec0 c from rfl]

theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    rest_eq]
  exact inv_any m c _ _

set_option backward.isDefEq.respectTransparency.types false in
/-- Every execution ends, with the pipeline's arrays at what the proof data say and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The two result arrays as the pipeline's write-backs leave them, and the arguments unchanged. -/
theorem run_blocks : θ_run defs (onTc (τ := τ) (main (F := F))) ⟨m, fun _ => 0, ρ⟩ fun r => ∀ c : Dev nD,
      r.2.mem ((c.tc : Thread nD τ).loc main_v4_0) = (dats m 0 c).arrAt 3 cfg0.N
      ∧ r.2.mem ((c.tc : Thread nD τ).loc main_v4_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.2 c).1 3, (h.2 c).1 4, h.1 c⟩)
    (θ_run_and (frame_of m ρ (dats m) (A_eq m) ((θ_run defs _ _).mono (fun _ h => h.1) (run_all m ρ)))
      ((θ_run defs _ _).mono (fun _ h => h.1) (run_all m ρ)))

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Kernel4Ideal.Query

end
-- ==== Proof.QuerySpec.lean ====
/-
  Program 4, the arrays: every token divided by its root mean square and scaled by the gains, and the product of
  those rows with the query projection's weights.
-/
module

public import proofs.«01_k».proof.Kernel4Ideal
public import Idealize.ShloMosaic.Lib.Pipeline.ValueKit
public import Idealize.ShloMosaic.Lib.Pointwise

@[expose] public section

noncomputable section

open Idealize.ShloMosaic Cert.Kernel4Ideal

namespace Cert.Query

/-- Channel `i 1` of token `i 0` over the token's root mean square (with the small constant under the root), times
    the channel's gain. -/
def normed (X : S32768x1024.Idx → EReal) (g : S1x1024.Idx → EReal) (i : S32768x1024.Idx) : EReal :=
  X i * Ideal.rsqrt (Ideal.div (∑ j : Fin 1024, X (ix2 (i 0) j) * X (ix2 (i 0) j)) (Ideal.ofBits FTy.f32 1149239296#32)
    + Ideal.ofBits FTy.f32 897988541#32) * g (ix2 0 (i 1))

/-- The queries: `∑ₖ normed(r, k) · weight(k, c)`. -/
def queries (X : S32768x1024.Idx → EReal) (g : S1x1024.Idx → EReal) (W : S1x1024x2048.Idx → EReal)
    (i : S32768x2048.Idx) : EReal :=
  ∑ k : Fin 1024, normed X g (ix2 (i 0) k) * W (ix3 0 k (i 1))

end Cert.Query

end
-- ==== Proof.QueryEq.lean ====
/-
  Program 4, the equations: the two arrays the kernel leaves and the two the reference computes are the queries and
  the normalised rows.
-/
module

public import proofs.«01_k».proof.Proof.QueryRun
public import proofs.«01_k».proof.Proof.QuerySpec
public import proofs.«01_k».proof.Proof.InProjEq
public import proofs.«01_k».proof.Proof.Gen.Reference4Ideal.Run

@[expose] public section

set_option maxRecDepth 16384

noncomputable section

open Idealize.ShloMosaic Idealize.ShloMosaic.TcCoe Idealize.SL.Sem

namespace Cert.Kernel4Ideal.Query

open Cert.Kernel4Ideal Cert.Kernel4Ideal.Gen Cert.Query

variable (m : (ℓ : Loc nD τ sig) → Buf (Elt Ideal) ℓ) (ρ : Dev nD → PrngReg)

/-- Which block each window shows at a grid point. -/
theorem idx_in : ∀ t : Fin cfg0.N, win0_0.index t = ![t.val / 2, 0] ∧ win0_1.index t = ![0, 0]
    ∧ win0_2.index t = ![0, t.val % 2] ∧ win0_3.index t = ![t.val / 2, t.val % 2] ∧ win0_4.index t = ![t.val / 2, 0] :=
  (by decide +kernel : ∀ t : Fin grid0.N, _)

/-- The block of activations at point `t` is rows `1024 · (t / 2)` and on. -/
theorem in_x (c : Dev nD) (t : Fin cfg0.N) (a b : Fin 1024) (r : Fin 32768) (hr : r.val = 1024 * (t.val / 2) + a.val) :
    iblk m c 0 t (ix2 a b) = m ((c.tc : Thread nD τ).loc main_arg0) (ix2 r b) := by
  obtain ⟨e, -⟩ := idx_in t
  blk_simp [iblk]
  entry_read
  blk_ext [e]

/-- The gains, at every point the whole row. -/
theorem in_g (c : Dev nD) (t : Fin cfg0.N) (b : Fin 1024) :
    iblk m c 1 t (ix2 0 b) = m ((c.tc : Thread nD τ).loc main_arg1) (ix2 0 b) := by
  obtain ⟨-, e, -⟩ := idx_in t
  blk_simp [iblk]
  entry_read
  pointwise
  blk_ext [e]

/-- The block of weights at point `t` is columns `1024 · (t % 2)` and on. -/
theorem in_w (c : Dev nD) (t : Fin cfg0.N) (a b : Fin 1024) (q : Fin 2048) (hq : q.val = 1024 * (t.val % 2) + b.val) :
    iblk m c 2 t (ix2 a b) = m ((c.tc : Thread nD τ).loc main_arg2) (ix3 0 a q) := by
  obtain ⟨-, -, e, -⟩ := idx_in t
  blk_simp [iblk]
  entry_read
  pointwise
  blk_ext [e]

/-- A block of normalised rows at an element, over the rows and gains. -/
theorem rows_apply (x : Vec Ideal S1024x1024 .f32) (g : Vec Ideal S1x1024 .f32) (a b : Fin 1024) :
    k0_pay1 x g (ix2 a b) = x (ix2 a b) * Ideal.rsqrt (Ideal.div (∑ j, x (ix2 a j) * x (ix2 a j))
      (Ideal.ofBits FTy.f32 1149239296#32) + Ideal.ofBits FTy.f32 897988541#32) * g (ix2 0 b) := by
  pointwise [k0_pay1]

/-- A product block at an element, over the block of rows and the block of weights. -/
theorem prod_apply (x : Vec Ideal S1024x1024 .f32) (g : Vec Ideal S1x1024 .f32) (w : Vec Ideal S1024x1024 .bf16)
    (a b : Fin 1024) : k0_pay3 (k0_pay2 x g) w (ix2 a b) = ∑ k : Fin 1024, k0_pay1 x g (ix2 a k) * w (ix2 k b) := by
  pointwise [k0_pay2, k0_pay3]

/-- The rows of point `t` at an element are the normalised token. -/
theorem rows_elem (c : Dev nD) (t : Fin cfg0.N) (a b : Fin 1024) (r : Fin 32768) (hr : r.val = 1024 * (t.val / 2) + a.val) :
    k0_pay1 (iblk m c 0 (first t.val t.isLt)) (iblk m c 1 (first t.val t.isLt)) (ix2 a b)
      = normed (m ((c.tc : Thread nD τ).loc main_arg0)) (m ((c.tc : Thread nD τ).loc main_arg1)) (ix2 r b) := by
  have hx : ∀ j, iblk m c 0 (first t.val t.isLt) (ix2 a j) = m ((c.tc : Thread nD τ).loc main_arg0) (ix2 r j) :=
    fun j => in_x m c _ a j r (by dsimp only; omega)
  rw [rows_apply, in_g]
  simp only [hx]
  rfl

/-- The first result array is the queries. -/
theorem value_queries (c : Dev nD) : (dats m 0 c).arrAt 3 cfg0.N = queries (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  blk_simp
  rw [after_3]
  idx_vars y
  have hN : cfg0.N = 64 := N_0
  have ht : t.val < 64 := hN ▸ t.isLt
  have e : ((View.whole main_v4_0).slice (win0_3.rect t)).emb (ix2 y0 y1)
      = ix2 (⟨1024 * (t.val / 2) + y0.val, by omega⟩ : Fin 32768) (⟨1024 * (t.val % 2) + y1.val, by omega⟩ : Fin 2048) := by
    obtain ⟨-, -, -, e, -⟩ := idx_in t
    blk_ext [e]
  rw [e]
  unfold kept queries
  rw [prod_apply]
  refine Finset.sum_congr (M := EReal) rfl fun k _ => ?_
  rw [rows_elem m c t y0 k ⟨1024 * (t.val / 2) + y0.val, by omega⟩ rfl,
    in_w m c t k y1 ⟨1024 * (t.val % 2) + y1.val, by omega⟩ rfl]
  rfl

/-- The second result array is the normalised rows. -/
theorem value_rows (c : Dev nD) : (dats m 0 c).arrAt 4 cfg0.N
    = normed (m ((c.tc : Thread nD τ).loc main_arg0)) (m ((c.tc : Thread nD τ).loc main_arg1)) := by
  refine (dats m 0 c).arrAt_eq_of_covers 4 _ (by decide +kernel) fun t hf y => ?_
  blk_simp
  rw [after_4]
  idx_vars y
  have hN : cfg0.N = 64 := N_0
  have ht : t.val < 64 := hN ▸ t.isLt
  have e : ((View.whole main_v4_1).slice (win0_4.rect t)).emb (ix2 y0 y1)
      = ix2 (⟨1024 * (t.val / 2) + y0.val, by omega⟩ : Fin 32768) y1 := by
    obtain ⟨-, -, -, -, e⟩ := idx_in t
    blk_ext [e]
  rw [e]
  exact rows_elem m c t y0 y1 _ rfl

/-- The kernel's run: its results are the queries and the normalised rows, and its arguments are left as they were. -/
theorem run : θ_run defs (onTc (τ := τ) (main (F := Ideal))) ⟨m, fun _ => 0, ρ⟩ fun r => ∀ c : Dev nD,
      r.2.mem ((c.tc : Thread nD τ).loc main_v4_0) = queries (m ((c.tc : Thread nD τ).loc main_arg0))
        (m ((c.tc : Thread nD τ).loc main_arg1)) (m ((c.tc : Thread nD τ).loc main_arg2))
      ∧ r.2.mem ((c.tc : Thread nD τ).loc main_v4_1)
        = normed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value_queries m c), (h c).2.1.trans (value_rows m c), (h c).2.2⟩)
    (run_blocks m ρ)

end Cert.Kernel4Ideal.Query

namespace Cert.Reference4Ideal.Query

open Cert.Reference4Ideal Cert.Reference4Ideal.Gen Cert.Query

variable (m : (ℓ : Loc nD τ sig) → Buf (Elt Ideal) ℓ) (ρ : Dev nD → PrngReg)

/-- The reference's normalised rows, at an element. -/
theorem rows_apply (X : FVec Ideal S32768x1024 .f32) (g : FVec Ideal S1x1024 .f32) (a : Fin 32768) (b : Fin 1024) :
    mulf (mulf X (broadcastInDim S32768x1024 ![0, 1] bcast_S32768x1_S32768x1024_0_1 (Host.rsqrt (addf
        (Host.divf (broadcastInDim S32768x1 ![0] bcast_S32768_S32768x1_0 (Host.reduceAdd (mulf X X)
            (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
      (broadcastInDim S32768x1024 ![0, 1] bcast_S1x1024_S32768x1024_0_1
        (broadcastInDim S1x1024 ![1] bcast_S1024_S1x1024_1 (shapeCast _ g shapeCasts_S1x1024_S1024))) (ix2 a b)
    = normed X g (ix2 a b) := by
  unfold normed
  pointwise

/-- A product with the reference's weights, at an element, for any rows. -/
theorem prod_apply (Y : FVec Ideal S32768x1024 .f32) (W : FVec Ideal S1x1024x2048 .f32) (a : Fin 32768) (q : Fin 2048) :
    Host.dotGeneral dot_S32768x1024_S1024x2048_S32768x2048_1_0_0_1_n_n none Y
      (shapeCast _ W shapeCasts_S1x1024x2048_S1024x2048) (ix2 a q) = ∑ k : Fin 1024, Y (ix2 a k) * W (ix3 0 k q) := by
  pointwise

/-- The reference's run: its results are the queries and the normalised rows, and its arguments are left as they were. -/
theorem run : θ_run defs (onTc (τ := τ) (main (F := Ideal))) ⟨m, fun _ => 0, ρ⟩ fun r => ∀ c : Dev nD,
      r.2.mem ((c.tc : Thread nD τ).loc main_v15) = queries (m ((c.tc : Thread nD τ).loc main_arg0))
        (m ((c.tc : Thread nD τ).loc main_arg1)) (m ((c.tc : Thread nD τ).loc main_arg2))
      ∧ r.2.mem ((c.tc : Thread nD τ).loc main_v13)
        = normed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩) (Value.run m ρ)
  · funext i
    idx_vars i
    exact (prod_apply _ _ i0 i1).trans (Finset.sum_congr (M := EReal) rfl fun k _ => congrArg (· * _) (rows_apply _ _ i0 k))
  · funext i
    idx_vars i
    exact rows_apply _ _ i0 i1

end Cert.Reference4Ideal.Query

end
-- ==== Proof.QueryClaims.lean ====
/-
  Program 4, the claims: the frames of the query projection and its equality with the reference.
-/
module

public import proofs.«01_k».proof.Defs
public import proofs.«01_k».proof.Proof.QueryEq
public import proofs.«01_k».proof.Proof.QueryRunBits
public import Idealize.ShloMosaic.Lib.Quiescent

@[expose] public section

noncomputable section

open Idealize.ShloMosaic Idealize.ShloMosaic.TcCoe Idealize.SL.Sem

namespace Cert.Proof.Query

/-- The kernel as compiled runs to its end, leaves its arguments as they were and every counter at zero. -/
theorem frame : Cert.quiescent_Kernel4 := fun m ρ _ => Cert.Kernel4.Query.frame_run m ρ

/-- The same of the kernel over the extended reals. -/
theorem frame_ideal : Cert.quiescent_Kernel4Ideal := fun m ρ _ => Cert.Kernel4Ideal.Query.frame_run m ρ

/-- The same of the reference, a host program, which declares no counter. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Query.run m ρ)

/-- Over the extended reals, from arguments that agree, the kernel's two results and the reference's are the same
    arrays: the queries and the normalised tokens. -/
theorem algebraic : Cert.algebraic_Kernel4Ideal_Reference4Ideal := by
  intro m ρ m' ρ' _ hag
  refine ⟨fun c => Cert.Query.queries (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    fun c => Cert.Query.normed (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    Cert.Kernel4Ideal.Query.run m ρ, ?_⟩
  refine (θ_run Cert.Reference4Ideal.defs _ _).mono (fun _ h c => ⟨(h c).1.trans ?_, (h c).2.1.trans ?_, (h c).2.2⟩)
    (Cert.Reference4Ideal.Query.run m' ρ')
  all_goals
    obtain ⟨e0, e1, e2⟩ := hag c
    rw [e0, e1]
  rw [e2]

end Cert.Proof.Query

end
-- ==== Proof.RoutePicks.lean ====
/-
  Program 5, the selection as mathematics. `Ranked x σ` says that `σ` lists places of `x` from the greatest value down,
  equal values in the order of their places, and leaves out no place that should have come earlier. Sorting gives such a
  list (`ranked_sort`); taking the maximum again and again gives it too (`after_max`, `after_first`).
-/
module

public import Idealize.ShloMosaic.Lib.PlanTiles.StableSort
public import Idealize.ShloMosaic.Lib.Pointwise
public import Idealize.ShloMosaic.Lib.Tactic

@[expose] public section

noncomputable section

open Idealize.ShloMosaic

namespace Cert.Route

variable {N k : ℕ}

/-- `σ` lists places of `x` in descending order of their values, the lower place first among equals. -/
structure Ranked (x : Fin N → EReal) (σ : Fin k → Fin N) : Prop where
  ne : ∀ s r, s < r → σ s ≠ σ r
  first : ∀ r q, (∀ s, s < r → σ s ≠ q) → q = σ r ∨ x q < x (σ r) ∨ (x q = x (σ r) ∧ σ r < q)

theorem Ranked.le {x : Fin N → EReal} {σ : Fin k → Fin N} (h : Ranked x σ) (r : Fin k) (q : Fin N)
    (hq : ∀ s, s < r → σ s ≠ q) : x q ≤ x (σ r) := by
  rcases h.first r q hq with rfl | h1 | ⟨h1, -⟩
  · exact le_rfl
  · exact h1.le
  · exact h1.le

/-- The values come in descending order. -/
theorem Ranked.antitone {x : Fin N → EReal} {σ : Fin k → Fin N} (h : Ranked x σ) {s r : Fin k} (hsr : s ≤ r) : x (σ r) ≤ x (σ s) :=
  h.le s (σ r) fun u hu => h.ne u r (lt_of_lt_of_le hu hsr)

/-! ## Sorting -/

/-- How many places hold a smaller value. -/
def below (x : Fin N → EReal) (a : Fin N) : ℕ := (Finset.univ.filter fun c => x c < x a).card

theorem below_lt (x : Fin N → EReal) (a b : Fin N) : below x b < below x a ↔ x b < x a := by
  constructor
  · intro h
    by_contra hn
    refine absurd h (not_lt.2 (Finset.card_le_card fun c hc => ?_))
    simp only [Finset.mem_filter, Finset.mem_univ, true_and] at hc ⊢
    exact lt_of_lt_of_le hc (not_lt.1 hn)
  · intro h
    refine Finset.card_lt_card ((Finset.ssubset_iff_of_subset fun c hc => ?_).2 ⟨b, ?_, ?_⟩)
    · simp only [Finset.mem_filter, Finset.mem_univ, true_and] at hc ⊢
      exact hc.trans h
    · simpa using h
    · simp

theorem below_eq (x : Fin N → EReal) (a b : Fin N) (h : below x a = below x b) : x a = x b := by
  rcases lt_trichotomy (x a) (x b) with h1 | h1 | h1
  · exact absurd ((below_lt x b a).2 h1) (by omega)
  · exact h1
  · exact absurd ((below_lt x a b).2 h1) (by omega)

/-- The first places of the stable descending sort are ranked. -/
theorem ranked_sort (x : Fin N → EReal) (before : Fin N → Fin N → Bool) (hb : ∀ a b, before a b = decide (x b < x a)) (hk : k ≤ N) :
    Ranked x fun r : Fin k => sortedFrom before (r.castLE hk) := by
  have hbe : before = fun a b => decide (below x b < below x a) := by
    funext a b; rw [hb]; exact decide_eq_decide.2 (below_lt x a b).symm
  have hp := PlanTiles.pairwise_stableSort_lex (below x) (· < ·) (List.finRange N) (List.pairwise_lt_finRange N)
  rw [← hbe] at hp
  have hlex : ∀ i j : Fin N, i < j → PlanTiles.Lex (below x) (· < ·) (sortedFrom before i) (sortedFrom before j) := fun i j hij =>
    List.pairwise_iff_getElem.1 hp _ _ (by rw [← sortPositions, length_sortPositions]; exact i.isLt)
      (by rw [← sortPositions, length_sortPositions]; exact j.isLt) hij
  refine ⟨fun s r hsr he => ?_, fun r q hq => ?_⟩
  · have := sortedFrom_injective before he
    have := congrArg Fin.val this
    simp only [Fin.val_castLE] at this
    exact absurd (Fin.ext this) (ne_of_lt hsr)
  · obtain ⟨j, rfl⟩ := sortedFrom_surjective before q
    rcases lt_trichotomy j (r.castLE hk) with h | h | h
    · exact absurd rfl (hq ⟨j.val, lt_trans h r.isLt⟩ h)
    · exact Or.inl (by rw [h])
    · rcases hlex _ _ h with h1 | ⟨h1, h2⟩
      · exact Or.inr (Or.inl ((below_lt _ _ _).1 h1))
      · exact Or.inr (Or.inr ⟨below_eq _ _ _ h1.symm, h2⟩)

/-! ## Taking the maximum again and again -/

/-- `x` with the first `r` places of `σ` overwritten with -∞. -/
def after (x : Fin N → EReal) (σ : Fin k → Fin N) (r : ℕ) (n : Fin N) : EReal :=
  open Classical in if ∃ s : Fin k, s.val < r ∧ σ s = n then ⊥ else x n

theorem after_zero (x : Fin N → EReal) (σ : Fin k → Fin N) : after x σ 0 = x := by
  funext n; unfold after; rw [if_neg]; rintro ⟨s, h, -⟩; omega

theorem after_succ (x : Fin N → EReal) (σ : Fin k → Fin N) (r : Fin k) (n : Fin N) :
    after x σ (r.val + 1) n = if n = σ r then ⊥ else after x σ r.val n := by
  unfold after
  by_cases h : n = σ r
  · rw [if_pos h, if_pos ⟨r, Nat.lt_succ_self _, h.symm⟩]
  · rw [if_neg h]
    refine if_congr ⟨?_, ?_⟩ rfl rfl
    · rintro ⟨s, hs, rfl⟩
      rcases Nat.lt_succ_iff_lt_or_eq.1 hs with h1 | h1
      · exact ⟨s, h1, rfl⟩
      · exact absurd (by rw [Fin.ext h1]) h
    · rintro ⟨s, hs, rfl⟩
      exact ⟨s, Nat.lt_succ_of_lt hs, rfl⟩

section
variable {x : Fin N → EReal} {σ : Fin k → Fin N} (h : Ranked x σ) (r : Fin k)
include h

theorem after_self : after x σ r.val (σ r) = x (σ r) := by
  unfold after; rw [if_neg]
  rintro ⟨s, hs, he⟩; exact h.ne s r hs he

theorem after_le (n : Fin N) : after x σ r.val n ≤ x (σ r) := by
  unfold after
  split_ifs with hn
  · exact bot_le
  · exact h.le r n fun s hs he => hn ⟨s, hs, he⟩

theorem after_first (hne : x (σ r) ≠ ⊥) (n : Fin N) (hn : after x σ r.val n = x (σ r)) : σ r ≤ n := by
  unfold after at hn
  split_ifs at hn with hs
  · exact absurd hn.symm hne
  · rcases h.first r n fun s h1 h2 => hs ⟨s, h1, h2⟩ with h1 | h1 | ⟨-, h1⟩
    · exact h1.ge
    · exact absurd hn (ne_of_lt h1)
    · exact h1.le
end

/-! ## A fold that ends at one member -/

theorem foldl_eq {ι α : Type} (f : α → α → α) (g : ι → α) (P : α → Prop) (e : α) (p : ι) (l : List ι) (hp : p ∈ l)
    (hstep : ∀ y i, P y → P (f y (g i))) (hreach : ∀ y, P y → f y (g p) = e) (hkeep : ∀ i, f e (g i) = e) (a : α) (ha : P a) :
    l.foldl (fun acc i => f acc (g i)) a = e := by
  have hk : ∀ l : List ι, l.foldl (fun acc i => f acc (g i)) e = e := fun l => by
    induction l with
    | nil => rfl
    | cons i l ih => rw [List.foldl_cons, hkeep, ih]
  induction l generalizing a with
  | nil => exact absurd hp (by simp)
  | cons i l ih =>
    rw [List.foldl_cons]
    rcases List.mem_cons.1 hp with rfl | hp'
    · rw [hreach a ha, hk]
    · exact ih hp' _ (hstep a i ha)

theorem foldl_max {ι : Type} (g : ι → EReal) (p : ι) (l : List ι) (hp : p ∈ l) (hle : ∀ i, g i ≤ g p) :
    l.foldl (fun acc i => max acc (g i)) ⊥ = g p :=
  foldl_eq max g (· ≤ g p) (g p) p l hp (fun _ i hy => max_le hy (hle i)) (fun _ hy => max_eq_right hy)
    (fun i => max_eq_left (hle i)) ⊥ bot_le

theorem foldl_minsi {ι : Type} (g : ι → BitVec 32) (p : ι) (l : List ι) (hp : p ∈ l) (hle : ∀ i, (g p).toInt ≤ (g i).toInt)
    (a : BitVec 32) (ha : (g p).toInt ≤ a.toInt) : l.foldl (fun acc i => IntOp.minsi acc (g i)) a = g p := by
  refine foldl_eq IntOp.minsi g (fun y => (g p).toInt ≤ y.toInt) (g p) p l hp (fun y i hy => ?_) (fun y hy => ?_) (fun i => ?_) a ha
  · unfold IntOp.minsi; split
    · exact hy
    · exact hle i
  · unfold IntOp.minsi; rw [if_neg]; rw [BitVec.slt_iff_toInt_lt]; omega
  · unfold IntOp.minsi; split
    · rfl
    · next h => rw [BitVec.slt_iff_toInt_lt] at h; exact BitVec.eq_of_toInt_eq (by have := hle i; omega)

theorem foldl_maxsi {ι : Type} (g : ι → BitVec 32) (p : ι) (l : List ι) (hp : p ∈ l) (hle : ∀ i, (g i).toInt ≤ (g p).toInt)
    (a : BitVec 32) (ha : a.toInt ≤ (g p).toInt) : l.foldl (fun acc i => IntOp.maxsi acc (g i)) a = g p := by
  refine foldl_eq IntOp.maxsi g (fun y => y.toInt ≤ (g p).toInt) (g p) p l hp (fun y i hy => ?_) (fun y hy => ?_) (fun i => ?_) a ha
  · unfold IntOp.maxsi; split
    · exact hy
    · exact hle i
  · unfold IntOp.maxsi; split
    · next h => rw [BitVec.slt_iff_toInt_lt] at h; omega
    · rfl
  · unfold IntOp.maxsi; split
    · rfl
    · next h => rw [BitVec.slt_iff_toInt_lt] at h; exact BitVec.eq_of_toInt_eq (by have := hle i; omega)

end Cert.Route

end
-- ==== Proof.RouteMerge.lean ====
/-
  Program 5, the merge as mathematics. Two descending lists of sixteen values make 256 sums, and the sum of places `a`
  and `b` is among the sixteen greatest only if `(a + 1) (b + 1) ≤ 16`: every sum of an earlier or equal place in each
  list comes before it. The kernel's eighty candidates hold all the sums of that kind, in the same order, and -∞ in the
  rows left over (`merge`).
-/
module

public import proofs.«01_k».proof.Proof.RoutePicks

@[expose] public section

noncomputable section

namespace Cert.Route

/-- The place among the 256 sums that a candidate row stands for. -/
def emb (n : Fin 80) : Fin 256 :=
  if h : n.val < 16 then ⟨n.val, by omega⟩
  else if h2 : n.val < 72 then ⟨16 * ((n.val - 16) / 8 + 1) + (n.val - 16) % 8, by omega⟩
  else ⟨16 * (n.val - 64), by omega⟩

/-- The candidate rows that hold a sum. -/
def valid (n : Fin 80) : Bool :=
  decide (n.val < 16) || decide (72 ≤ n.val) || decide ((n.val - 16) % 8 < 16 / ((n.val - 16) / 8 + 2))

theorem emb_lt : ∀ n m : Fin 80, emb n < emb m ↔ n < m := by decide +kernel

theorem emb_inj {n m : Fin 80} (h : emb n = emb m) : n = m := by
  rcases lt_trichotomy n m with h1 | h1 | h1
  · exact absurd h (ne_of_lt ((emb_lt n m).2 h1))
  · exact h1
  · exact absurd h.symm (ne_of_lt ((emb_lt m n).2 h1))

theorem emb_onto : ∀ u : Fin 256, (u.val / 16 + 1) * (u.val % 16 + 1) ≤ 16 → ∃ n : Fin 80, valid n = true ∧ emb n = u := by
  decide +kernel

/-- The place of the sum of places `a` and `b`. -/
def place (a b : Fin 16) : Fin 256 := ⟨16 * a.val + b.val, by omega⟩

def left (u : Fin 256) : Fin 16 := ⟨u.val / 16, by omega⟩
def right (u : Fin 256) : Fin 16 := ⟨u.val % 16, by omega⟩

section
variable (v w : Fin 16 → EReal) (hv : ∀ a b, a ≤ b → v b ≤ v a) (hw : ∀ a b, a ≤ b → w b ≤ w a)
  (τ : Fin 16 → Fin 256) (h : Ranked (fun u => v (left u) + w (right u)) τ)
include hv hw h

/-- The sums that come before one of the sixteen greatest in both lists are among them too. -/
theorem box_picked (r : Fin 16) (u : Fin 256) (hl : left u ≤ left (τ r)) (hr : right u ≤ right (τ r)) : ∃ s, τ s = u := by
  by_contra hn
  have hle : v (left (τ r)) + w (right (τ r)) ≤ v (left u) + w (right u) := add_le_add (hv _ _ hl) (hw _ _ hr)
  have hun : u ≤ τ r := by
    simp only [left, right, Fin.le_def] at hl hr ⊢
    omega
  rcases h.first r u fun s _ hs => hn ⟨s, hs⟩ with h1 | h1 | ⟨-, h1⟩
  · exact hn ⟨r, h1.symm⟩
  · exact absurd h1 (not_lt.2 hle)
  · exact absurd h1 (not_lt.2 hun)

theorem picked_small (r : Fin 16) : ((τ r).val / 16 + 1) * ((τ r).val % 16 + 1) ≤ 16 := by
  have key : ∀ p : Fin ((τ r).val / 16 + 1) × Fin ((τ r).val % 16 + 1), ∃ s : Fin 16, (τ s).val = 16 * p.1.val + p.2.val := fun ⟨a, b⟩ => by
    have ha := a.isLt
    have hb := b.isLt
    obtain ⟨s, hs⟩ := box_picked v w hv hw τ h r ⟨16 * a.val + b.val, by omega⟩ (by simp only [left, Fin.le_def]; omega)
      (by simp only [right, Fin.le_def]; omega)
    exact ⟨s, by rw [hs]⟩
  choose f hf using key
  have hinj : Function.Injective f := fun p q hpq => by
    have e := hf p
    rw [hpq, hf q] at e
    have h1 := p.2.isLt
    have h2 := q.2.isLt
    exact Prod.ext (Fin.ext (by omega)) (Fin.ext (by omega))
  have := Fintype.card_le_of_injective f hinj
  simpa using this

/-- The sixteen greatest of the 256 sums are the sixteen greatest of the eighty candidates. -/
theorem merge (hvne : ∀ u : Fin 256, v (left u) + w (right u) ≠ ⊥) :
    ∃ π : Fin 16 → Fin 80, (∀ r, emb (π r) = τ r ∧ valid (π r) = true)
      ∧ Ranked (fun n => if valid n = true then v (left (emb n)) + w (right (emb n)) else ⊥) π := by
  choose π hπ using fun r => emb_onto (τ r) (picked_small v w hv hw τ h r)
  refine ⟨π, fun r => ⟨(hπ r).2, (hπ r).1⟩, fun s r hsr he => h.ne s r hsr (by rw [← (hπ s).2, ← (hπ r).2, he]), fun r q hq => ?_⟩
  rw [if_pos (hπ r).1, (hπ r).2]
  by_cases hv : valid q = true
  · rw [if_pos hv]
    rcases h.first r (emb q) fun s hs he => hq s hs (emb_inj ((hπ s).2.trans he)) with h1 | h1 | ⟨h1, h2⟩
    · exact Or.inl (emb_inj (h1.trans (hπ r).2.symm))
    · exact Or.inr (Or.inl h1)
    · exact Or.inr (Or.inr ⟨h1, (emb_lt _ _).1 (by rw [(hπ r).2]; exact h2)⟩)
  · rw [if_neg hv]
    exact Or.inr (Or.inl (bot_lt_iff_ne_bot.2 (hvne _)))
end

end Cert.Route

end
-- ==== Proof.RouteSpec.lean ====
/-
  Program 5, the arrays: for every token and head, the scores of its two query halves against two sets of 128 keys, the
  sixteen best of each, the sixteen best of their 256 sums, and from these the experts' table rows, their halves of a row
  and their softmax weights.
-/
module

public import proofs.«01_k».proof.Kernel5Ideal
public import proofs.«01_k».proof.Proof.RouteMerge
public import Idealize.ShloMosaic.Lib.Pipeline.ValueKit
public import Idealize.ShloMosaic.Lib.Pointwise

@[expose] public section

noncomputable section

open Idealize.ShloMosaic Cert.Kernel5Ideal

namespace Cert.Route

/-- The score of key `n` of head `h`, half `p`, for token `t`. -/
def score (Q : S32768x2048.Idx → EReal) (K : S1x8x2x128x128.Idx → EReal) (t : Fin 32768) (h : Fin 8) (p : Fin 2) (n : Fin 128) : EReal :=
  ∑ c : Fin 128, K (ix5 0 h p n c) * Q (ix2 t (⟨256 * h.val + 128 * p.val + c.val, by omega⟩ : Fin 2048))

/-- The places of the sixteen greatest values, greatest first, an earlier place before a later one of the same value. -/
def best {N : ℕ} (x : Fin N → EReal) (hN : 16 ≤ N) (r : Fin 16) : Fin N := sortedFrom (fun a b => decide (x b < x a)) (r.castLE hN)

theorem best_ranked {N : ℕ} (x : Fin N → EReal) (hN : 16 ≤ N) : Ranked x (best x hN) := ranked_sort x _ (fun _ _ => rfl) hN

section
variable (f g : Fin 128 → EReal)

/-- The `r`-th greatest score. -/
def kth (r : Fin 16) : EReal := f (best f (by omega) r)

/-- The sums of the two lists, place `16 a + b` the sum of places `a` and `b`. -/
def pairs (u : Fin 256) : EReal := kth f (left u) + kth g (right u)

/-- The places of the sixteen greatest sums. -/
def pick (r : Fin 16) : Fin 256 := best (pairs f g) (by omega) r

/-- The `r`-th greatest sum. -/
def picked (r : Fin 16) : EReal := pairs f g (pick f g r)

/-- The number of the expert whose sum is the `r`-th greatest. -/
def expert (r : Fin 16) : ℕ :=
  (best f (by omega) (left (pick f g r))).val * 128 + (best g (by omega) (right (pick f g r))).val

theorem expert_lt (r : Fin 16) : expert f g r < 16384 := by
  unfold expert
  omega

/-- The row of the table at which the expert's pair begins. -/
def rowOf (r : Fin 16) : BitVec 32 := BitVec.ofNat 32 (expert f g r / 2 * 8)

/-- The expert's half of a row. -/
def halfOf (r : Fin 16) : EReal := (((expert f g r % 2 : ℕ) : ℝ) : EReal)

/-- The softmax weight of the expert. -/
def weightOf (r : Fin 16) : EReal :=
  Ideal.div (Ideal.exp (picked f g r - picked f g 0)) (∑ q : Fin 16, Ideal.exp (picked f g q - picked f g 0))

theorem picked_le (r : Fin 16) : picked f g r ≤ picked f g 0 := (best_ranked (pairs f g) _).antitone (Fin.zero_le r)

/-- The selection of the two lists of a column, when no score is -∞: the candidate rows that hold the sixteen sums. -/
theorem candidates (hf : ∀ n, f n ≠ ⊥) (hg : ∀ n, g n ≠ ⊥) :
    ∃ π : Fin 16 → Fin 80, (∀ r, emb (π r) = pick f g r ∧ valid (π r) = true)
      ∧ Ranked (fun n => if valid n = true then kth f (left (emb n)) + kth g (right (emb n)) else ⊥) π :=
  merge (kth f) (kth g) (fun _ _ h => (best_ranked f _).antitone h) (fun _ _ h => (best_ranked g _).antitone h)
    (pick f g) (best_ranked (pairs f g) _) fun u => by
      rw [Ne, EReal.add_eq_bot_iff, not_or]
      exact ⟨hf _, hg _⟩
end

variable (Q : S32768x2048.Idx → EReal) (K : S1x8x2x128x128.Idx → EReal)

/-- The table rows of the experts, by head, rank and token. -/
def rowsOut (i : S8x16x32768.Idx) : BitVec 32 := rowOf (score Q K (i 2) (i 0) 0) (score Q K (i 2) (i 0) 1) (i 1)

/-- Their weights. -/
def weightsOut (i : S8x16x32768.Idx) : EReal := weightOf (score Q K (i 2) (i 0) 0) (score Q K (i 2) (i 0) 1) (i 1)

/-- Their halves of a row. -/
def halvesOut (i : S8x16x32768.Idx) : EReal := halfOf (score Q K (i 2) (i 0) 0) (score Q K (i 2) (i 0) 1) (i 1)

end Cert.Route

end
-- ==== Proof.RoutePre.lean ====
/-
  Program 5, the precondition in plain terms: every query and every key entry is a real number, so no score is -∞.
-/
module

public import proofs.«01_k».proof.Proof.RouteSpec
public import proofs.«01_k».proof.Proof.PeerPre
public import Idealize.ShloMosaic.Lib.ReduceAll

@[expose] public section

set_option maxRecDepth 16384

noncomputable section

open Idealize.ShloMosaic Idealize.ShloMosaic.TcCoe Idealize.SL.Sem

namespace Cert.Route.Pre

open Cert.Route

instance : Subsingleton Cert.Pre_queries_and_keys_finite.S_.Idx := ⟨fun a b => funext fun k => k.elim0⟩

/-- What the precondition says of the queries and of the keys. -/
theorem reals [Cert.Pre_queries_and_keys_finite.Facts] (Q : FVec Ideal Cert.Pre_queries_and_keys_finite.S32768x2048 .f32)
    (K : FVec Ideal Cert.Pre_queries_and_keys_finite.S1x8x2x128x128 .f32)
    (H : Cert.Pre_queries_and_keys_finite.fn Q K = fun _ => 1#1) :
    (∀ (t : Fin 32768) (d : Fin 2048), ∃ u : ℝ, Q (ix2 t d) = (u : EReal))
      ∧ ∀ (h : Fin 8) (p : Fin 2) (n c : Fin 128), ∃ u : ℝ, K (ix5 0 h p n c) = (u : EReal) := by
  have both (x y : BitVec 1) (h : IntOp.andi x y = 1#1) : x = 1#1 ∧ y = 1#1 := by revert x y; decide
  have k := both _ _ (congrFun H fun k => k.elim0)
  exact ⟨fun t d => Cert.Peer.Pre.real_of _ (Host.reduce_andi_all _ _ _ _ (fun k => k.elim0) k.1 (ix2 t d)),
    fun h p n c => Cert.Peer.Pre.real_of _ (Host.reduce_andi_all _ _ _ _ (fun k => k.elim0) k.2 (ix5 0 h p n c))⟩

/-- So a score, a sum of products of real numbers, is not -∞. -/
theorem score_ne_bot [Cert.Pre_queries_and_keys_finite.Facts] (Q : FVec Ideal Cert.Pre_queries_and_keys_finite.S32768x2048 .f32)
    (K : FVec Ideal Cert.Pre_queries_and_keys_finite.S1x8x2x128x128 .f32)
    (H : Cert.Pre_queries_and_keys_finite.fn Q K = fun _ => 1#1) (t : Fin 32768) (h : Fin 8) (p : Fin 2) (n : Fin 128) :
    score Q K t h p n ≠ ⊥ := by
  obtain ⟨hQ, hK⟩ := reals Q K H
  have hs : ∃ u : ℝ, score Q K t h p n = (u : EReal) := by
    unfold score
    refine Finset.sum_induction _ (fun x : EReal => ∃ u : ℝ, x = (u : EReal)) ?_ ⟨0, EReal.coe_zero.symm⟩ fun c _ => ?_
    · rintro a b ⟨u, hu⟩ ⟨v, hv⟩
      exact ⟨u + v, by rw [hu, hv, EReal.coe_add]⟩
    · obtain ⟨u, hu⟩ := hK h p n c
      obtain ⟨v, hv⟩ := hQ t ⟨256 * h.val + 128 * p.val + c.val, by omega⟩
      exact ⟨u * v, by rw [hu, hv, EReal.coe_mul]⟩
  obtain ⟨u, hu⟩ := hs
  rw [hu]
  exact EReal.coe_ne_bot u

end Cert.Route.Pre

end
-- ==== Proof.RouteRounds.lean ====
/-
  Program 5, one round of the selection by repeated maximum. On a block of `N` rows by 256 columns a round takes, column
  by column, the greatest value (`colMax`), the first row that holds it (`colRow`), and overwrites that row's entry
  with -∞ (`rest`). The program's text of a round is each of these by definition.
-/
module

public import proofs.«01_k».proof.Proof.Gen.Kernel5Ideal.Value
public import Idealize.ShloMosaic.Lib.Pipeline.ReadBack
public import Idealize.ShloMosaic.Lib.Pointwise
public import Idealize.ShloMosaic.Lib.Tactic

@[expose] public section

noncomputable section

open Idealize.ShloMosaic Idealize.ShloMosaic.TcCoe Idealize.SL.Sem

namespace Cert.Kernel5Ideal.Route

open Cert.Kernel5Ideal Cert.Kernel5Ideal.Gen

/-- A block of `N` rows by 256 columns. -/
abbrev sh (N : ℕ) : Shape := ⟨2, ![N, 256]⟩

/-- What a round's operations ask of the block's shape. -/
structure Sides (N : ℕ) : Prop where
  red : (sh N).Reduces [0] S256
  bc : S1x256.Broadcasts (sh N)
  io : (sh N).Iotas .tc 32 [0]

theorem sides128 : Sides 128 := ⟨reduces_S128x256_S256, broadcasts_S1x256_S128x256, iota_S128x256_d0_w32⟩
theorem sides80 : Sides 80 := ⟨reduces_S80x256_S256, broadcasts_S1x256_S80x256, iota_S80x256_d0_w32⟩

variable {F : FTy → Type} [FloatOps F] {N : ℕ} (hs : Sides N)

/-- The greatest value of each column. -/
def colMax (s : FVec F (sh N) .f32) : FVec F S1x256 .f32 :=
  shapeCast S1x256 (multiReduction .maximumf [0] S256 s 0xFF800000#32 hs.red (.inl rfl) rfl) shapeCasts_S256_S1x256

/-- The first row of each column that holds its greatest value. -/
def colRow (s : FVec F (sh N) .f32) : IVec S1x256 32 :=
  shapeCast S1x256 (multiReductionI .minsi [0] S256
    (select (cmpf .oeq s (broadcastTo (sh N) (colMax hs s) hs.bc)) (iota .tc (sh N) 32 [0] hs.io)
      (broadcast (sh N) (BitVec.ofNat 32 N))) 2147483647#32 hs.red rfl) shapeCasts_S256_S1x256

/-- The entries picked in this round. -/
def hits (s : FVec F (sh N) .f32) : IVec (sh N) 1 :=
  cmpi .eq (iota .tc (sh N) 32 [0] hs.io) (broadcastTo (sh N) (colRow hs s) hs.bc)

/-- The block after the round. -/
def rest (s : FVec F (sh N) .f32) : FVec F (sh N) .f32 :=
  select (hits hs s) (broadcast (sh N) (Scalar.ofBits .f32 0xFF800000#32)) s

/-- The entry of `d` at each column's picked row. -/
def colId (d : IVec (sh N) 32) (s : FVec F (sh N) .f32) : IVec S1x256 32 :=
  shapeCast S1x256 (multiReductionI .maxsi [0] S256
    (select (hits hs s) d (broadcast (sh N) 4294967295#32)) 2147483648#32 hs.red rfl) shapeCasts_S256_S1x256

/-- The block before round `r`. -/
def block (s : FVec F (sh N) .f32) : ℕ → FVec F (sh N) .f32
  | 0 => s
  | r + 1 => rest hs (block s r)

theorem block_zero (s : FVec F (sh N) .f32) : s = block hs s 0 := rfl
theorem rest_block (s : FVec F (sh N) .f32) (r : ℕ) : rest hs (block hs s r) = block hs s (r + 1) := rfl

/-! ## The program's text

The conditions of the shapes are variables, so that the lemmas meet whichever proofs the text cites. -/

section
variable (s : FVec F (sh N) .f32) (d : IVec (sh N) 32)

theorem fold_max (hr) (hc) (hφ) (hacc : (0xFF800000#32 : BitVec 32) = 0xFF800000#32) :
    shapeCast S1x256 (multiReduction .maximumf [0] S256 s 0xFF800000#32 hr hφ hacc) hc = colMax hs s := rfl

theorem fold_row (hb) (hi) (hr) (hc) (hacc : (2147483647#32 : BitVec 32) = 2147483647#32) (n : BitVec 32) (hn : n = BitVec.ofNat 32 N) :
    shapeCast S1x256 (multiReductionI .minsi [0] S256
      (select (cmpf .oeq s (broadcastTo (sh N) (colMax hs s) hb)) (iota .tc (sh N) 32 [0] hi)
        (broadcast (sh N) n)) 2147483647#32 hr hacc) hc = colRow hs s := by subst hn; rfl

theorem fold_hits (hb) (hi) :
    cmpi .eq (iota .tc (sh N) 32 [0] hi) (broadcastTo (sh N) (colRow hs s) hb) = hits hs s := rfl

theorem fold_rest :
    select (hits hs s) (broadcast (sh N) (FloatOps.ofBits (F := F) .f32 0xFF800000#32)) s = rest hs s := rfl

theorem fold_id (hr) (hc) (hacc : (2147483648#32 : BitVec 32) = 2147483648#32) :
    shapeCast S1x256 (multiReductionI .maxsi [0] S256
      (select (hits hs s) d (broadcast (sh N) 4294967295#32)) 2147483648#32 hr hacc) hc = colId hs d s := rfl
end

/-! ## Sixteen rows stored one by one, read as a block -/

/-- The block whose row `r` is `w r`. -/
def stack {α : Type} (w : Fin 16 → S1x256.Idx → α) : S16x256.Idx → α :=
  fun i => w (i 0) (ix2 (0 : Fin 1) (i 1 : Fin 256))

section
variable {sig : RefSig} {κ : Kind} {sp : Space} {e : EltTy} {Val : EltTy → Type} [∀ e, Nonempty (Val e)]

/-- Pieces that are rows of one stack, and tile the block, leave the stack. -/
theorem canon_stack (W : Fin 16 → S1x256.Idx → Val e) (L : List (View.Piece Val S16x256 e))
    (hp : View.PiecesOf (stack W) L) (hc : View.Piece.tiledL L S1x256.size = true) (j : S16x256.Idx) :
    View.canon L j = stack W j := by
  have h := View.canon_append_of_piecesOf (stack W) [] L hp j (View.cover_of_tiledL L S1x256.size hc j)
  rwa [List.append_nil] at h

/-- Sixteen stores of one row each, read back whole. -/
theorem readCov_rows (v : View sig κ sp S16x256 e)
    (w0 w1 w2 w3 w4 w5 w6 w7 w8 w9 w10 w11 w12 w13 w14 w15 : S1x256.Idx → Val e)
    {off : Fin S16x256.rank → ℕ} (inb : ∀ a, off a + S16x256.size a ≤ S16x256.size a) (hoff : off = fun _ => 0) :
    v.readCov [(⟨Rect.unit ![15, 0] S1x256.size inb_S16x256_S1x256_15_0, w15⟩ : View.Piece Val S16x256 e),
      ⟨Rect.unit ![14, 0] S1x256.size inb_S16x256_S1x256_14_0, w14⟩, ⟨Rect.unit ![13, 0] S1x256.size inb_S16x256_S1x256_13_0, w13⟩,
      ⟨Rect.unit ![12, 0] S1x256.size inb_S16x256_S1x256_12_0, w12⟩, ⟨Rect.unit ![11, 0] S1x256.size inb_S16x256_S1x256_11_0, w11⟩,
      ⟨Rect.unit ![10, 0] S1x256.size inb_S16x256_S1x256_10_0, w10⟩, ⟨Rect.unit ![9, 0] S1x256.size inb_S16x256_S1x256_9_0, w9⟩,
      ⟨Rect.unit ![8, 0] S1x256.size inb_S16x256_S1x256_8_0, w8⟩, ⟨Rect.unit ![7, 0] S1x256.size inb_S16x256_S1x256_7_0, w7⟩,
      ⟨Rect.unit ![6, 0] S1x256.size inb_S16x256_S1x256_6_0, w6⟩, ⟨Rect.unit ![5, 0] S1x256.size inb_S16x256_S1x256_5_0, w5⟩,
      ⟨Rect.unit ![4, 0] S1x256.size inb_S16x256_S1x256_4_0, w4⟩, ⟨Rect.unit ![3, 0] S1x256.size inb_S16x256_S1x256_3_0, w3⟩,
      ⟨Rect.unit ![2, 0] S1x256.size inb_S16x256_S1x256_2_0, w2⟩, ⟨Rect.unit ![1, 0] S1x256.size inb_S16x256_S1x256_1_0, w1⟩,
      ⟨Rect.unit ![0, 0] S1x256.size inb_S16x256_S1x256_0_0, w0⟩]
      (Rect.unit off S16x256.size inb).toLoadRect
      = stack ![w0, w1, w2, w3, w4, w5, w6, w7, w8, w9, w10, w11, w12, w13, w14, w15] := by
  have key : ∀ (k : Fin 16) (w : S1x256.Idx → Val e) (inb' : ∀ a, (![k.val, 0] : Fin 2 → ℕ) a + S1x256.size a ≤ S16x256.size a)
      (W : Fin 16 → S1x256.Idx → Val e), W k = w →
      ∀ x : S1x256.Idx, w x = stack W ((Rect.unit (s := S16x256) ![k.val, 0] S1x256.size inb').emb x) := by
    intro k w inb' W hW x
    have e0 : ((Rect.unit (s := S16x256) ![k.val, 0] S1x256.size inb').emb x) 0 = k :=
      Fin.ext (by show k.val + 1 * (x 0).val = k.val; have : (x 0).val < 1 := (x 0).isLt; omega)
    have e1 : ((Rect.unit (s := S16x256) ![k.val, 0] S1x256.size inb').emb x) 1 = x 1 :=
      Fin.ext (by show 0 + 1 * (x 1).val = (x 1).val; omega)
    unfold stack
    rw [e0, e1, hW]
    congr 1
    funext a
    refine Fin.ext ?_
    match a with
    | ⟨0, _⟩ => have : (x 0).val < 1 := (x 0).isLt; show (x 0).val = 0; omega
    | ⟨1, _⟩ => rfl
  rw [View.readCov_eq_canon']
  funext j
  have hj : (Rect.unit (s := S16x256) off S16x256.size inb).toLoadRect.idx j = j := by
    subst hoff
    funext a
    exact Fin.ext (by show 0 + 1 * (j a).val = (j a).val; omega)
  rw [hj]
  exact canon_stack _ _ (by exact ⟨key 15 _ inb_S16x256_S1x256_15_0 _ rfl, key 14 _ inb_S16x256_S1x256_14_0 _ rfl, key 13 _ inb_S16x256_S1x256_13_0 _ rfl, key 12 _ inb_S16x256_S1x256_12_0 _ rfl, key 11 _ inb_S16x256_S1x256_11_0 _ rfl,
    key 10 _ inb_S16x256_S1x256_10_0 _ rfl, key 9 _ inb_S16x256_S1x256_9_0 _ rfl, key 8 _ inb_S16x256_S1x256_8_0 _ rfl, key 7 _ inb_S16x256_S1x256_7_0 _ rfl, key 6 _ inb_S16x256_S1x256_6_0 _ rfl, key 5 _ inb_S16x256_S1x256_5_0 _ rfl, key 4 _ inb_S16x256_S1x256_4_0 _ rfl,
    key 3 _ inb_S16x256_S1x256_3_0 _ rfl, key 2 _ inb_S16x256_S1x256_2_0 _ rfl, key 1 _ inb_S16x256_S1x256_1_0 _ rfl, key 0 _ inb_S16x256_S1x256_0_0 _ rfl, trivial⟩) (by sl_kernel_rfl) j
end

/-! ## The sixteen picks of a block -/

/-- The values picked, in order. -/
def tops (s : FVec F (sh N) .f32) : FVec F S16x256 .f32 := stack fun r => colMax hs (block hs s r)

/-- The rows picked, in order. -/
def rows (s : FVec F (sh N) .f32) : IVec S16x256 32 := stack fun r => colRow hs (block hs s r)

/-- The entries of `d` picked, in order. -/
def ids (d : IVec (sh N) 32) (s : FVec F (sh N) .f32) : IVec S16x256 32 := stack fun r => colId hs d (block hs s r)

theorem fold_tops (s : FVec F (sh N) .f32) :
    stack ![colMax hs s,
      colMax hs (rest hs s),
      colMax hs (rest hs (rest hs s)),
      colMax hs (rest hs (rest hs (rest hs s))),
      colMax hs (rest hs (rest hs (rest hs (rest hs s)))),
      colMax hs (rest hs (rest hs (rest hs (rest hs (rest hs s))))),
      colMax hs (rest hs (rest hs (rest hs (rest hs (rest hs (rest hs s)))))),
      colMax hs (rest hs (rest hs (rest hs (rest hs (rest hs (rest hs (rest hs s))))))),
      colMax hs (rest hs (rest hs (rest hs (rest hs (rest hs (rest hs (rest hs (rest hs s)))))))),
      colMax hs (rest hs (rest hs (rest hs (rest hs (rest hs (rest hs (rest hs (rest hs (rest hs s))))))))),
      colMax hs (rest hs (rest hs (rest hs (rest hs (rest hs (rest hs (rest hs (rest hs (rest hs (rest hs s)))))))))),
      colMax hs (rest hs (rest hs (rest hs (rest hs (rest hs (rest hs (rest hs (rest hs (rest hs (rest hs (rest hs s))))))))))),
      colMax hs (rest hs (rest hs (rest hs (rest hs (rest hs (rest hs (rest hs (rest hs (rest hs (rest hs (rest hs (rest hs s)))))))))))),
      colMax hs (rest hs (rest hs (rest hs (rest hs (rest hs (rest hs (rest hs (rest hs (rest hs (rest hs (rest hs (rest hs (rest hs s))))))))))))),
      colMax hs (rest hs (rest hs (rest hs (rest hs (rest hs (rest hs (rest hs (rest hs (rest hs (rest hs (rest hs (rest hs (rest hs (rest hs s)))))))))))))),
      colMax hs (rest hs (rest hs (rest hs (rest hs (rest hs (rest hs (rest hs (rest hs (rest hs (rest hs (rest hs (rest hs (rest hs (rest hs (rest hs s)))))))))))))))] = tops hs s :=
  congrArg stack (funext fun r => by fin_cases r <;> rfl)

theorem fold_rows (s : FVec F (sh N) .f32) :
    stack ![colRow hs s,
      colRow hs (rest hs s),
      colRow hs (rest hs (rest hs s)),
      colRow hs (rest hs (rest hs (rest hs s))),
      colRow hs (rest hs (rest hs (rest hs (rest hs s)))),
      colRow hs (rest hs (rest hs (rest hs (rest hs (rest hs s))))),
      colRow hs (rest hs (rest hs (rest hs (rest hs (rest hs (rest hs s)))))),
      colRow hs (rest hs (rest hs (rest hs (rest hs (rest hs (rest hs (rest hs s))))))),
      colRow hs (rest hs (rest hs (rest hs (rest hs (rest hs (rest hs (rest hs (rest hs s)))))))),
      colRow hs (rest hs (rest hs (rest hs (rest hs (rest hs (rest hs (rest hs (rest hs (rest hs s))))))))),
      colRow hs (rest hs (rest hs (rest hs (rest hs (rest hs (rest hs (rest hs (rest hs (rest hs (rest hs s)))))))))),
      colRow hs (rest hs (rest hs (rest hs (rest hs (rest hs (rest hs (rest hs (rest hs (rest hs (rest hs (rest hs s))))))))))),
      colRow hs (rest hs (rest hs (rest hs (rest hs (rest hs (rest hs (rest hs (rest hs (rest hs (rest hs (rest hs (rest hs s)))))))))))),
      colRow hs (rest hs (rest hs (rest hs (rest hs (rest hs (rest hs (rest hs (rest hs (rest hs (rest hs (rest hs (rest hs (rest hs s))))))))))))),
      colRow hs (rest hs (rest hs (rest hs (rest hs (rest hs (rest hs (rest hs (rest hs (rest hs (rest hs (rest hs (rest hs (rest hs (rest hs s)))))))))))))),
      colRow hs (rest hs (rest hs (rest hs (rest hs (rest hs (rest hs (rest hs (rest hs (rest hs (rest hs (rest hs (rest hs (rest hs (rest hs (rest hs s)))))))))))))))] = rows hs s :=
  congrArg stack (funext fun r => by fin_cases r <;> rfl)

theorem fold_ids (d : IVec (sh N) 32) (s : FVec F (sh N) .f32) :
    stack ![colId hs d s,
      colId hs d (rest hs s),
      colId hs d (rest hs (rest hs s)),
      colId hs d (rest hs (rest hs (rest hs s))),
      colId hs d (rest hs (rest hs (rest hs (rest hs s)))),
      colId hs d (rest hs (rest hs (rest hs (rest hs (rest hs s))))),
      colId hs d (rest hs (rest hs (rest hs (rest hs (rest hs (rest hs s)))))),
      colId hs d (rest hs (rest hs (rest hs (rest hs (rest hs (rest hs (rest hs s))))))),
      colId hs d (rest hs (rest hs (rest hs (rest hs (rest hs (rest hs (rest hs (rest hs s)))))))),
      colId hs d (rest hs (rest hs (rest hs (rest hs (rest hs (rest hs (rest hs (rest hs (rest hs s))))))))),
      colId hs d (rest hs (rest hs (rest hs (rest hs (rest hs (rest hs (rest hs (rest hs (rest hs (rest hs s)))))))))),
      colId hs d (rest hs (rest hs (rest hs (rest hs (rest hs (rest hs (rest hs (rest hs (rest hs (rest hs (rest hs s))))))))))),
      colId hs d (rest hs (rest hs (rest hs (rest hs (rest hs (rest hs (rest hs (rest hs (rest hs (rest hs (rest hs (rest hs s)))))))))))),
      colId hs d (rest hs (rest hs (rest hs (rest hs (rest hs (rest hs (rest hs (rest hs (rest hs (rest hs (rest hs (rest hs (rest hs s))))))))))))),
      colId hs d (rest hs (rest hs (rest hs (rest hs (rest hs (rest hs (rest hs (rest hs (rest hs (rest hs (rest hs (rest hs (rest hs (rest hs s)))))))))))))),
      colId hs d (rest hs (rest hs (rest hs (rest hs (rest hs (rest hs (rest hs (rest hs (rest hs (rest hs (rest hs (rest hs (rest hs (rest hs (rest hs s)))))))))))))))] = ids hs d s :=
  congrArg stack (funext fun r => by fin_cases r <;> rfl)

end Cert.Kernel5Ideal.Route

end
-- ==== Proof.RouteBody.lean ====
/-
  Program 5, the kernel's body at one grid point: the two selections of sixteen among 128 scores, the merge of the two
  lists into eighty candidates, and the selection of sixteen among them. The three blocks it leaves are written here
  with the named parts of RouteRounds.
-/
module

public import proofs.«01_k».proof.Proof.RouteRounds

@[expose] public section

noncomputable section

open Idealize.ShloMosaic Idealize.ShloMosaic.TcCoe Idealize.SL.Sem

namespace Cert.Kernel5Ideal.Route

open Cert.Kernel5Ideal Cert.Kernel5Ideal.Gen

variable {F : FTy → Type} [FloatOps F]

/-- The scores of the first half of the query against the first set of keys. -/
def scoresA (x0 : Vec F S256x256 .f32) (x1 : Vec F S1x2x128x128 .bf16) : FVec F (sh 128) .f32 :=
  k0_pay2 x0 (View.ld x1 (Rect.unit ![0, 0, 0, 0] ![1, 1, 128, 128] inb_S1x2x128x128_S1x1x128x128_0_0_0_0))

/-- The scores of the second half of the query against the second set of keys. -/
def scoresB (x0 : Vec F S256x256 .f32) (x1 : Vec F S1x2x128x128 .bf16) : FVec F (sh 128) .f32 :=
  k0_pay3 x0 (View.ld x1 (Rect.unit ![0, 1, 0, 0] ![1, 1, 128, 128] inb_S1x2x128x128_S1x1x128x128_0_1_0_0))

/-- The eighty candidate scores made of two lists of sixteen. -/
def candS (s1 s2 : FVec F S16x256 .f32) : FVec F (sh 80) .f32 :=
  k0_pay189 s1 s2 (iota .tc S8x256 32 [0] iota_S8x256_d0_w32) (k0_pay175 s1 s2) (k0_pay177 s1 s2)
    (k0_pay181 k0_pay179 (k0_pay180 s1 s2) (FloatOps.ofBits .f32 0xFF800000#32))
    (k0_pay183 s1 s2 (iota .tc S8x256 32 [0] iota_S8x256_d0_w32)) (k0_pay185 s1 s2 (iota .tc S8x256 32 [0] iota_S8x256_d0_w32))
    (k0_pay187 s1 s2 (iota .tc S8x256 32 [0] iota_S8x256_d0_w32))

/-- The eighty candidates' numbers made of two lists of sixteen rows. -/
def candI (i1 i2 : IVec S16x256 32) : IVec (sh 80) 32 :=
  k0_pay190 (F := F) i1 i2 (k0_pay176 (F := F) i1 i2) (k0_pay178 (F := F) i1 i2) (k0_pay182 (F := F) i1 i2) (k0_pay184 (F := F) i1 i2) (k0_pay186 (F := F) i1 i2) (k0_pay188 (F := F) i1 i2)

/-- The candidates of a block. -/
def bodyS (x0 : Vec F S256x256 .f32) (x1 : Vec F S1x2x128x128 .bf16) : FVec F (sh 80) .f32 :=
  candS (tops sides128 (scoresA x0 x1)) (tops sides128 (scoresB x0 x1))

/-- The candidates' numbers of a block. -/
def bodyI (x0 : Vec F S256x256 .f32) (x1 : Vec F S1x2x128x128 .bf16) : IVec (sh 80) 32 :=
  candI (F := F) (rows sides128 (scoresA x0 x1)) (rows sides128 (scoresB x0 x1))

theorem hz3 : (![0, 0, 0] : Fin 3 → Nat) = fun _ => 0 := funext fun a => by fin_cases a <;> rfl
theorem hz2 : (![0, 0] : Fin 2 → Nat) = fun _ => 0 := funext fun a => by fin_cases a <;> rfl

set_option maxRecDepth 65536 in
set_option maxHeartbeats 4000000 in
/-- The block of rows of experts. -/
theorem out_2 (c : Dev nD) (i : grid0.Coords) (arg2 : Memref sig .tc .vmem S256x256 .f32) (harg2 : arg2.IsWhole) (arg3 : Memref sig .tc .vmem S1x2x128x128 .bf16) (harg3 : arg3.IsWhole) (arg4 : Memref sig .tc .vmem S1x16x256 .i32) (harg4 : arg4.IsWhole) (arg5 : Memref sig .tc .vmem S1x16x256 .f32) (harg5 : arg5.IsWhole) (arg6 : Memref sig .tc .vmem S1x16x256 .f32) (harg6 : arg6.IsWhole) (arg7 : Memref sig .tc .vmem S16x256 .f32) (harg7 : arg7.IsWhole) (arg8 : Memref sig .tc .vmem S16x256 .i32) (harg8 : arg8.IsWhole) (arg9 : Memref sig .tc .vmem S16x256 .f32) (harg9 : arg9.IsWhole) (arg10 : Memref sig .tc .vmem S16x256 .i32) (harg10 : arg10.IsWhole) (arg11 : Memref sig .tc .vmem S16x256 .f32) (harg11 : arg11.IsWhole) (arg12 : Memref sig .tc .vmem S16x256 .i32) (harg12 : arg12.IsWhole)
    (x0 : Vec F S256x256 .f32) (x1 : Vec F S1x2x128x128 .bf16) :
    out0_A_2 c i arg2 harg2 arg3 harg3 arg4 harg4 arg5 harg5 arg6 harg6 arg7 harg7 arg8 harg8 arg9 harg9 arg10 harg10 arg11 harg11 arg12 harg12 x0 x1 =
      k0_pay277 (F := F) (ids sides80 (bodyI x0 x1) (bodyS x0 x1)) := by
  unfold out0_A_2
  rw [View.read_writes_eq_canon _ _ _ (cover0_A_2 c i arg2 harg2 arg3 harg3 arg4 harg4 arg5 harg5 arg6 harg6 arg7 harg7 arg8 harg8 arg9 harg9 arg10 harg10 arg11 harg11 arg12 harg12 x0 x1)]
  unfold kernelRun0_A
  dsimp only
  rw [View.canon_unit_zero hz3]
  sl_unfold_words
  simp only [k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170, k0_pay171, k0_pay172,
    k0_pay173, k0_pay174, k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210, k0_pay211, k0_pay212,
    k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257, k0_pay258, k0_pay259, k0_pay260,
    k0_pay261, k0_pay262, k0_pay263, k0_pay264, k0_pay265, k0_pay266, k0_pay267, k0_pay268, k0_pay269, k0_pay270, k0_pay271, k0_pay272,
    k0_pay273,
    readCov_rows _ _ _ _ _ _ _ _ _ _ _ _ _ _ _ _ _ _ hz2, shapeCast_self, Scalar.ofBits, View.readAt_eq_ld, harg2.read_unread,
    harg3.read_unread, View.ld_unit_zero (S := S256x256) hz2, fold_max sides128, fold_row sides128, fold_hits sides128, fold_rest sides128,
    fold_max sides80, fold_row sides80, fold_hits sides80, fold_rest sides80, fold_id sides80, fold_tops sides128, fold_rows sides128,
    fold_tops sides80, fold_ids sides80]
  rfl

set_option maxRecDepth 65536 in
set_option maxHeartbeats 4000000 in
/-- The block of weights. -/
theorem out_3 (c : Dev nD) (i : grid0.Coords) (arg2 : Memref sig .tc .vmem S256x256 .f32) (harg2 : arg2.IsWhole) (arg3 : Memref sig .tc .vmem S1x2x128x128 .bf16) (harg3 : arg3.IsWhole) (arg4 : Memref sig .tc .vmem S1x16x256 .i32) (harg4 : arg4.IsWhole) (arg5 : Memref sig .tc .vmem S1x16x256 .f32) (harg5 : arg5.IsWhole) (arg6 : Memref sig .tc .vmem S1x16x256 .f32) (harg6 : arg6.IsWhole) (arg7 : Memref sig .tc .vmem S16x256 .f32) (harg7 : arg7.IsWhole) (arg8 : Memref sig .tc .vmem S16x256 .i32) (harg8 : arg8.IsWhole) (arg9 : Memref sig .tc .vmem S16x256 .f32) (harg9 : arg9.IsWhole) (arg10 : Memref sig .tc .vmem S16x256 .i32) (harg10 : arg10.IsWhole) (arg11 : Memref sig .tc .vmem S16x256 .f32) (harg11 : arg11.IsWhole) (arg12 : Memref sig .tc .vmem S16x256 .i32) (harg12 : arg12.IsWhole)
    (x0 : Vec F S256x256 .f32) (x1 : Vec F S1x2x128x128 .bf16) :
    out0_A_3 c i arg2 harg2 arg3 harg3 arg4 harg4 arg5 harg5 arg6 harg6 arg7 harg7 arg8 harg8 arg9 harg9 arg10 harg10 arg11 harg11 arg12 harg12 x0 x1 =
      k0_pay276 (k0_pay274 (tops sides80 (bodyS x0 x1))) (k0_pay275 (tops sides80 (bodyS x0 x1))) := by
  unfold out0_A_3
  rw [View.read_writes_eq_canon _ _ _ (cover0_A_3 c i arg2 harg2 arg3 harg3 arg4 harg4 arg5 harg5 arg6 harg6 arg7 harg7 arg8 harg8 arg9 harg9 arg10 harg10 arg11 harg11 arg12 harg12 x0 x1)]
  unfold kernelRun0_A
  dsimp only
  rw [View.canon_unit_zero hz3]
  sl_unfold_words
  simp only [k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170, k0_pay171, k0_pay172,
    k0_pay173, k0_pay174, k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210, k0_pay211, k0_pay212,
    k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257, k0_pay258, k0_pay259, k0_pay260,
    k0_pay261, k0_pay262, k0_pay263, k0_pay264, k0_pay265, k0_pay266, k0_pay267, k0_pay268, k0_pay269, k0_pay270, k0_pay271, k0_pay272,
    k0_pay273,
    readCov_rows _ _ _ _ _ _ _ _ _ _ _ _ _ _ _ _ _ _ hz2, shapeCast_self, Scalar.ofBits, View.readAt_eq_ld, harg2.read_unread,
    harg3.read_unread, View.ld_unit_zero (S := S256x256) hz2, fold_max sides128, fold_row sides128, fold_hits sides128, fold_rest sides128,
    fold_max sides80, fold_row sides80, fold_hits sides80, fold_rest sides80, fold_id sides80, fold_tops sides128, fold_rows sides128,
    fold_tops sides80, fold_ids sides80]
  rfl

set_option maxRecDepth 65536 in
set_option maxHeartbeats 4000000 in
/-- The block of halves. -/
theorem out_4 (c : Dev nD) (i : grid0.Coords) (arg2 : Memref sig .tc .vmem S256x256 .f32) (harg2 : arg2.IsWhole) (arg3 : Memref sig .tc .vmem S1x2x128x128 .bf16) (harg3 : arg3.IsWhole) (arg4 : Memref sig .tc .vmem S1x16x256 .i32) (harg4 : arg4.IsWhole) (arg5 : Memref sig .tc .vmem S1x16x256 .f32) (harg5 : arg5.IsWhole) (arg6 : Memref sig .tc .vmem S1x16x256 .f32) (harg6 : arg6.IsWhole) (arg7 : Memref sig .tc .vmem S16x256 .f32) (harg7 : arg7.IsWhole) (arg8 : Memref sig .tc .vmem S16x256 .i32) (harg8 : arg8.IsWhole) (arg9 : Memref sig .tc .vmem S16x256 .f32) (harg9 : arg9.IsWhole) (arg10 : Memref sig .tc .vmem S16x256 .i32) (harg10 : arg10.IsWhole) (arg11 : Memref sig .tc .vmem S16x256 .f32) (harg11 : arg11.IsWhole) (arg12 : Memref sig .tc .vmem S16x256 .i32) (harg12 : arg12.IsWhole)
    (x0 : Vec F S256x256 .f32) (x1 : Vec F S1x2x128x128 .bf16) :
    out0_A_4 c i arg2 harg2 arg3 harg3 arg4 harg4 arg5 harg5 arg6 harg6 arg7 harg7 arg8 harg8 arg9 harg9 arg10 harg10 arg11 harg11 arg12 harg12 x0 x1 =
      k0_pay1 (k0_pay278 (ids sides80 (bodyI x0 x1) (bodyS x0 x1))) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 x0 x1)]
  unfold kernelRun0_A
  dsimp only
  rw [View.canon_unit_zero hz3]
  sl_unfold_words
  simp only [k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170, k0_pay171, k0_pay172,
    k0_pay173, k0_pay174, k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210, k0_pay211, k0_pay212,
    k0_pay213, k0_pay214, k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257, k0_pay258, k0_pay259, k0_pay260,
    k0_pay261, k0_pay262, k0_pay263, k0_pay264, k0_pay265, k0_pay266, k0_pay267, k0_pay268, k0_pay269, k0_pay270, k0_pay271, k0_pay272,
    k0_pay273,
    readCov_rows _ _ _ _ _ _ _ _ _ _ _ _ _ _ _ _ _ _ hz2, shapeCast_self, Scalar.ofBits, View.readAt_eq_ld, harg2.read_unread,
    harg3.read_unread, View.ld_unit_zero (S := S256x256) hz2, fold_max sides128, fold_row sides128, fold_hits sides128, fold_rest sides128,
    fold_max sides80, fold_row sides80, fold_hits sides80, fold_rest sides80, fold_id sides80, fold_tops sides128, fold_rows sides128,
    fold_tops sides80, fold_ids sides80]
  rfl

end Cert.Kernel5Ideal.Route

end
-- ==== Proof.RouteColumn.lean ====
/-
  Program 5, one column of the selection over the extended reals. When `σ` lists a column's places in descending order and
  their values are above -∞, round `r` takes place `σ r`: the block of values picked, of rows picked and of numbers picked
  are read off `σ` (`tops_apply`, `rows_apply`, `ids_apply`).
-/
module

public import proofs.«01_k».proof.Proof.RouteRounds
public import Idealize.ShloMosaic.Lib.ValueLayout
public import proofs.«01_k».proof.Proof.RoutePicks

@[expose] public section

noncomputable section

open Idealize.ShloMosaic Idealize.ShloMosaic.TcCoe Idealize.SL.Sem

namespace Cert.Kernel5Ideal.Route

open Cert.Kernel5Ideal Cert.Kernel5Ideal.Gen Cert.Route

theorem bits_bot : Ideal.ofBits .f32 0xFF800000#32 = ⊥ := by simp [Ideal.ofBits, Ideal.ieee]

variable {N : ℕ} (hs : Sides N)

/-- The entry a column reduction meets at row `n`. -/
theorem pair_col (n : Fin N) (j : Fin 256) :
    (Shape.pair (d := ![N, 256]) n (hs.red.col (ix1 j)) : (sh N).Idx) = ix2 n j :=
  funext fun a => match a with
    | ⟨0, _⟩ => rfl
    | ⟨1, _⟩ => rfl

theorem fold_col {α : Type} (f : α → α → α) (init : α) (x : (sh N).Idx → α) (j : Fin 256) :
    reduceFold hs.red f init x (ix1 j) = (List.finRange N).foldl (fun acc n => f acc (x (ix2 n j))) init := by
  rw [reduceFold_rows]
  exact congrArg (fun g => List.foldl g init (List.finRange N)) (funext fun acc => funext fun n => congrArg (f acc ∘ x) (pair_col hs n j))

/-- A row of 256 is read as one row of a block. -/
theorem cast_row {α : Type} (x : S256.Idx → α) (j : Fin 256) : shapeCast S1x256 x shapeCasts_S256_S1x256 (ix2 (0 : Fin 1) j) = x (ix1 j) := by
  pointwise

theorem bcast_row {α : Type} (x : S1x256.Idx → α) (n : Fin N) (j : Fin 256) : broadcastTo (sh N) x hs.bc (ix2 n j) = x (ix2 (0 : Fin 1) j) :=
  ValueIdx.broadcastTo_1b_ab_apply x hs.bc n j

theorem iota_row (n : Fin N) (j : Fin 256) : iota .tc (sh N) 32 [0] hs.io (ix2 n j) = BitVec.ofNat 32 n.val :=
  iota_single_apply .tc (sh N) 32 0 hs.io (ix2 n j)

theorem toInt_ofNat {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem ofBool_eq_one (b : Bool) : (BitVec.ofBool b = 1) = (b = true) := by cases b <;> simp

section
variable (s : FVec Ideal (sh N) .f32) (j : Fin 256) (p : Fin N) (hle : ∀ n : Fin N, s (ix2 n j) ≤ s (ix2 p j))
include hle

theorem colMax_apply : colMax hs s (ix2 (0 : Fin 1) j) = s (ix2 p j) := by
  show shapeCast S1x256 (reduceFold hs.red (max : EReal → EReal → EReal) (Ideal.ofBits .f32 0xFF800000#32) s) shapeCasts_S256_S1x256 _ = _
  rw [cast_row, fold_col hs, bits_bot]
  exact foldl_max (fun n : Fin N => s (ix2 n j)) p _ (List.mem_finRange p) hle

variable (hN : N < 2 ^ 31) (hfirst : ∀ n : Fin N, s (ix2 n j) = s (ix2 p j) → p ≤ n)
include hN hfirst

theorem colRow_apply : colRow hs s (ix2 (0 : Fin 1) j) = BitVec.ofNat 32 p.val := by
  have hg : ∀ n : Fin N, select (cmpf .oeq s (broadcastTo (sh N) (colMax hs s) hs.bc)) (iota .tc (sh N) 32 [0] hs.io)
      (broadcast (sh N) (BitVec.ofNat 32 N)) (ix2 n j) = if s (ix2 n j) = s (ix2 p j) then BitVec.ofNat 32 n.val else BitVec.ofNat 32 N := fun n => by
    show (if BitVec.ofBool (decide (s (ix2 n j) = broadcastTo (sh N) (colMax hs s) hs.bc (ix2 n j))) = 1
      then iota .tc (sh N) 32 [0] hs.io (ix2 n j) else BitVec.ofNat 32 N) = _
    rw [bcast_row hs, colMax_apply hs s j p hle, iota_row hs]
    simp only [ofBool_eq_one, decide_eq_true_eq]
  show shapeCast S1x256 (reduceFold hs.red IntOp.minsi 2147483647#32 _) shapeCasts_S256_S1x256 _ = _
  rw [cast_row, fold_col hs]
  simp only [hg]
  have hp := p.isLt
  have := foldl_minsi (fun n : Fin N => if s (ix2 n j) = s (ix2 p j) then BitVec.ofNat 32 n.val else BitVec.ofNat 32 N) p
    (List.finRange N) (List.mem_finRange p) (fun n => by
      have hn := n.isLt
      rw [if_pos rfl, toInt_ofNat (by omega)]
      split_ifs with h
      · rw [toInt_ofNat (by omega)]; exact_mod_cast hfirst n h
      · rw [toInt_ofNat hN]; exact_mod_cast hp.le) 2147483647#32 (by
      rw [if_pos rfl, toInt_ofNat (by omega), show (2147483647#32 : BitVec 32).toInt = 2147483647 from by decide]; omega)
  rw [if_pos rfl] at this
  exact this

theorem hits_apply (n : Fin N) : hits hs s (ix2 n j) = BitVec.ofBool (decide (n = p)) := by
  show BitVec.ofBool (iota .tc (sh N) 32 [0] hs.io (ix2 n j) == broadcastTo (sh N) (colRow hs s) hs.bc (ix2 n j)) = _
  rw [bcast_row hs, colRow_apply hs s j p hle hN hfirst, iota_row hs]
  have hn := n.isLt
  have hp := p.isLt
  congr 1
  rw [Bool.eq_iff_iff, beq_iff_eq, decide_eq_true_eq]
  constructor
  · intro h
    have := congrArg BitVec.toInt h
    rw [toInt_ofNat (by omega), toInt_ofNat (by omega)] at this
    exact Fin.ext (by exact_mod_cast this)
  · rintro rfl; rfl

theorem rest_apply (n : Fin N) : rest hs s (ix2 n j) = if n = p then ⊥ else s (ix2 n j) := by
  show (if hits hs s (ix2 n j) = 1 then Ideal.ofBits .f32 0xFF800000#32 else s (ix2 n j)) = _
  rw [hits_apply hs s j p hle hN hfirst, bits_bot]
  simp only [ofBool_eq_one, decide_eq_true_eq]

theorem colId_apply (d : IVec (sh N) 32) (hd : 0 ≤ (d (ix2 p j)).toInt) : colId hs d s (ix2 (0 : Fin 1) j) = d (ix2 p j) := by
  have hg : ∀ n : Fin N, select (hits hs s) d (broadcast (sh N) 4294967295#32) (ix2 n j) = if n = p then d (ix2 p j) else 4294967295#32 := fun n => by
    show (if hits hs s (ix2 n j) = 1 then d (ix2 n j) else 4294967295#32) = _
    rw [hits_apply hs s j p hle hN hfirst]
    simp only [ofBool_eq_one, decide_eq_true_eq]
    split_ifs with h
    · rw [h]
    · rfl
  show shapeCast S1x256 (reduceFold hs.red IntOp.maxsi 2147483648#32 _) shapeCasts_S256_S1x256 _ = _
  rw [cast_row, fold_col hs]
  simp only [hg]
  have hm : (4294967295#32 : BitVec 32).toInt = -1 := by decide
  have h0 : (2147483648#32 : BitVec 32).toInt = -2147483648 := by decide
  have := foldl_maxsi (fun n : Fin N => if n = p then d (ix2 p j) else 4294967295#32) p (List.finRange N) (List.mem_finRange p) (fun n => by
      rw [if_pos rfl]
      split_ifs
      · exact le_rfl
      · rw [hm]; omega) 2147483648#32 (by
      rw [if_pos rfl, h0]; omega)
  rw [if_pos rfl] at this
  exact this
end

/-! ## The sixteen rounds -/

section
variable (s : FVec Ideal (sh N) .f32) (j : Fin 256) (σ : Fin 16 → Fin N) (h : Ranked (fun n => s (ix2 n j)) σ)
  (hne : ∀ r, s (ix2 (σ r) j) ≠ ⊥) (hN : N < 2 ^ 31)
include h hne hN

theorem block_apply : ∀ (r : ℕ), r ≤ 16 → ∀ n : Fin N, block hs s r (ix2 n j) = after (fun n => s (ix2 n j)) σ r n
  | 0, _, n => by rw [after_zero]; rfl
  | r + 1, hr, n => by
    have ih := block_apply r (by omega)
    have e := after_succ (fun n => s (ix2 n j)) σ ⟨r, by omega⟩ n
    have hself := after_self h ⟨r, by omega⟩
    show rest hs (block hs s r) (ix2 n j) = _
    rw [rest_apply hs (block hs s r) j (σ ⟨r, by omega⟩) (fun n => ?_) hN (fun n hn => ?_) n, e, ih]
    · rw [ih, ih, hself]; exact after_le h ⟨r, by omega⟩ n
    · rw [ih, ih, hself] at hn; exact after_first h ⟨r, by omega⟩ (hne _) n hn

theorem round_le (r : Fin 16) (n : Fin N) : block hs s r (ix2 n j) ≤ block hs s r (ix2 (σ r) j) := by
  rw [block_apply hs s j σ h hne hN r r.isLt.le, block_apply hs s j σ h hne hN r r.isLt.le, after_self h r]; exact after_le h r n

theorem round_first (r : Fin 16) (n : Fin N) (hn : block hs s r (ix2 n j) = block hs s r (ix2 (σ r) j)) : σ r ≤ n := by
  rw [block_apply hs s j σ h hne hN r r.isLt.le, block_apply hs s j σ h hne hN r r.isLt.le, after_self h r] at hn
  exact after_first h r (hne r) n hn

theorem tops_apply (r : Fin 16) : tops hs s (ix2 r j) = s (ix2 (σ r) j) := by
  show colMax hs (block hs s r) (ix2 (0 : Fin 1) j) = _
  rw [colMax_apply hs _ j (σ r) (round_le hs s j σ h hne hN r), block_apply hs s j σ h hne hN r r.isLt.le, after_self h r]

theorem rows_apply (r : Fin 16) : rows hs s (ix2 r j) = BitVec.ofNat 32 (σ r).val :=
  colRow_apply hs _ j (σ r) (round_le hs s j σ h hne hN r) hN (round_first hs s j σ h hne hN r)

theorem ids_apply (d : IVec (sh N) 32) (r : Fin 16) (hd : 0 ≤ (d (ix2 (σ r) j)).toInt) : ids hs d s (ix2 r j) = d (ix2 (σ r) j) :=
  colId_apply hs _ j (σ r) (round_le hs s j σ h hne hN r) hN (round_first hs s j σ h hne hN r) d hd
end

end Cert.Kernel5Ideal.Route

end
-- ==== Proof.RouteCand.lean ====
/-
  Program 5, the eighty candidates row by row: a row holds the sum of the two places it stands for, or -∞.
-/
module

public import proofs.«01_k».proof.Proof.RouteBody
public import proofs.«01_k».proof.Proof.RouteColumn
public import proofs.«01_k».proof.Proof.RouteMerge

@[expose] public section

set_option maxRecDepth 16384

noncomputable section

open Idealize.ShloMosaic Idealize.ShloMosaic.TcCoe Idealize.SL.Sem

namespace Cert.Kernel5Ideal.Route

open Cert.Kernel5Ideal Cert.Kernel5Ideal.Gen Cert.Route

theorem ix_eq {m k : ℕ} {f : (⟨2, ![m, k]⟩ : Shape).Idx} {a : Fin m} {b : Fin k} (h0 : (f 0).val = a.val) (h1 : (f 1).val = b.val) : f = ix2 a b :=
  funext fun c => match c with
    | ⟨0, _⟩ => Fin.ext h0
    | ⟨1, _⟩ => Fin.ext h1

/-- What row `n` of the candidates' scores holds. -/
def sumAt (s1 s2 : FVec Ideal S16x256 .f32) (n : Fin 80) (j : Fin 256) : EReal :=
  if valid n = true then s1 (ix2 (left (emb n)) j) + s2 (ix2 (right (emb n)) j) else Ideal.ofBits .f32 0xFF800000#32

/-- What row `n` of the candidates' numbers holds. -/
def numAt (i1 i2 : IVec S16x256 32) (n : Fin 80) (j : Fin 256) : BitVec 32 :=
  i1 (ix2 (left (emb n)) j) * 128#32 + i2 (ix2 (right (emb n)) j)

theorem off_axis {m k : ℕ} {f : Fin k} (a : Fin m) {n : Fin 80} {b : Fin (⟨2, ![m, k]⟩ : Shape).rank} (hb : b.cast (rfl : 2 = 2) ≠ 0) :
    ((ix2 a f : (⟨2, ![m, k]⟩ : Shape).Idx) b).val = ((ix2 n f : (⟨2, ![80, k]⟩ : Shape).Idx) (b.cast (rfl : 2 = 2))).val :=
  match b with
    | ⟨0, _⟩ => absurd rfl hb
    | ⟨1, _⟩ => rfl

section
variable (s1 s2 : FVec Ideal S16x256 .f32) (i1 i2 : IVec S16x256 32) (j : Fin 256)

theorem scores_0 (r : Fin 16) : candS s1 s2 (ix2 (⟨0 + r.val, by omega⟩ : Fin 80) j) = sumAt s1 s2 (⟨0 + r.val, by omega⟩ : Fin 80) j :=
  (concatenate_apply_piece (t := S80x256) 0 _ (by exact concatenates_S16x256_S8x256_S8x256_S8x256_S8x256_S8x256_S8x256_S8x256_S8x256_S80x256_d0) (ix2 (⟨0 + r.val, by omega⟩ : Fin 80) j) 0 (Nat.le_of_ble_eq_true rfl) S16x256 _ rfl rfl 0 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_0 (r : Fin 16) : candI (F := Ideal) i1 i2 (ix2 (⟨0 + r.val, by omega⟩ : Fin 80) j) = numAt i1 i2 (⟨0 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨0 + r.val, by omega⟩ : Fin 80) j) 0 (Nat.le_of_ble_eq_true rfl) S16x256 _ rfl rfl 0 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem scores_1 (r : Fin 8) : candS s1 s2 (ix2 (⟨16 + r.val, by omega⟩ : Fin 80) j) = sumAt s1 s2 (⟨16 + r.val, by omega⟩ : Fin 80) j :=
  (concatenate_apply_piece (t := S80x256) 0 _ (by exact concatenates_S16x256_S8x256_S8x256_S8x256_S8x256_S8x256_S8x256_S8x256_S8x256_S80x256_d0) (ix2 (⟨16 + r.val, by omega⟩ : Fin 80) j) 1 (Nat.le_of_ble_eq_true rfl) S8x256 _ rfl rfl 16 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_1 (r : Fin 8) : candI (F := Ideal) i1 i2 (ix2 (⟨16 + r.val, by omega⟩ : Fin 80) j) = numAt i1 i2 (⟨16 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨16 + r.val, by omega⟩ : Fin 80) j) 1 (Nat.le_of_ble_eq_true rfl) S8x256 _ rfl rfl 16 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem scores_2 (r : Fin 8) : candS s1 s2 (ix2 (⟨24 + r.val, by omega⟩ : Fin 80) j) = sumAt s1 s2 (⟨24 + r.val, by omega⟩ : Fin 80) j :=
  (concatenate_apply_piece (t := S80x256) 0 _ (by exact concatenates_S16x256_S8x256_S8x256_S8x256_S8x256_S8x256_S8x256_S8x256_S8x256_S80x256_d0) (ix2 (⟨24 + r.val, by omega⟩ : Fin 80) j) 2 (Nat.le_of_ble_eq_true rfl) S8x256 _ rfl rfl 24 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_2 (r : Fin 8) : candI (F := Ideal) i1 i2 (ix2 (⟨24 + r.val, by omega⟩ : Fin 80) j) = numAt i1 i2 (⟨24 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨24 + r.val, by omega⟩ : Fin 80) j) 2 (Nat.le_of_ble_eq_true rfl) S8x256 _ rfl rfl 24 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem scores_3 (r : Fin 8) : candS s1 s2 (ix2 (⟨32 + r.val, by omega⟩ : Fin 80) j) = sumAt s1 s2 (⟨32 + r.val, by omega⟩ : Fin 80) j :=
  (concatenate_apply_piece (t := S80x256) 0 _ (by exact concatenates_S16x256_S8x256_S8x256_S8x256_S8x256_S8x256_S8x256_S8x256_S8x256_S80x256_d0) (ix2 (⟨32 + r.val, by omega⟩ : Fin 80) j) 3 (Nat.le_of_ble_eq_true rfl) S8x256 _ rfl rfl 32 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_3 (r : Fin 8) : candI (F := Ideal) i1 i2 (ix2 (⟨32 + r.val, by omega⟩ : Fin 80) j) = numAt i1 i2 (⟨32 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨32 + r.val, by omega⟩ : Fin 80) j) 3 (Nat.le_of_ble_eq_true rfl) S8x256 _ rfl rfl 32 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem scores_4 (r : Fin 8) : candS s1 s2 (ix2 (⟨40 + r.val, by omega⟩ : Fin 80) j) = sumAt s1 s2 (⟨40 + r.val, by omega⟩ : Fin 80) j :=
  (concatenate_apply_piece (t := S80x256) 0 _ (by exact concatenates_S16x256_S8x256_S8x256_S8x256_S8x256_S8x256_S8x256_S8x256_S8x256_S80x256_d0) (ix2 (⟨40 + r.val, by omega⟩ : Fin 80) j) 4 (Nat.le_of_ble_eq_true rfl) S8x256 _ rfl rfl 40 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_4 (r : Fin 8) : candI (F := Ideal) i1 i2 (ix2 (⟨40 + r.val, by omega⟩ : Fin 80) j) = numAt i1 i2 (⟨40 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨40 + r.val, by omega⟩ : Fin 80) j) 4 (Nat.le_of_ble_eq_true rfl) S8x256 _ rfl rfl 40 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem scores_5 (r : Fin 8) : candS s1 s2 (ix2 (⟨48 + r.val, by omega⟩ : Fin 80) j) = sumAt s1 s2 (⟨48 + r.val, by omega⟩ : Fin 80) j :=
  (concatenate_apply_piece (t := S80x256) 0 _ (by exact concatenates_S16x256_S8x256_S8x256_S8x256_S8x256_S8x256_S8x256_S8x256_S8x256_S80x256_d0) (ix2 (⟨48 + r.val, by omega⟩ : Fin 80) j) 5 (Nat.le_of_ble_eq_true rfl) S8x256 _ rfl rfl 48 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_5 (r : Fin 8) : candI (F := Ideal) i1 i2 (ix2 (⟨48 + r.val, by omega⟩ : Fin 80) j) = numAt i1 i2 (⟨48 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨48 + r.val, by omega⟩ : Fin 80) j) 5 (Nat.le_of_ble_eq_true rfl) S8x256 _ rfl rfl 48 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem scores_6 (r : Fin 8) : candS s1 s2 (ix2 (⟨56 + r.val, by omega⟩ : Fin 80) j) = sumAt s1 s2 (⟨56 + r.val, by omega⟩ : Fin 80) j :=
  (concatenate_apply_piece (t := S80x256) 0 _ (by exact concatenates_S16x256_S8x256_S8x256_S8x256_S8x256_S8x256_S8x256_S8x256_S8x256_S80x256_d0) (ix2 (⟨56 + r.val, by omega⟩ : Fin 80) j) 6 (Nat.le_of_ble_eq_true rfl) S8x256 _ rfl rfl 56 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_6 (r : Fin 8) : candI (F := Ideal) i1 i2 (ix2 (⟨56 + r.val, by omega⟩ : Fin 80) j) = numAt i1 i2 (⟨56 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨56 + r.val, by omega⟩ : Fin 80) j) 6 (Nat.le_of_ble_eq_true rfl) S8x256 _ rfl rfl 56 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem scores_7 (r : Fin 8) : candS s1 s2 (ix2 (⟨64 + r.val, by omega⟩ : Fin 80) j) = sumAt s1 s2 (⟨64 + r.val, by omega⟩ : Fin 80) j :=
  (concatenate_apply_piece (t := S80x256) 0 _ (by exact concatenates_S16x256_S8x256_S8x256_S8x256_S8x256_S8x256_S8x256_S8x256_S8x256_S80x256_d0) (ix2 (⟨64 + r.val, by omega⟩ : Fin 80) j) 7 (Nat.le_of_ble_eq_true rfl) S8x256 _ rfl rfl 64 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_7 (r : Fin 8) : candI (F := Ideal) i1 i2 (ix2 (⟨64 + r.val, by omega⟩ : Fin 80) j) = numAt i1 i2 (⟨64 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨64 + r.val, by omega⟩ : Fin 80) j) 7 (Nat.le_of_ble_eq_true rfl) S8x256 _ rfl rfl 64 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem scores_8 (r : Fin 8) : candS s1 s2 (ix2 (⟨72 + r.val, by omega⟩ : Fin 80) j) = sumAt s1 s2 (⟨72 + r.val, by omega⟩ : Fin 80) j :=
  (concatenate_apply_piece (t := S80x256) 0 _ (by exact concatenates_S16x256_S8x256_S8x256_S8x256_S8x256_S8x256_S8x256_S8x256_S8x256_S80x256_d0) (ix2 (⟨72 + r.val, by omega⟩ : Fin 80) j) 8 (Nat.le_of_ble_eq_true rfl) S8x256 _ rfl rfl 72 rfl (ix2 r j)
    (fun _ hb => off_axis r hb) rfl).trans (by
    fin_cases r <;> first
      | exact congrArg₂ (fun x y : EReal => x + y) (congrArg s1 (ix_eq (by first | rfl | exact Nat.zero_add _) (by first | rfl | exact Nat.zero_add _))) (congrArg s2 (ix_eq (by first | rfl | exact Nat.zero_add _) (by first | rfl | exact Nat.zero_add _)))
      | rfl)

theorem nums_8 (r : Fin 8) : candI (F := Ideal) i1 i2 (ix2 (⟨72 + r.val, by omega⟩ : Fin 80) j) = numAt i1 i2 (⟨72 + r.val, by omega⟩ : Fin 80) j := by
  unfold candI
  refine (concatenate_apply_piece (t := S80x256) 0 _ (by exact concatenates_S16x256_S8x256_S8x256_S8x256_S8x256_S8x256_S8x256_S8x256_S8x256_S80x256_d0) (ix2 (⟨72 + r.val, by omega⟩ : Fin 80) j) 8 (Nat.le_of_ble_eq_true rfl) S8x256 _ rfl rfl 72 rfl (ix2 r j)
    (fun _ hb => off_axis r hb) rfl).trans ?_
  fin_cases r <;>
    exact congrArg₂ (fun x y : BitVec 32 => x * 128#32 + y) (congrArg i1 (ix_eq (by first | rfl | exact Nat.zero_add _) (by first | rfl | exact Nat.zero_add _))) (congrArg i2 (ix_eq (by first | rfl | exact Nat.zero_add _) (by first | rfl | exact Nat.zero_add _)))

theorem candS_apply (n : Fin 80) :
    candS s1 s2 (ix2 n j) = if valid n = true then s1 (ix2 (left (emb n)) j) + s2 (ix2 (right (emb n)) j) else ⊥ := by
  have h : candS s1 s2 (ix2 n j) = sumAt s1 s2 n j := match n with
    | ⟨0, _⟩ => scores_0 s1 s2 j 0 | ⟨1, _⟩ => scores_0 s1 s2 j 1 | ⟨2, _⟩ => scores_0 s1 s2 j 2 | ⟨3, _⟩ => scores_0 s1 s2 j 3
    | ⟨4, _⟩ => scores_0 s1 s2 j 4 | ⟨5, _⟩ => scores_0 s1 s2 j 5 | ⟨6, _⟩ => scores_0 s1 s2 j 6 | ⟨7, _⟩ => scores_0 s1 s2 j 7
    | ⟨8, _⟩ => scores_0 s1 s2 j 8 | ⟨9, _⟩ => scores_0 s1 s2 j 9 | ⟨10, _⟩ => scores_0 s1 s2 j 10 | ⟨11, _⟩ => scores_0 s1 s2 j 11
    | ⟨12, _⟩ => scores_0 s1 s2 j 12 | ⟨13, _⟩ => scores_0 s1 s2 j 13 | ⟨14, _⟩ => scores_0 s1 s2 j 14 | ⟨15, _⟩ => scores_0 s1 s2 j 15
    | ⟨16, _⟩ => scores_1 s1 s2 j 0 | ⟨17, _⟩ => scores_1 s1 s2 j 1 | ⟨18, _⟩ => scores_1 s1 s2 j 2 | ⟨19, _⟩ => scores_1 s1 s2 j 3
    | ⟨20, _⟩ => scores_1 s1 s2 j 4 | ⟨21, _⟩ => scores_1 s1 s2 j 5 | ⟨22, _⟩ => scores_1 s1 s2 j 6 | ⟨23, _⟩ => scores_1 s1 s2 j 7
    | ⟨24, _⟩ => scores_2 s1 s2 j 0 | ⟨25, _⟩ => scores_2 s1 s2 j 1 | ⟨26, _⟩ => scores_2 s1 s2 j 2 | ⟨27, _⟩ => scores_2 s1 s2 j 3
    | ⟨28, _⟩ => scores_2 s1 s2 j 4 | ⟨29, _⟩ => scores_2 s1 s2 j 5 | ⟨30, _⟩ => scores_2 s1 s2 j 6 | ⟨31, _⟩ => scores_2 s1 s2 j 7
    | ⟨32, _⟩ => scores_3 s1 s2 j 0 | ⟨33, _⟩ => scores_3 s1 s2 j 1 | ⟨34, _⟩ => scores_3 s1 s2 j 2 | ⟨35, _⟩ => scores_3 s1 s2 j 3
    | ⟨36, _⟩ => scores_3 s1 s2 j 4 | ⟨37, _⟩ => scores_3 s1 s2 j 5 | ⟨38, _⟩ => scores_3 s1 s2 j 6 | ⟨39, _⟩ => scores_3 s1 s2 j 7
    | ⟨40, _⟩ => scores_4 s1 s2 j 0 | ⟨41, _⟩ => scores_4 s1 s2 j 1 | ⟨42, _⟩ => scores_4 s1 s2 j 2 | ⟨43, _⟩ => scores_4 s1 s2 j 3
    | ⟨44, _⟩ => scores_4 s1 s2 j 4 | ⟨45, _⟩ => scores_4 s1 s2 j 5 | ⟨46, _⟩ => scores_4 s1 s2 j 6 | ⟨47, _⟩ => scores_4 s1 s2 j 7
    | ⟨48, _⟩ => scores_5 s1 s2 j 0 | ⟨49, _⟩ => scores_5 s1 s2 j 1 | ⟨50, _⟩ => scores_5 s1 s2 j 2 | ⟨51, _⟩ => scores_5 s1 s2 j 3
    | ⟨52, _⟩ => scores_5 s1 s2 j 4 | ⟨53, _⟩ => scores_5 s1 s2 j 5 | ⟨54, _⟩ => scores_5 s1 s2 j 6 | ⟨55, _⟩ => scores_5 s1 s2 j 7
    | ⟨56, _⟩ => scores_6 s1 s2 j 0 | ⟨57, _⟩ => scores_6 s1 s2 j 1 | ⟨58, _⟩ => scores_6 s1 s2 j 2 | ⟨59, _⟩ => scores_6 s1 s2 j 3
    | ⟨60, _⟩ => scores_6 s1 s2 j 4 | ⟨61, _⟩ => scores_6 s1 s2 j 5 | ⟨62, _⟩ => scores_6 s1 s2 j 6 | ⟨63, _⟩ => scores_6 s1 s2 j 7
    | ⟨64, _⟩ => scores_7 s1 s2 j 0 | ⟨65, _⟩ => scores_7 s1 s2 j 1 | ⟨66, _⟩ => scores_7 s1 s2 j 2 | ⟨67, _⟩ => scores_7 s1 s2 j 3
    | ⟨68, _⟩ => scores_7 s1 s2 j 4 | ⟨69, _⟩ => scores_7 s1 s2 j 5 | ⟨70, _⟩ => scores_7 s1 s2 j 6 | ⟨71, _⟩ => scores_7 s1 s2 j 7
    | ⟨72, _⟩ => scores_8 s1 s2 j 0 | ⟨73, _⟩ => scores_8 s1 s2 j 1 | ⟨74, _⟩ => scores_8 s1 s2 j 2 | ⟨75, _⟩ => scores_8 s1 s2 j 3
    | ⟨76, _⟩ => scores_8 s1 s2 j 4 | ⟨77, _⟩ => scores_8 s1 s2 j 5 | ⟨78, _⟩ => scores_8 s1 s2 j 6 | ⟨79, _⟩ => scores_8 s1 s2 j 7
    | ⟨n + 80, h⟩ => absurd h (by omega)
  rw [h, sumAt, bits_bot]

theorem candI_apply (n : Fin 80) :
    candI (F := Ideal) i1 i2 (ix2 n j) = i1 (ix2 (left (emb n)) j) * 128#32 + i2 (ix2 (right (emb n)) j) :=
  show _ = numAt i1 i2 n j from match n with
    | ⟨0, _⟩ => nums_0 i1 i2 j 0 | ⟨1, _⟩ => nums_0 i1 i2 j 1 | ⟨2, _⟩ => nums_0 i1 i2 j 2 | ⟨3, _⟩ => nums_0 i1 i2 j 3
    | ⟨4, _⟩ => nums_0 i1 i2 j 4 | ⟨5, _⟩ => nums_0 i1 i2 j 5 | ⟨6, _⟩ => nums_0 i1 i2 j 6 | ⟨7, _⟩ => nums_0 i1 i2 j 7
    | ⟨8, _⟩ => nums_0 i1 i2 j 8 | ⟨9, _⟩ => nums_0 i1 i2 j 9 | ⟨10, _⟩ => nums_0 i1 i2 j 10 | ⟨11, _⟩ => nums_0 i1 i2 j 11
    | ⟨12, _⟩ => nums_0 i1 i2 j 12 | ⟨13, _⟩ => nums_0 i1 i2 j 13 | ⟨14, _⟩ => nums_0 i1 i2 j 14 | ⟨15, _⟩ => nums_0 i1 i2 j 15
    | ⟨16, _⟩ => nums_1 i1 i2 j 0 | ⟨17, _⟩ => nums_1 i1 i2 j 1 | ⟨18, _⟩ => nums_1 i1 i2 j 2 | ⟨19, _⟩ => nums_1 i1 i2 j 3
    | ⟨20, _⟩ => nums_1 i1 i2 j 4 | ⟨21, _⟩ => nums_1 i1 i2 j 5 | ⟨22, _⟩ => nums_1 i1 i2 j 6 | ⟨23, _⟩ => nums_1 i1 i2 j 7
    | ⟨24, _⟩ => nums_2 i1 i2 j 0 | ⟨25, _⟩ => nums_2 i1 i2 j 1 | ⟨26, _⟩ => nums_2 i1 i2 j 2 | ⟨27, _⟩ => nums_2 i1 i2 j 3
    | ⟨28, _⟩ => nums_2 i1 i2 j 4 | ⟨29, _⟩ => nums_2 i1 i2 j 5 | ⟨30, _⟩ => nums_2 i1 i2 j 6 | ⟨31, _⟩ => nums_2 i1 i2 j 7
    | ⟨32, _⟩ => nums_3 i1 i2 j 0 | ⟨33, _⟩ => nums_3 i1 i2 j 1 | ⟨34, _⟩ => nums_3 i1 i2 j 2 | ⟨35, _⟩ => nums_3 i1 i2 j 3
    | ⟨36, _⟩ => nums_3 i1 i2 j 4 | ⟨37, _⟩ => nums_3 i1 i2 j 5 | ⟨38, _⟩ => nums_3 i1 i2 j 6 | ⟨39, _⟩ => nums_3 i1 i2 j 7
    | ⟨40, _⟩ => nums_4 i1 i2 j 0 | ⟨41, _⟩ => nums_4 i1 i2 j 1 | ⟨42, _⟩ => nums_4 i1 i2 j 2 | ⟨43, _⟩ => nums_4 i1 i2 j 3
    | ⟨44, _⟩ => nums_4 i1 i2 j 4 | ⟨45, _⟩ => nums_4 i1 i2 j 5 | ⟨46, _⟩ => nums_4 i1 i2 j 6 | ⟨47, _⟩ => nums_4 i1 i2 j 7
    | ⟨48, _⟩ => nums_5 i1 i2 j 0 | ⟨49, _⟩ => nums_5 i1 i2 j 1 | ⟨50, _⟩ => nums_5 i1 i2 j 2 | ⟨51, _⟩ => nums_5 i1 i2 j 3
    | ⟨52, _⟩ => nums_5 i1 i2 j 4 | ⟨53, _⟩ => nums_5 i1 i2 j 5 | ⟨54, _⟩ => nums_5 i1 i2 j 6 | ⟨55, _⟩ => nums_5 i1 i2 j 7
    | ⟨56, _⟩ => nums_6 i1 i2 j 0 | ⟨57, _⟩ => nums_6 i1 i2 j 1 | ⟨58, _⟩ => nums_6 i1 i2 j 2 | ⟨59, _⟩ => nums_6 i1 i2 j 3
    | ⟨60, _⟩ => nums_6 i1 i2 j 4 | ⟨61, _⟩ => nums_6 i1 i2 j 5 | ⟨62, _⟩ => nums_6 i1 i2 j 6 | ⟨63, _⟩ => nums_6 i1 i2 j 7
    | ⟨64, _⟩ => nums_7 i1 i2 j 0 | ⟨65, _⟩ => nums_7 i1 i2 j 1 | ⟨66, _⟩ => nums_7 i1 i2 j 2 | ⟨67, _⟩ => nums_7 i1 i2 j 3
    | ⟨68, _⟩ => nums_7 i1 i2 j 4 | ⟨69, _⟩ => nums_7 i1 i2 j 5 | ⟨70, _⟩ => nums_7 i1 i2 j 6 | ⟨71, _⟩ => nums_7 i1 i2 j 7
    | ⟨72, _⟩ => nums_8 i1 i2 j 0 | ⟨73, _⟩ => nums_8 i1 i2 j 1 | ⟨74, _⟩ => nums_8 i1 i2 j 2 | ⟨75, _⟩ => nums_8 i1 i2 j 3
    | ⟨76, _⟩ => nums_8 i1 i2 j 4 | ⟨77, _⟩ => nums_8 i1 i2 j 5 | ⟨78, _⟩ => nums_8 i1 i2 j 6 | ⟨79, _⟩ => nums_8 i1 i2 j 7
    | ⟨n + 80, h⟩ => absurd h (by omega)
end

end Cert.Kernel5Ideal.Route

end
-- ==== Proof.RouteWords.lean ====
/-
  Program 5, the arithmetic of an expert's number, below 16384: the shift and the mask of the kernel are the division by
  two and the remainder of the reference.
-/
module

public import Idealize.ShloMosaic.Lib.Pipeline.ValueKit

@[expose] public section

noncomputable section

open Idealize.ShloMosaic

namespace Cert.Route

section
variable (e : ℕ) (h : e < 16384)
include h

theorem word_nat : (BitVec.ofNat 32 e).toNat = e := by
  rw [BitVec.toNat_ofNat]; omega

theorem word_int : (BitVec.ofNat 32 e).toInt = e := by
  rw [BitVec.toInt_eq_toNat_of_lt (by rw [word_nat e h]; omega), word_nat e h]

theorem mod_int : (BitVec.ofNat 32 (e % 2)).toInt = ((e % 2 : ℕ) : ℤ) := word_int _ (by omega)

theorem shift_word : IntOp.muli (IntOp.shrsi .vector (BitVec.ofNat 32 e) 1#32) 8#32 = BitVec.ofNat 32 (e / 2 * 8) := by
  have hs : IntOp.shrsi .vector (BitVec.ofNat 32 e) 1#32 = BitVec.ofNat 32 (e / 2) := by
    rw [IntOp.shrsi, if_pos (by decide)]
    apply BitVec.eq_of_toInt_eq
    rw [BitVec.sshiftRight', BitVec.toInt_sshiftRight, word_int e h, word_int _ (by omega), show (1#32 : BitVec 32).toNat = 1 from rfl,
      Int.shiftRight_eq_div_pow]
    norm_num
  rw [hs, BitVec.ofNat_mul]
  rfl

theorem div_word : IntOp.muli (IntOp.divsi .host (BitVec.ofNat 32 e) 2#32) 8#32 = BitVec.ofNat 32 (e / 2 * 8) := by
  have hs : IntOp.divsi .host (BitVec.ofNat 32 e) 2#32 = BitVec.ofNat 32 (e / 2) := by
    rw [IntOp.divsi, if_neg (fun hc => hc.elim (by decide) fun h => absurd h.2 (by decide))]
    apply BitVec.eq_of_toInt_eq
    rw [BitVec.toInt_sdiv_of_ne_or_ne _ _ (Or.inr (by decide)), word_int e h, word_int (e / 2) (by omega)]
    show (e : ℤ).tdiv 2 = _
    rw [Int.tdiv_eq_ediv_of_nonneg (by omega)]
    omega
  rw [hs, BitVec.ofNat_mul]
  rfl

theorem and_word : (IntOp.andi (BitVec.ofNat 32 e) 1#32).toInt = ((e % 2 : ℕ) : ℤ) := by
  have hs : IntOp.andi (BitVec.ofNat 32 e) 1#32 = BitVec.ofNat 32 (e % 2) := by
    apply BitVec.eq_of_toNat_eq
    rw [word_nat (e % 2) (by omega)]
    show (BitVec.ofNat 32 e &&& 1#32).toNat = _
    rw [BitVec.toNat_and, word_nat e h]
    exact Nat.and_one_is_mod e
  rw [hs, mod_int e h]

theorem rem_word : (IntOp.remsi .host (BitVec.ofNat 32 e) 2#32).toInt = ((e % 2 : ℕ) : ℤ) := by
  rw [IntOp.remsi, if_neg (fun hc => hc.elim (by decide) fun h => absurd h.2 (by decide)), BitVec.toInt_srem, word_int e h]
  show (e : ℤ).tmod 2 = _
  rw [Int.tmod_eq_emod_of_nonneg (by omega)]
  omega
end

end Cert.Route

end
-- ==== Proof.RouteBlock.lean ====
/-
  Program 5, the three blocks the body leaves, at an element: what the column of scores says of them.
-/
module

public import proofs.«01_k».proof.Proof.RouteCand
public import proofs.«01_k».proof.Proof.RouteSpec
public import proofs.«01_k».proof.Proof.RouteWords

@[expose] public section

set_option maxRecDepth 16384

noncomputable section

open Idealize.ShloMosaic Idealize.ShloMosaic.TcCoe Idealize.SL.Sem

namespace Cert.Kernel5Ideal.Route

open Cert.Kernel5Ideal Cert.Kernel5Ideal.Gen Cert.Route

/-- A score of the first half at an element, over the blocks of queries and keys. -/
theorem scoresA_apply (x0 : Vec Ideal S256x256 .f32) (x1 : Vec Ideal S1x2x128x128 .bf16) (n : Fin 128) (j : Fin 256) :
    scoresA x0 x1 (ix2 n j) = ∑ c : Fin 128, x1 (ix4 0 0 n c) * x0 (ix2 j (⟨c.val, by omega⟩ : Fin 256)) := by
  pointwise [scoresA, k0_pay2]

/-- A score of the second half. -/
theorem scoresB_apply (x0 : Vec Ideal S256x256 .f32) (x1 : Vec Ideal S1x2x128x128 .bf16) (n : Fin 128) (j : Fin 256) :
    scoresB x0 x1 (ix2 n j) = ∑ c : Fin 128, x1 (ix4 0 1 n c) * x0 (ix2 j (⟨128 + c.val, by omega⟩ : Fin 256)) := by
  pointwise [scoresB, k0_pay3]

section
variable (x0 : Vec Ideal S256x256 .f32) (x1 : Vec Ideal S1x2x128x128 .bf16) (j : Fin 256) (f g : Fin 128 → EReal)
  (hf : ∀ n, scoresA x0 x1 (ix2 n j) = f n) (hg : ∀ n, scoresB x0 x1 (ix2 n j) = g n)
  (hfb : ∀ n, f n ≠ ⊥) (hgb : ∀ n, g n ≠ ⊥)

section
variable (s : FVec Ideal (sh 128) .f32) (f : Fin 128 → EReal) (hs : ∀ n, s (ix2 n j) = f n) (hb : ∀ n, f n ≠ ⊥)
include hs hb

theorem list_ranked : Ranked (fun n => s (ix2 n j)) (best f (by omega)) := by
  rw [funext hs]; exact best_ranked f _

theorem list_tops (r : Fin 16) : tops sides128 s (ix2 r j) = kth f r :=
  (tops_apply sides128 s j _ (list_ranked j s f hs hb) (fun r => by rw [hs]; exact hb _) (by omega) r).trans (hs _)

theorem list_rows (r : Fin 16) : rows sides128 s (ix2 r j) = BitVec.ofNat 32 (best f (by omega) r).val :=
  rows_apply sides128 s j _ (list_ranked j s f hs hb) (fun r => by rw [hs]; exact hb _) (by omega) r
end

include hf hg hfb hgb

theorem bodyS_apply (n : Fin 80) :
    bodyS x0 x1 (ix2 n j) = if valid n = true then kth f (left (emb n)) + kth g (right (emb n)) else ⊥ := by
  rw [bodyS, candS_apply, list_tops j _ f hf hfb, list_tops j _ g hg hgb]

theorem bodyI_apply (n : Fin 80) : bodyI x0 x1 (ix2 n j)
    = BitVec.ofNat 32 (best f (by omega) (left (emb n))).val * 128#32 + BitVec.ofNat 32 (best g (by omega) (right (emb n))).val := by
  rw [bodyI, candI_apply, list_rows j _ f hf hfb, list_rows j _ g hg hgb]

theorem sum_ne_bot (u : Fin 256) : pairs f g u ≠ ⊥ := by
  rw [pairs, Ne, EReal.add_eq_bot_iff, not_or]
  exact ⟨hfb _, hgb _⟩

/-- The sixteen sums the body picks. -/
theorem top_apply (r : Fin 16) : tops sides80 (bodyS x0 x1) (ix2 r j) = picked f g r := by
  obtain ⟨π, hπ, hr⟩ := candidates f g hfb hgb
  have hv : ∀ r, bodyS x0 x1 (ix2 (π r) j) = picked f g r := fun r => by
    rw [bodyS_apply x0 x1 j f g hf hg hfb hgb, if_pos (hπ r).2, (hπ r).1]; rfl
  rw [← funext (bodyS_apply x0 x1 j f g hf hg hfb hgb)] at hr
  exact (tops_apply sides80 _ j π hr (fun r => by rw [hv]; exact sum_ne_bot x0 x1 j f g hf hg hfb hgb _) (by omega) r).trans (hv r)

/-- The numbers of their experts. -/
theorem id_apply (r : Fin 16) : ids sides80 (bodyI x0 x1) (bodyS x0 x1) (ix2 r j) = BitVec.ofNat 32 (expert f g r) := by
  obtain ⟨π, hπ, hr⟩ := candidates f g hfb hgb
  have hv : ∀ r, bodyS x0 x1 (ix2 (π r) j) = picked f g r := fun r => by
    rw [bodyS_apply x0 x1 j f g hf hg hfb hgb, if_pos (hπ r).2, (hπ r).1]; rfl
  have hi : bodyI x0 x1 (ix2 (π r) j) = BitVec.ofNat 32 (expert f g r) := by
    rw [bodyI_apply x0 x1 j f g hf hg hfb hgb, (hπ r).1, expert, BitVec.ofNat_add, BitVec.ofNat_mul]
  have hlt := expert_lt f g r
  rw [← funext (bodyS_apply x0 x1 j f g hf hg hfb hgb)] at hr
  exact (ids_apply sides80 _ j π hr (fun r => by rw [hv]; exact sum_ne_bot x0 x1 j f g hf hg hfb hgb _) (by omega) _ r
    (by rw [hi, toInt_ofNat (by omega)]; omega)).trans hi
end

/-! ## What the body makes of the picks -/

theorem rows_out (y : IVec S16x256 32) (r : Fin 16) (j : Fin 256) :
    k0_pay277 (F := Ideal) y (ix3 0 r j) = IntOp.muli (IntOp.shrsi .vector (y (ix2 r j)) 1#32) 8#32 := by
  pointwise [k0_pay277]

theorem halves_out (y : IVec S16x256 32) (r : Fin 16) (j : Fin 256) :
    k0_pay1 (F := Ideal) (k0_pay278 y) (ix3 0 r j) = (((IntOp.andi (y (ix2 r j)) 1#32).toInt : ℝ) : EReal) := by
  pointwise [k0_pay1, k0_pay278]
  rfl

theorem exps_out (y : FVec Ideal S16x256 .f32) (r : Fin 16) (j : Fin 256) :
    k0_pay274 (F := Ideal) y (ix2 r j) = Ideal.exp (y (ix2 r j) - y (ix2 0 j)) := by
  pointwise [k0_pay274]

theorem total_out (y : FVec Ideal S16x256 .f32) (r : Fin 16) (j : Fin 256) :
    k0_pay275 (F := Ideal) y (ix2 r j) = ∑ q : Fin 16, k0_pay274 (F := Ideal) y (ix2 q j) := by
  pointwise [k0_pay275]

theorem ratio_out (y z : FVec Ideal S16x256 .f32) (r : Fin 16) (j : Fin 256) :
    k0_pay276 (F := Ideal) y z (ix3 0 r j) = Ideal.div (y (ix2 r j)) (z (ix2 r j)) := by
  pointwise [k0_pay276]

/-! ## The three blocks, at an element -/

section
variable (x0 : Vec Ideal S256x256 .f32) (x1 : Vec Ideal S1x2x128x128 .bf16) (j : Fin 256) (f g : Fin 128 → EReal)
  (hf : ∀ n, scoresA x0 x1 (ix2 n j) = f n) (hg : ∀ n, scoresB x0 x1 (ix2 n j) = g n)
  (hfb : ∀ n, f n ≠ ⊥) (hgb : ∀ n, g n ≠ ⊥)
include hf hg hfb hgb

theorem block_rows (r : Fin 16) : k0_pay277 (F := Ideal) (ids sides80 (bodyI x0 x1) (bodyS x0 x1)) (ix3 0 r j) = rowOf f g r := by
  rw [rows_out, id_apply x0 x1 j f g hf hg hfb hgb]
  exact shift_word _ (expert_lt f g r)

theorem block_halves (r : Fin 16) :
    k0_pay1 (F := Ideal) (k0_pay278 (ids sides80 (bodyI x0 x1) (bodyS x0 x1))) (ix3 0 r j) = halfOf f g r := by
  rw [halves_out, id_apply x0 x1 j f g hf hg hfb hgb, and_word _ (expert_lt f g r)]
  rfl

theorem block_weights (r : Fin 16) : k0_pay276 (k0_pay274 (tops sides80 (bodyS x0 x1)))
    (k0_pay275 (tops sides80 (bodyS x0 x1))) (ix3 0 r j) = weightOf f g r := by
  rw [ratio_out, total_out]
  simp only [exps_out, top_apply x0 x1 j f g hf hg hfb hgb]
  rfl
end

end Cert.Kernel5Ideal.Route

end
-- ==== Proof.RouteKernel.lean ====
/-
  Program 5, the kernel's arrays: at every grid point the blocks it loads are those of one head and 256 tokens, the
  blocks it leaves are what that head picks for those tokens, and together they fill the three results.
-/
module

public import proofs.«01_k».proof.Proof.RouteBlock
public import proofs.«01_k».proof.Proof.RouteBody
public import proofs.«01_k».proof.Proof.RouteSpec
public import proofs.«01_k».proof.Proof.Gen.Kernel5Ideal.Value

@[expose] public section

set_option maxRecDepth 16384

noncomputable section

open Idealize.ShloMosaic Idealize.ShloMosaic.TcCoe Idealize.SL.Sem

namespace Cert.Kernel5Ideal.Route

open Cert.Kernel5Ideal Cert.Kernel5Ideal.Gen Cert.Route

variable (m : (ℓ : Loc nD τ sig) → Buf (Elt Ideal) ℓ) (ρ : Dev nD → PrngReg)

/-- Which block each window shows at a grid point. -/
theorem idx_in : ∀ t : Fin cfg0.N, win0_0.index t = ![t.val / 8, t.val % 8] ∧ win0_1.index t = ![t.val % 8, 0, 0, 0]
    ∧ win0_2.index t = ![t.val % 8, 0, t.val / 8] ∧ win0_3.index t = ![t.val % 8, 0, t.val / 8]
    ∧ win0_4.index t = ![t.val % 8, 0, t.val / 8] :=
  (by decide +kernel : ∀ t : Fin grid0.N, _)

/-- The block of queries at point `t` is tokens `256 · (t / 8)` and on, columns `256 · (t % 8)` and on. -/
theorem in_q (c : Dev nD) (t : Fin cfg0.N) (j d : Fin 256) (r : Fin 32768) (hr : r.val = 256 * (t.val / 8) + j.val)
    (q : Fin 2048) (hq : q.val = 256 * (t.val % 8) + d.val) :
    iblk m c 0 t (ix2 j d) = m ((c.tc : Thread nD τ).loc main_arg0) (ix2 r q) := by
  obtain ⟨e, -⟩ := idx_in t
  blk_simp [iblk]
  entry_read
  blk_ext [e]

/-- The block of keys at point `t` is that of head `t % 8`. -/
theorem in_k (c : Dev nD) (t : Fin cfg0.N) (h : Fin 8) (hh : h.val = t.val % 8) (p : Fin 2) (n d : Fin 128) :
    iblk m c 1 t (ix4 0 p n d) = m ((c.tc : Thread nD τ).loc main_arg1) (ix5 0 h p n d) := by
  obtain ⟨-, e, -⟩ := idx_in t
  blk_simp [iblk]
  entry_read
  pointwise
  blk_ext [e]

section
variable (c : Dev nD) (t : Fin cfg0.N) (j : Fin 256) (r : Fin 32768) (hr : r.val = 256 * (t.val / 8) + j.val)
  (h : Fin 8) (hh : h.val = t.val % 8)
include hr hh

/-- The scores of the first half. -/
theorem scoreA (n : Fin 128) : scoresA (iblk m c 0 t) (iblk m c 1 t) (ix2 n j)
    = score (m ((c.tc : Thread nD τ).loc main_arg0)) (m ((c.tc : Thread nD τ).loc main_arg1)) r h 0 n := by
  refine (scoresA_apply _ _ n j).trans (Finset.sum_congr (M := EReal) rfl fun d _ => congrArg₂ (· * ·) ?_ ?_)
  · exact in_k m c t h hh 0 n d
  · exact in_q m c t j _ r hr _ (by dsimp only [Fin.val_zero]; omega)

/-- The scores of the second half. -/
theorem scoreB (n : Fin 128) : scoresB (iblk m c 0 t) (iblk m c 1 t) (ix2 n j)
    = score (m ((c.tc : Thread nD τ).loc main_arg0)) (m ((c.tc : Thread nD τ).loc main_arg1)) r h 1 n := by
  refine (scoresB_apply _ _ n j).trans (Finset.sum_congr (M := EReal) rfl fun d _ => congrArg₂ (· * ·) ?_ ?_)
  · exact in_k m c t h hh 1 n d
  · exact in_q m c t j _ r hr _ (by dsimp only [Fin.val_one]; omega)
end

/-- The three blocks the body leaves. -/
theorem outs_rows (c : Dev nD) (t : Fin cfg0.N) : (outsAt0 m c t).1
    = k0_pay277 (F := Ideal) (ids sides80 (bodyI (iblk m c 0 t) (iblk m c 1 t)) (bodyS (iblk m c 0 t) (iblk m c 1 t))) := by
  unfold outsAt0
  dsimp only
  exact out_2 (F := Ideal) c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t)

theorem outs_weights (c : Dev nD) (t : Fin cfg0.N) : (outsAt0 m c t).2.1
    = k0_pay276 (F := Ideal) (k0_pay274 (tops sides80 (bodyS (iblk m c 0 t) (iblk m c 1 t))))
        (k0_pay275 (tops sides80 (bodyS (iblk m c 0 t) (iblk m c 1 t)))) := by
  unfold outsAt0
  dsimp only
  exact out_3 (F := Ideal) c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t)

theorem outs_halves (c : Dev nD) (t : Fin cfg0.N) : (outsAt0 m c t).2.2
    = k0_pay1 (F := Ideal) (k0_pay278 (ids sides80 (bodyI (iblk m c 0 t) (iblk m c 1 t)) (bodyS (iblk m c 0 t) (iblk m c 1 t)))) := by
  unfold outsAt0
  dsimp only
  exact out_4 (F := Ideal) c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t)

section
variable (c : Dev nD) (hfin : ∀ t h p n,
  score (m ((c.tc : Thread nD τ).loc main_arg0)) (m ((c.tc : Thread nD τ).loc main_arg1)) t h p n ≠ ⊥)
include hfin

/-- The first result array is the rows. -/
theorem value_rows : (dats m 0 c).arrAt 2 cfg0.N
    = rowsOut (m ((c.tc : Thread nD τ).loc main_arg0)) (m ((c.tc : Thread nD τ).loc main_arg1)) := by
  refine (dats m 0 c).arrAt_eq_of_covers 2 _ (by decide +kernel) fun t hf y => ?_
  blk_simp
  rw [after0_2, outs_rows]
  idx_vars y
  obtain rfl : y0 = 0 := Subsingleton.elim _ _
  have hN : cfg0.N = 1024 := N_0
  have ht : t.val < 1024 := hN ▸ t.isLt
  have e : ((View.whole main_v2_0).slice (win0_2.rect t)).emb (ix3 0 y1 y2)
      = ix3 (⟨t.val % 8, by omega⟩ : Fin 8) y1 (⟨256 * (t.val / 8) + y2.val, by omega⟩ : Fin 32768) := by
    obtain ⟨-, -, e, -⟩ := idx_in t
    blk_ext [e]
  rw [e]
  exact block_rows _ _ y2 _ _ (scoreA m c t y2 _ rfl _ rfl) (scoreB m c t y2 _ rfl _ rfl) (hfin _ _ _) (hfin _ _ _) y1

/-- The second is the weights. -/
theorem value_weights : (dats m 0 c).arrAt 3 cfg0.N
    = weightsOut (m ((c.tc : Thread nD τ).loc main_arg0)) (m ((c.tc : Thread nD τ).loc main_arg1)) := by
  refine (dats m 0 c).arrAt_eq_of_covers 3 _ (by decide +kernel) fun t hf y => ?_
  blk_simp
  rw [after0_3, outs_weights]
  idx_vars y
  obtain rfl : y0 = 0 := Subsingleton.elim _ _
  have hN : cfg0.N = 1024 := N_0
  have ht : t.val < 1024 := hN ▸ t.isLt
  have e : ((View.whole main_v2_1).slice (win0_3.rect t)).emb (ix3 0 y1 y2)
      = ix3 (⟨t.val % 8, by omega⟩ : Fin 8) y1 (⟨256 * (t.val / 8) + y2.val, by omega⟩ : Fin 32768) := by
    obtain ⟨-, -, -, e, -⟩ := idx_in t
    blk_ext [e]
  rw [e]
  exact block_weights _ _ y2 _ _ (scoreA m c t y2 _ rfl _ rfl) (scoreB m c t y2 _ rfl _ rfl) (hfin _ _ _) (hfin _ _ _) y1

/-- The third is the halves. -/
theorem value_halves : (dats m 0 c).arrAt 4 cfg0.N
    = halvesOut (m ((c.tc : Thread nD τ).loc main_arg0)) (m ((c.tc : Thread nD τ).loc main_arg1)) := by
  refine (dats m 0 c).arrAt_eq_of_covers 4 _ (by decide +kernel) fun t hf y => ?_
  blk_simp
  rw [after0_4, outs_halves]
  idx_vars y
  obtain rfl : y0 = 0 := Subsingleton.elim _ _
  have hN : cfg0.N = 1024 := N_0
  have ht : t.val < 1024 := hN ▸ t.isLt
  have e : ((View.whole main_v2_2).slice (win0_4.rect t)).emb (ix3 0 y1 y2)
      = ix3 (⟨t.val % 8, by omega⟩ : Fin 8) y1 (⟨256 * (t.val / 8) + y2.val, by omega⟩ : Fin 32768) := by
    obtain ⟨-, -, -, -, e⟩ := idx_in t
    blk_ext [e]
  rw [e]
  exact block_halves _ _ y2 _ _ (scoreA m c t y2 _ rfl _ rfl) (scoreB m c t y2 _ rfl _ rfl) (hfin _ _ _) (hfin _ _ _) y1
end

/-- The kernel's run: its results are the picked experts' rows, weights and halves, and its arguments are left as they
    were. -/
theorem run (hfin : ∀ (c : Dev nD) t h p n,
      score (m ((c.tc : Thread nD τ).loc main_arg0)) (m ((c.tc : Thread nD τ).loc main_arg1)) t h p n ≠ ⊥) :
    θ_run defs (onTc (τ := τ) (main (F := Ideal))) ⟨m, fun _ => 0, ρ⟩ fun r => ∀ c : Dev nD,
      r.2.mem ((c.tc : Thread nD τ).loc main_v2_0)
        = rowsOut (m ((c.tc : Thread nD τ).loc main_arg0)) (m ((c.tc : Thread nD τ).loc main_arg1))
      ∧ r.2.mem ((c.tc : Thread nD τ).loc main_v2_1)
        = weightsOut (m ((c.tc : Thread nD τ).loc main_arg0)) (m ((c.tc : Thread nD τ).loc main_arg1))
      ∧ r.2.mem ((c.tc : Thread nD τ).loc main_v2_2)
        = halvesOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_rows m c (hfin c)), (h c).2.1.trans (value_weights m c (hfin c)),
    (h c).2.2.1.trans (value_halves m c (hfin c)), (h c).2.2.2⟩) (Value.run_blocks m ρ)

end Cert.Kernel5Ideal.Route

end
-- ==== Proof.RouteSort.lean ====
/-
  Program 5, the reference's selections: the sixteen greatest along the last axis, and the look-up along it, at an
  element.
-/
module

public import proofs.«01_k».proof.Proof.RouteSpec
public import proofs.«01_k».proof.Proof.Gen.Reference5Ideal.Run

@[expose] public section

set_option maxRecDepth 16384

noncomputable section

open Idealize.ShloMosaic Idealize.ShloMosaic.TcCoe Idealize.SL.Sem

namespace Cert.Reference5Ideal.Route

open Cert.Reference5Ideal Cert.Reference5Ideal.Gen Cert.Route

section
variable {N : ℕ} (hN : 16 ≤ N) (x : FVec Ideal (⟨3, ![32768, 8, N]⟩ : Shape) .f32)
  (hs : (⟨3, ![32768, 8, N]⟩ : Shape).Slices (fun _ => 0) S32768x8x16) (t : Fin 32768) (h : Fin 8) (r : Fin 16)

/-- One row of an array by head and token. -/
def fiber (n : Fin N) : EReal := x (ix3 t h n)

theorem along_eq (n k : Fin N) : (ix3 t h n : (⟨3, ![32768, 8, N]⟩ : Shape).Idx).along (2 : Fin 3) k = ix3 t h k := by
  funext a
  match a with
  | 0 => rfl
  | 1 => rfl
  | 2 => rfl

theorem before_eq (a b : EReal) : (FloatOps.cmpfTotal (F := Ideal) (φ := .f32) .gt a b == 1#1) = decide (b < a) := by
  show (BitVec.ofBool (decide (b < a)) == 1#1) = _
  cases decide (b < a) <;> rfl

theorem slice_eq {α : Type} (y : (⟨3, ![32768, 8, N]⟩ : Shape).Idx → α) :
    extractStridedSlice S32768x8x16 (fun _ => 0) y hs (ix3 t h r) = y (ix3 t h (r.castLE hN)) := by
  refine congrArg y (funext fun a => Fin.ext ?_)
  match a with
  | 0 => exact Nat.zero_add _
  | 1 => exact Nat.zero_add _
  | 2 => exact Nat.zero_add _

theorem sorted_eq (n : Fin N) : sortedFrom (fun k k' => FloatOps.cmpfTotal (F := Ideal) (φ := .f32) .gt
      (x ((ix3 t h n : (⟨3, ![32768, 8, N]⟩ : Shape).Idx).along (2 : Fin 3) k)) (x ((ix3 t h n : (⟨3, ![32768, 8, N]⟩ : Shape).Idx).along (2 : Fin 3) k')) == 1#1) n
    = sortedFrom (fun a b => decide (fiber x t h b < fiber x t h a)) n :=
  congrArg (fun f => sortedFrom f n) (funext fun a => funext fun b => (before_eq _ _).trans
    (congrArg₂ (fun u v => decide ((x u : EReal) < x v)) (along_eq t h n b) (along_eq t h n a)))

/-- The sixteen greatest of a row. -/
theorem values_apply : (Host.topK S32768x8x16 2 (FloatOps.cmpfTotal (F := Ideal) (φ := .f32) .gt) x hs).1 (ix3 t h r)
    = fiber x t h (best (fiber x t h) hN r) := by
  unfold Host.topK
  dsimp only
  rw [slice_eq hN hs t h r]
  show x (Shape.Idx.along _ _ _) = _
  refine (congrArg x (along_eq t h _ _)).trans ?_
  exact congrArg (fun k => x (ix3 t h k)) (sorted_eq x t h (r.castLE hN))

/-- Their places. -/
theorem places_apply : (Host.topK S32768x8x16 2 (FloatOps.cmpfTotal (F := Ideal) (φ := .f32) .gt) x hs).2 (ix3 t h r)
    = BitVec.ofNat 32 (best (fiber x t h) hN r).val := by
  unfold Host.topK
  dsimp only
  rw [slice_eq hN hs t h r]
  exact congrArg (fun k : Fin N => BitVec.ofNat 32 k.val) (sorted_eq x t h (r.castLE hN))
end

/-- The look-up along the last axis at an element, the place held inside the row. -/
theorem gather_apply (x : IVec S32768x8x256 32) (idx : IVec S32768x8x16x1 32) (t : Fin 32768) (h : Fin 8) (r : Fin 16) :
    Host.gather gather_S32768x8x256_S32768x8x16x1_S32768x8x16_n_2_01_01_2_3_111 x idx (ix3 t h r)
      = x (ix3 t h ⟨min (idx (ix4 t h r 0)).toInt.toNat 255, by omega⟩) := by
  unfold Host.gather
  refine congrArg x (funext fun a => Fin.ext ?_)
  have hi : gather_S32768x8x256_S32768x8x16x1_S32768x8x16_n_2_01_01_2_3_111.siIdx (ix3 t h r)
      ⟨0, by decide⟩ = ix4 t h r 0 := by
    funext b
    match b with
    | 0 => rfl
    | 1 => rfl
    | 2 => rfl
    | 3 => rfl
  match a with
  | 0 =>
    show GatherDims.start _ _ idx 0 + GatherDims.batchCoord _ _ 0 + GatherDims.offCoord _ _ 0 = t.val
    rw [GatherDims.start_batching _ _ _ _ (by decide),
      GatherDims.offCoord_eq_zero _ _ _ (fun h => ((GatherDims.mem_sKept _ _).mp h).2 (by decide)), Nat.zero_add]
    rfl
  | 1 =>
    show GatherDims.start _ _ idx 1 + GatherDims.batchCoord _ _ 1 + GatherDims.offCoord _ _ 1 = h.val
    rw [GatherDims.start_batching _ _ _ _ (by decide),
      GatherDims.offCoord_eq_zero _ _ _ (fun h => ((GatherDims.mem_sKept _ _).mp h).2 (by decide)), Nat.zero_add]
    rfl
  | 2 =>
    show GatherDims.start _ _ idx 2 + GatherDims.batchCoord _ _ 2 + GatherDims.offCoord _ _ 2 = _
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (2 : Fin 3) ∈ gather_S32768x8x256_S32768x8x16x1_S32768x8x16_n_2_01_01_2_3_111.startIndexMap from
      List.mem_singleton.mpr rfl)]
    exact congrArg (fun v => min (idx v).toInt.toNat 255) hi

end Cert.Reference5Ideal.Route

end
-- ==== Proof.RouteRef.lean ====
/-
  Program 5, the reference at an element: its scores, the two lists of sixteen, their 256 sums, the sixteen picked and
  what it makes of them are those of RouteSpec.
-/
module

public import proofs.«01_k».proof.Proof.RouteSort
public import proofs.«01_k».proof.Proof.RouteWords

@[expose] public section

set_option maxRecDepth 16384

noncomputable section

open Idealize.ShloMosaic Idealize.ShloMosaic.TcCoe Idealize.SL.Sem

namespace Cert.Reference5Ideal.Route

open Cert.Reference5Ideal Cert.Reference5Ideal.Gen Cert.Route

variable (Q : FVec Ideal S32768x2048 .f32) (K : FVec Ideal S1x8x2x128x128 .f32)

/-- All scores. -/
def scoresH : FVec Ideal S32768x8x2x128 .f32 :=
  transpose S32768x8x2x128 [3, 0, 1, 2] (Host.dotGeneral dot_S8x2x128x128_S32768x8x2x128_S8x2x128x32768_3_3_2_0_01_12 none
    (shapeCast _ K shapeCasts_S1x8x2x128x128_S8x2x128x128) (shapeCast _ Q shapeCasts_S32768x2048_S32768x8x2x128))
    transposes_S8x2x128x32768_S32768x8x2x128_3_0_1_2

/-- Those of the first half of the query. -/
def firstH : FVec Ideal S32768x8x128 .f32 :=
  shapeCast _ (extractStridedSlice S32768x8x1x128 ![0, 0, 0, 0] (scoresH Q K) slices_S32768x8x2x128_S32768x8x1x128_0_0_0_0)
    shapeCasts_S32768x8x1x128_S32768x8x128

/-- Those of the second half. -/
def secondH : FVec Ideal S32768x8x128 .f32 :=
  shapeCast _ (extractStridedSlice S32768x8x1x128 ![0, 0, 1, 0] (scoresH Q K) slices_S32768x8x2x128_S32768x8x1x128_0_0_1_0)
    shapeCasts_S32768x8x1x128_S32768x8x128

/-- The sixteen greatest of 128, and their places. -/
def listH (x : FVec Ideal S32768x8x128 .f32) : FVec Ideal S32768x8x16 .f32 × IVec S32768x8x16 32 :=
  Host.topK S32768x8x16 2 (FloatOps.cmpfTotal .gt) x sliceFits_S32768x8x128_S32768x8x16

/-- The sums of two lists. -/
def sumsH (v w : FVec Ideal S32768x8x16 .f32) : FVec Ideal S32768x8x256 .f32 :=
  shapeCast _ (addf (broadcastInDim S32768x8x16x16 ![0, 1, 2, 3] bcast_S32768x8x16x1_S32768x8x16x16_0_1_2_3
      (broadcastInDim S32768x8x16x1 ![0, 1, 2] bcast_S32768x8x16_S32768x8x16x1_0_1_2 v))
    (broadcastInDim S32768x8x16x16 ![0, 1, 2, 3] bcast_S32768x8x1x16_S32768x8x16x16_0_1_2_3
      (broadcastInDim S32768x8x1x16 ![0, 1, 3] bcast_S32768x8x16_S32768x8x1x16_0_1_3 w))) shapeCasts_S32768x8x16x16_S32768x8x256

/-- The numbers of their experts. -/
def numsH (v w : IVec S32768x8x16 32) : IVec S32768x8x256 32 :=
  shapeCast _ (addi (broadcastInDim S32768x8x16x16 ![0, 1, 2, 3] bcast_S32768x8x16x1_S32768x8x16x16_0_1_2_3
      (muli (broadcastInDim S32768x8x16x1 ![0, 1, 2] bcast_S32768x8x16_S32768x8x16x1_0_1_2 v)
        (broadcastInDim S32768x8x16x1 ![] bcast_S_S32768x8x16x1 (constantI S_ 32 128#32))))
    (broadcastInDim S32768x8x16x16 ![0, 1, 2, 3] bcast_S32768x8x1x16_S32768x8x16x16_0_1_2_3
      (broadcastInDim S32768x8x1x16 ![0, 1, 3] bcast_S32768x8x16_S32768x8x1x16_0_1_3 w))) shapeCasts_S32768x8x16x16_S32768x8x256

/-- The sixteen greatest of 256, and their places. -/
def pickH (x : FVec Ideal S32768x8x256 .f32) : FVec Ideal S32768x8x16 .f32 × IVec S32768x8x16 32 :=
  Host.topK S32768x8x16 2 (FloatOps.cmpfTotal .gt) x sliceFits_S32768x8x256_S32768x8x16

/-- A place, a negative one counted from the end. -/
def startsH (p : IVec S32768x8x16 32) : IVec S32768x8x16x1 32 :=
  shapeCast _ (select (cmpi .slt p (broadcastInDim S32768x8x16 ![] bcast_S_S32768x8x16 (constantI S_ 32 0#32)))
    (addi p (broadcastInDim S32768x8x16 ![] bcast_S_S32768x8x16 (constantI S_ 32 256#32))) p) shapeCasts_S32768x8x16_S32768x8x16x1

/-- The experts' numbers. -/
def expertsH : IVec S32768x8x16 32 :=
  Host.gather gather_S32768x8x256_S32768x8x16x1_S32768x8x16_n_2_01_01_2_3_111 (numsH (listH (firstH Q K)).2 (listH (secondH Q K)).2)
    (startsH (pickH (sumsH (listH (firstH Q K)).1 (listH (secondH Q K)).1)).2)

/-- The greatest of sixteen. -/
def greatestH (s : FVec Ideal S32768x8x16 .f32) : FVec Ideal S32768x8 .f32 :=
  maximumf (broadcastInDim S32768x8 ![] bcast_S_S32768x8 (constant S_ .f32 0xFF800000#32))
    (Host.reduce FloatOps.maximumf s (constant S_ .f32 0xFF800000#32) reducesTo_S32768x8x16_S32768x8_d2 h_S_)

/-- The exponentials of sixteen values less the greatest. -/
def expsH (s : FVec Ideal S32768x8x16 .f32) : FVec Ideal S32768x8x16 .f32 :=
  Host.exp (subf s (broadcastInDim S32768x8x16 ![0, 1, 2] bcast_S32768x8x1_S32768x8x16_0_1_2
    (broadcastInDim S32768x8x1 ![0, 1] bcast_S32768x8_S32768x8x1_0_1 (greatestH s))))

/-- Their shares of their sum. -/
def sharesH (e : FVec Ideal S32768x8x16 .f32) : FVec Ideal S32768x8x16 .f32 :=
  Host.divf e (broadcastInDim S32768x8x16 ![0, 1, 2] bcast_S32768x8x1_S32768x8x16_0_1_2
    (broadcastInDim S32768x8x1 ![0, 1] bcast_S32768x8_S32768x8x1_0_1
      (Host.reduceAdd e (constant S_ .f32 0x00000000#32) reducesTo_S32768x8x16_S32768x8_d2 h_S_)))

variable (t : Fin 32768) (h : Fin 8) (r : Fin 16)

theorem first_apply (n : Fin 128) : firstH Q K (ix3 t h n) = score Q K t h 0 n := by
  unfold score
  pointwise [firstH, scoresH]
  simp only [Nat.mul_comm 256]

theorem second_apply (n : Fin 128) : secondH Q K (ix3 t h n) = score Q K t h 1 n := by
  unfold score
  pointwise [secondH, scoresH]
  simp only [Nat.mul_comm 256]

theorem sums_apply (v w : FVec Ideal S32768x8x16 .f32) (u : Fin 256) :
    sumsH v w (ix3 t h u) = v (ix3 t h (left u)) + w (ix3 t h (right u)) := by
  unfold left right
  pointwise [sumsH]

theorem nums_apply (v w : IVec S32768x8x16 32) (u : Fin 256) :
    numsH v w (ix3 t h u) = v (ix3 t h (left u)) * 128#32 + w (ix3 t h (right u)) := by
  unfold left right
  pointwise [numsH]
  rfl

theorem starts_apply (p : IVec S32768x8x16 32) : startsH p (ix4 t h r 0)
    = if IntOp.cmpi .slt (p (ix3 t h r)) 0#32 = 1#1 then p (ix3 t h r) + 256#32 else p (ix3 t h r) := by
  pointwise [startsH]
  rfl

theorem exps_apply (s : FVec Ideal S32768x8x16 .f32) :
    expsH s (ix3 t h r) = Ideal.exp (s (ix3 t h r) - greatestH s (ix2 t h)) := by
  pointwise [expsH]

theorem shares_apply (e : FVec Ideal S32768x8x16 .f32) :
    sharesH e (ix3 t h r) = Ideal.div (e (ix3 t h r)) (∑ q : Fin 16, e (ix3 t h q)) := by
  pointwise [sharesH]

theorem lift_eq (hr : S32768x8x16.Reduces [2] S32768x8) (q : Fin 16) : hr.lift (ix2 t h) q = ix3 t h q := by
  funext c
  apply Fin.ext
  fin_cases c <;> rfl

/-- A maximum over the last axis is the fold over its sixteen entries. -/
theorem max_apply (s : FVec Ideal S32768x8x16 .f32) (init : FVec Ideal S_ .f32) :
    Host.reduce FloatOps.maximumf s init reducesTo_S32768x8x16_S32768x8_d2 h_S_ (ix2 t h)
      = (Finset.univ : Finset (Fin 16)).fold max (init (Shape.Idx.first h_S_)) fun q => s (ix3 t h q) := by
  have hr : S32768x8x16.Reduces [2] S32768x8 := by decide
  rw [Host.reduce_eq_fold_single FloatOps.maximumf s init _ hr h_S_]
  have hf : s ∘ hr.lift (ix2 t h) = fun q : Fin 16 => s (ix3 t h q) := funext fun q => congrArg s (lift_eq t h hr q)
  exact congrArg (fun f => Finset.fold (max : EReal → EReal → EReal) (init (Shape.Idx.first h_S_)) f (Finset.univ : Finset (Fin 16))) hf

theorem maximumf_at {s : Shape} (a b : FVec Ideal s .f32) (i : s.Idx) : maximumf a b i = max (a i) (b i) := rfl

theorem fold_first (b : EReal) (f : Fin 16 → EReal) (hb : b = ⊥) (hle : ∀ q, f q ≤ f 0) :
    max b ((Finset.univ : Finset (Fin 16)).fold max b f) = f 0 := by
  subst hb
  exact le_antisymm (max_le bot_le ((Finset.fold_max_le _).2 ⟨bot_le, fun q _ => hle q⟩))
    (le_max_of_le_right ((Finset.le_fold_max _).2 (Or.inr ⟨0, Finset.mem_univ _, le_rfl⟩)))

theorem low_at : broadcastInDim S32768x8 ![] bcast_S_S32768x8 (constant (F := Ideal) S_ .f32 0xFF800000#32) (ix2 t h)
    = (constant (F := Ideal) S_ .f32 0xFF800000#32) (Shape.Idx.first h_S_) := rfl

theorem low_eq : (constant (F := Ideal) S_ .f32 0xFF800000#32) (Shape.Idx.first h_S_) = (⊥ : EReal) := by
  have b : Ideal.ofBits .f32 0xFF800000#32 = ⊥ := by simp [Ideal.ofBits, Ideal.ieee]
  exact b

/-- The greatest of sixteen is the first, if none of them is greater. -/
theorem greatest_apply (s : FVec Ideal S32768x8x16 .f32) (hle : ∀ q, s (ix3 t h q) ≤ s (ix3 t h 0)) :
    greatestH s (ix2 t h) = s (ix3 t h 0) := by
  unfold greatestH
  exact (maximumf_at _ _ _).trans ((congrArg₂ max (low_at t h) (max_apply t h s _)).trans
    (fold_first _ (fun q => s (ix3 t h q)) low_eq hle))

end Cert.Reference5Ideal.Route

end
-- ==== Proof.RouteRefEq.lean ====
/-
  Program 5, the reference's arrays: what each head picks for each token.
-/
module

public import proofs.«01_k».proof.Proof.RouteRef

@[expose] public section

set_option maxRecDepth 16384

noncomputable section

open Idealize.ShloMosaic Idealize.ShloMosaic.TcCoe Idealize.SL.Sem

namespace Cert.Reference5Ideal.Route

open Cert.Reference5Ideal Cert.Reference5Ideal.Gen Cert.Route

section
variable (Q : FVec Ideal S32768x2048 .f32) (K : FVec Ideal S1x8x2x128x128 .f32) (t : Fin 32768) (h : Fin 8) (r : Fin 16)

theorem fiber_first : fiber (firstH Q K) t h = score Q K t h 0 := funext (first_apply Q K t h)

theorem fiber_second : fiber (secondH Q K) t h = score Q K t h 1 := funext (second_apply Q K t h)

/-- The two lists and their places. -/
theorem list_first : (listH (firstH Q K)).1 (ix3 t h r) = kth (score Q K t h 0) r := by
  unfold kth listH
  refine (values_apply (by decide) (firstH Q K) _ t h r).trans ?_
  rw [fiber_first]

theorem list_second : (listH (secondH Q K)).1 (ix3 t h r) = kth (score Q K t h 1) r := by
  unfold kth listH
  refine (values_apply (by decide) (secondH Q K) _ t h r).trans ?_
  rw [fiber_second]

theorem place_first : (listH (firstH Q K)).2 (ix3 t h r) = BitVec.ofNat 32 (best (score Q K t h 0) (by decide) r).val :=
  (places_apply (by decide) (firstH Q K) _ t h r).trans
    (congrArg (fun f => BitVec.ofNat 32 (best f (by decide) r).val) (fiber_first Q K t h))

theorem place_second : (listH (secondH Q K)).2 (ix3 t h r) = BitVec.ofNat 32 (best (score Q K t h 1) (by decide) r).val :=
  (places_apply (by decide) (secondH Q K) _ t h r).trans
    (congrArg (fun f => BitVec.ofNat 32 (best f (by decide) r).val) (fiber_second Q K t h))

/-- Their sums. -/
def allH : FVec Ideal S32768x8x256 .f32 := sumsH (listH (firstH Q K)).1 (listH (secondH Q K)).1

theorem fiber_all : fiber (allH Q K) t h = pairs (score Q K t h 0) (score Q K t h 1) :=
  funext fun u => (sums_apply t h _ _ u).trans (congrArg₂ (· + ·) (list_first Q K t h (left u)) (list_second Q K t h (right u)))

/-- The picked sums and their places. -/
theorem pick_value : (pickH (allH Q K)).1 (ix3 t h r) = picked (score Q K t h 0) (score Q K t h 1) r :=
  (values_apply (by decide) (allH Q K) _ t h r).trans (congrArg (fun f => f (best f (by decide) r)) (fiber_all Q K t h))

theorem pick_place : (pickH (allH Q K)).2 (ix3 t h r) = BitVec.ofNat 32 (pick (score Q K t h 0) (score Q K t h 1) r).val :=
  (places_apply (by decide) (allH Q K) _ t h r).trans
    (congrArg (fun f => BitVec.ofNat 32 (best f (by decide) r).val) (fiber_all Q K t h))

/-- A place below 256 is read as itself. -/
theorem starts_of (p : IVec S32768x8x16 32) (n : ℕ) (hn : n < 256) (hp : p (ix3 t h r) = BitVec.ofNat 32 n) :
    startsH p (ix4 t h r 0) = BitVec.ofNat 32 n := by
  have hs : BitVec.slt (BitVec.ofNat 32 n) 0#32 = false := by
    unfold BitVec.slt
    rw [word_int n (by omega)]
    simp
  have hc : ¬ IntOp.cmpi .slt (BitVec.ofNat 32 n) 0#32 = 1#1 := by
    show ¬ BitVec.ofBool (BitVec.slt (BitVec.ofNat 32 n) 0#32) = 1#1
    rw [hs]
    decide
  rw [starts_apply, hp, if_neg hc]

/-- The picked experts' numbers. -/
theorem expert_apply : expertsH Q K (ix3 t h r) = BitVec.ofNat 32 (expert (score Q K t h 0) (score Q K t h 1) r) := by
  have hu : (pick (score Q K t h 0) (score Q K t h 1) r).val < 256 := (pick (score Q K t h 0) (score Q K t h 1) r).isLt
  have hst := starts_of t h r (pickH (allH Q K)).2 _ hu (pick_place Q K t h r)
  refine (gather_apply _ _ t h r).trans ?_
  have hi : (⟨min (startsH (pickH (allH Q K)).2 (ix4 t h r 0)).toInt.toNat 255, by omega⟩ : Fin 256)
      = pick (score Q K t h 0) (score Q K t h 1) r := by
    apply Fin.ext
    show min (startsH (pickH (allH Q K)).2 (ix4 t h r 0)).toInt.toNat 255 = _
    rw [hst, word_int _ (by omega)]
    omega
  refine (congrArg (fun u => numsH (listH (firstH Q K)).2 (listH (secondH Q K)).2 (ix3 t h u)) hi).trans ?_
  refine (nums_apply t h _ _ _).trans ?_
  rw [place_first, place_second]
  unfold expert
  rw [BitVec.ofNat_add, BitVec.ofNat_mul]

/-- The three results before their transposes. -/
def rowsH (e : IVec S32768x8x16 32) : IVec S8x16x32768 32 :=
  transpose S8x16x32768 [1, 2, 0] (muli (Host.divsi e (broadcastInDim S32768x8x16 ![] bcast_S_S32768x8x16 (constantI S_ 32 2#32)))
    (broadcastInDim S32768x8x16 ![] bcast_S_S32768x8x16 (constantI S_ 32 8#32))) transposes_S32768x8x16_S8x16x32768_1_2_0

def halvesH (e : IVec S32768x8x16 32) : FVec Ideal S8x16x32768 .f32 :=
  transpose S8x16x32768 [1, 2, 0] (sitofp .f32 (Host.remsi e (broadcastInDim S32768x8x16 ![] bcast_S_S32768x8x16 (constantI S_ 32 2#32))))
    transposes_S32768x8x16_S8x16x32768_1_2_0

def weightsH (w : FVec Ideal S32768x8x16 .f32) : FVec Ideal S8x16x32768 .f32 :=
  transpose S8x16x32768 [1, 2, 0] w transposes_S32768x8x16_S8x16x32768_1_2_0

theorem turn_apply {α : Type} (w : S32768x8x16.Idx → α) :
    transpose S8x16x32768 [1, 2, 0] w transposes_S32768x8x16_S8x16x32768_1_2_0 (ix3 h r t) = w (ix3 t h r) := by
  pointwise

theorem rows_at (e : IVec S32768x8x16 32) : rowsH e (ix3 h r t) = IntOp.muli (IntOp.divsi .host (e (ix3 t h r)) 2#32) 8#32 :=
  (turn_apply t h r _).trans rfl

theorem halves_at (e : IVec S32768x8x16 32) : halvesH e (ix3 h r t)
    = (((IntOp.remsi .host (e (ix3 t h r)) 2#32).toInt : ℝ) : EReal) :=
  (turn_apply t h r _).trans rfl

theorem rows_apply : rowsH (expertsH Q K) (ix3 h r t) = rowOf (score Q K t h 0) (score Q K t h 1) r := by
  rw [rows_at, expert_apply, div_word _ (expert_lt _ _ _)]
  rfl

theorem halves_apply : halvesH (expertsH Q K) (ix3 h r t) = halfOf (score Q K t h 0) (score Q K t h 1) r := by
  rw [halves_at, expert_apply, rem_word _ (expert_lt _ _ _)]
  unfold halfOf
  push_cast
  rfl

theorem weights_apply : weightsH (sharesH (expsH (pickH (allH Q K)).1)) (ix3 h r t)
    = weightOf (score Q K t h 0) (score Q K t h 1) r := by
  have hg : greatestH (pickH (allH Q K)).1 (ix2 t h) = picked (score Q K t h 0) (score Q K t h 1) 0 :=
    (greatest_apply t h _ fun q => by rw [pick_value, pick_value]; exact picked_le _ _ q).trans (pick_value Q K t h 0)
  have he : ∀ q, expsH (pickH (allH Q K)).1 (ix3 t h q) = Ideal.exp (picked (score Q K t h 0) (score Q K t h 1) q
      - picked (score Q K t h 0) (score Q K t h 1) 0) := fun q => by
    rw [exps_apply, hg, pick_value]
  refine (turn_apply t h r _).trans ((shares_apply t h r _).trans ?_)
  unfold weightOf
  rw [he]
  exact congrArg (Ideal.div _) (Finset.sum_congr (M := EReal) rfl fun q _ => he q)
end

variable (m : (ℓ : Loc nD τ sig) → Buf (Elt Ideal) ℓ) (ρ : Dev nD → PrngReg)

theorem value_rows (c : Dev nD) : Value.res_main_v41 m c
    = rowsOut (m ((c.tc : Thread nD τ).loc main_arg0)) (m ((c.tc : Thread nD τ).loc main_arg1)) := by
  have e : Value.res_main_v41 m c = rowsH (expertsH (m ((c.tc : Thread nD τ).loc main_arg0)) (m ((c.tc : Thread nD τ).loc main_arg1))) := rfl
  rw [e]
  funext i
  idx_vars i
  exact rows_apply _ _ i2 i0 i1

theorem value_weights (c : Dev nD) : Value.res_main_v42 m c
    = weightsOut (m ((c.tc : Thread nD τ).loc main_arg0)) (m ((c.tc : Thread nD τ).loc main_arg1)) := by
  have e : Value.res_main_v42 m c = weightsH (sharesH (expsH (pickH (allH (m ((c.tc : Thread nD τ).loc main_arg0))
    (m ((c.tc : Thread nD τ).loc main_arg1)))).1)) := rfl
  rw [e]
  funext i
  idx_vars i
  exact weights_apply _ _ i2 i0 i1

theorem value_halves (c : Dev nD) : Value.res_main_v43 m c
    = halvesOut (m ((c.tc : Thread nD τ).loc main_arg0)) (m ((c.tc : Thread nD τ).loc main_arg1)) := by
  have e : Value.res_main_v43 m c = halvesH (expertsH (m ((c.tc : Thread nD τ).loc main_arg0)) (m ((c.tc : Thread nD τ).loc main_arg1))) := rfl
  rw [e]
  funext i
  idx_vars i
  exact halves_apply _ _ i2 i0 i1

/-- The reference's run: its results are the picked experts' rows, weights and halves, and its arguments are left as
    they were. -/
theorem run : θ_run defs (onTc (τ := τ) (main (F := Ideal))) ⟨m, fun _ => 0, ρ⟩ fun r => ∀ c : Dev nD,
      r.2.mem ((c.tc : Thread nD τ).loc main_v41)
        = rowsOut (m ((c.tc : Thread nD τ).loc main_arg0)) (m ((c.tc : Thread nD τ).loc main_arg1))
      ∧ r.2.mem ((c.tc : Thread nD τ).loc main_v42)
        = weightsOut (m ((c.tc : Thread nD τ).loc main_arg0)) (m ((c.tc : Thread nD τ).loc main_arg1))
      ∧ r.2.mem ((c.tc : Thread nD τ).loc main_v43)
        = halvesOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_rows m c), (h c).2.1.trans (value_weights m c),
    (h c).2.2.1.trans (value_halves m c), (h c).2.2.2⟩) (Value.run m ρ)

end Cert.Reference5Ideal.Route

end
-- ==== Proof.RouteClaims.lean ====
/-
  Program 5, the claims: the frames of the search for the best experts and its equality with the reference.
-/
module

public import proofs.«01_k».proof.Proof.RoutePre
public import proofs.«01_k».proof.Proof.RouteKernel
public import proofs.«01_k».proof.Proof.RouteRefEq
public import proofs.«01_k».proof.Proof.Gen.Kernel5.Frame
public import proofs.«01_k».proof.Proof.Gen.Kernel5Ideal.Frame
public import proofs.«01_k».proof.Proof.Gen.Pre_queries_and_keys_finite
public import Idealize.ShloMosaic.Lib.Quiescent

@[expose] public section

noncomputable section

open Idealize.ShloMosaic Idealize.ShloMosaic.TcCoe Idealize.SL.Sem

namespace Cert.Proof.Route

/-- The kernel as compiled runs to its end, leaves its arguments as they were and every counter at zero. -/
theorem frame : Cert.quiescent_Kernel5 := fun m ρ _ => Cert.Kernel5.Gen.frame m ρ

/-- The same of the kernel over the extended reals. -/
theorem frame_ideal : Cert.quiescent_Kernel5Ideal := fun m ρ _ => Cert.Kernel5Ideal.Gen.frame m ρ

/-- The same under the precondition of the equality below. -/
theorem frame_ideal_finite : Cert.quiescent_Kernel5Ideal_pre_queries_and_keys_finite := fun m ρ _ =>
  Cert.Kernel5Ideal.Gen.frame m ρ

/-- The same of the reference, a host program, which declares no counter. -/
theorem frame_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Route.run m ρ)

/-- The same under the precondition of the equality below. -/
theorem frame_reference_finite : Cert.quiescent_Reference5Ideal_pre_queries_and_keys_finite := fun m ρ _ =>
  frame_reference m ρ trivial

/-- Over the extended reals, from arguments that agree, queries and keys real numbers, the kernel's three results and
    the reference's are the same arrays: for every head and token the sixteen best experts' rows, weights and halves. -/
theorem algebraic : Cert.algebraic_Kernel5Ideal_Reference5Ideal_pre_queries_and_keys_finite := by
  intro m ρ m' ρ' hpre hag
  refine ⟨fun c => Cert.Route.rowsOut (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    fun c => Cert.Route.weightsOut (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    fun c => Cert.Route.halvesOut (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    Cert.Kernel5Ideal.Route.run m ρ (fun c => Cert.Route.Pre.score_ne_bot _ _ (hpre c)), ?_⟩
  refine (θ_run Cert.Reference5Ideal.defs _ _).mono
    (fun _ h c => ⟨(h c).1.trans ?_, (h c).2.1.trans ?_, (h c).2.2.1.trans ?_, (h c).2.2.2⟩) (Cert.Reference5Ideal.Route.run m' ρ')
  all_goals
    obtain ⟨e0, e1⟩ := hag c
    rw [e0, e1]

end Cert.Proof.Route

end
-- ==== Proof.lean ====
module

public import proofs.«01_k».proof.Defs
public import proofs.«01_k».proof.Proof.PeerClaims
public import proofs.«01_k».proof.Proof.InProjClaims
public import proofs.«01_k».proof.Proof.MergeClaims
public import proofs.«01_k».proof.Proof.QueryClaims
public import proofs.«01_k».proof.Proof.RouteClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_experts_in_table.Gen.facts, Cert.Pre_experts_and_finite.Gen.facts, Cert.Pre_queries_and_keys_finite.Gen.facts,
    Peer.frame, Peer.frame_ideal, Peer.frame_ideal_finite, Peer.frame_reference, Peer.frame_reference_finite,
    InProj.frame, InProj.frame_ideal, InProj.frame_reference, Merge.frame, Merge.frame_ideal, Merge.frame_reference,
    Query.frame, Query.frame_ideal, Query.frame_reference,
    Route.frame, Route.frame_ideal, Route.frame_ideal_finite, Route.frame_reference, Route.frame_reference_finite,
    trivial, Peer.algebraic, trivial, InProj.algebraic, trivial, Merge.algebraic,
    trivial, Query.algebraic, trivial, Route.algebraic⟩

end Cert.Proof

end
